-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v15_0)) (v1 : (c : Dev Cert.InProjIdeal.nD) → Buf (Elt Ideal) ((c.tc : Thread Cert.InProjIdeal.nD Cert.InProjIdeal.τ).loc Cert.InProjIdeal.main_v15_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15_0) = v0 c
          ∧ r.2.mem ((c.tc : Thread Cert.InProjIdeal.nD Cert.InProjIdeal.τ).loc Cert.InProjIdeal.main_v15_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v57) = v0 c
          ∧ r.2.mem ((c.tc : Thread Cert.InProjReferenceIdeal.nD Cert.InProjReferenceIdeal.τ).loc Cert.InProjReferenceIdeal.main_v58) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v105) = v0 c
          ∧ r.2.mem ((c.tc : Thread Cert.MergeReferenceIdeal.nD Cert.MergeReferenceIdeal.τ).loc Cert.MergeReferenceIdeal.main_v107) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)) →
    ∃ (v0 : (c : Dev Cert.HeadsIdeal.nD) → Buf (Elt Ideal) ((c.tc : Thread Cert.HeadsIdeal.nD Cert.HeadsIdeal.τ).loc Cert.HeadsIdeal.main_v76_0)) (v1 : (c : Dev Cert.HeadsIdeal.nD) → Buf (Elt Ideal) ((c.tc : Thread Cert.HeadsIdeal.nD Cert.HeadsIdeal.τ).loc Cert.HeadsIdeal.main_v76_1)) (v2 : (c : Dev Cert.HeadsIdeal.nD) → Buf (Elt Ideal) ((c.tc : Thread Cert.HeadsIdeal.nD Cert.HeadsIdeal.τ).loc Cert.HeadsIdeal.main_v76_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v76_0) = v0 c
          ∧ r.2.mem ((c.tc : Thread Cert.HeadsIdeal.nD Cert.HeadsIdeal.τ).loc Cert.HeadsIdeal.main_v76_1) = v1 c
          ∧ r.2.mem ((c.tc : Thread Cert.HeadsIdeal.nD Cert.HeadsIdeal.τ).loc Cert.HeadsIdeal.main_v76_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v132) = v0 c
          ∧ r.2.mem ((c.tc : Thread Cert.HeadsReferenceIdeal.nD Cert.HeadsReferenceIdeal.τ).loc Cert.HeadsReferenceIdeal.main_v133) = v1 c
          ∧ r.2.mem ((c.tc : Thread Cert.HeadsReferenceIdeal.nD Cert.HeadsReferenceIdeal.τ).loc Cert.HeadsReferenceIdeal.main_v134) = v2 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hHeads : Cert.Heads.Facts) (hHeadsIdeal : Cert.HeadsIdeal.Facts) (hHeadsReferenceIdeal : Cert.HeadsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Heads_HeadsIdeal
    ∧ algebraic_HeadsIdeal_HeadsReferenceIdeal (hHeadsIdeal := hHeadsIdeal) (hHeadsReferenceIdeal := hHeadsReferenceIdeal)
-- ==== Pre_finite.lean ====
abbrev S2x8448x2048 : Shape := ⟨3, ![2, 8448, 2048]⟩
abbrev S2x8448x256 : Shape := ⟨3, ![2, 8448, 256]⟩
abbrev S_ : Shape := ⟨0, ![]⟩

class Facts : Prop where
  bcast_S_S2x8448x2048 : S_.BroadcastsInDim S2x8448x2048 (![] : Fin 0 → Fin S2x8448x2048.rank)
  reducesTo_S2x8448x2048_S_d0_1_2 : S2x8448x2048.ReducesTo [0, 1, 2] S_
  h_S_ : 0 < S_.numel
  bcast_S_S2x8448x256 : S_.BroadcastsInDim S2x8448x256 (![] : Fin 0 → Fin S2x8448x256.rank)
  reducesTo_S2x8448x256_S_d0_1_2 : S2x8448x256.ReducesTo [0, 1, 2] S_

variable [Facts]

def fn {F : FTy → Type} [FloatOps F] (main_arg0 : FVec F S2x8448x2048 .bf16) (main_arg1 : FVec F S2x8448x256 .bf16) : IVec S_ 1 :=
  let main_v0 : FVec F S2x8448x2048 .bf16 := Host.absf main_arg0
  let main_cst : FVec F S_ .bf16 := constant S_ .bf16 0x7F80#16
  let main_v1 : FVec F S2x8448x2048 .bf16 := broadcastInDim S2x8448x2048 ![] bcast_S_S2x8448x2048 main_cst
  let main_v2 : IVec S2x8448x2048 1 := cmpf .olt main_v0 main_v1
  let main_c : IVec S_ 1 := constantI S_ 1 1#1
  let main_v3 : IVec S_ 1 := (fun x v => Host.reduce IntOp.andi x v reducesTo_S2x8448x2048_S_d0_1_2 h_S_) main_v2 main_c
  let main_v4 : FVec F S2x8448x256 .bf16 := Host.absf main_arg1
  let main_cst_0 : FVec F S_ .bf16 := constant S_ .bf16 0x7F80#16
  let main_v5 : FVec F S2x8448x256 .bf16 := broadcastInDim S2x8448x256 ![] bcast_S_S2x8448x256 main_cst_0
  let main_v6 : IVec S2x8448x256 1 := cmpf .olt main_v4 main_v5
  let main_c_1 : IVec S_ 1 := constantI S_ 1 1#1
  let main_v7 : IVec S_ 1 := (fun x v => Host.reduce IntOp.andi x v reducesTo_S2x8448x256_S_d0_1_2 h_S_) main_v6 main_c_1
  let main_v8 : IVec S_ 1 := andi main_v3 main_v7
  main_v8
-- ==== Kernel.lean ====
abbrev S2x8448x2048 : Shape := ⟨3, ![2, 8448, 2048]⟩
abbrev S2x8448x256 : Shape := ⟨3, ![2, 8448, 256]⟩
abbrev S_ : Shape := ⟨0, ![]⟩
abbrev S2x8448x1 : Shape := ⟨3, ![2, 8448, 1]⟩
abbrev S2x8448x127 : Shape := ⟨3, ![2, 8448, 127]⟩
abbrev S2x8448x128 : Shape := ⟨3, ![2, 8448, 128]⟩
abbrev S2x8448x1024 : Shape := ⟨3, ![2, 8448, 1024]⟩
abbrev S1x128x2048 : Shape := ⟨3, ![1, 128, 2048]⟩
abbrev S1x8448x256 : Shape := ⟨3, ![1, 8448, 256]⟩
abbrev S1x128x1024 : Shape := ⟨3, ![1, 128, 1024]⟩
abbrev S1x1024x256 : Shape := ⟨3, ![1, 1024, 256]⟩
abbrev S1x1024x1 : Shape := ⟨3, ![1, 1024, 1]⟩
abbrev S1x1024x2048 : Shape := ⟨3, ![1, 1024, 2048]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩
abbrev S1024x256 : Shape := ⟨2, ![1024, 256]⟩
abbrev S1024x1 : Shape := ⟨2, ![1024, 1]⟩
abbrev S1024 : Shape := ⟨1, ![1024]⟩
abbrev S1x2048x256 : Shape := ⟨3, ![1, 2048, 256]⟩
abbrev S2048x256 : Shape := ⟨2, ![2048, 256]⟩
abbrev S1024x2048 : Shape := ⟨2, ![1024, 2048]⟩
abbrev S1024x128 : Shape := ⟨2, ![1024, 128]⟩
abbrev S128x128 : Shape := ⟨2, ![128, 128]⟩
abbrev S1x128x128 : Shape := ⟨3, ![1, 128, 128]⟩

abbrev nBuf : Space → Nat
  | .hbm => 10
  | .vmem => 14
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x256, .bf16⟩
  | .hbm, ⟨2, _⟩ => ⟨S_, .bf16⟩
  | .hbm, ⟨3, _⟩ => ⟨S2x8448x1, .bf16⟩
  | .hbm, ⟨4, _⟩ => ⟨S_, .bf16⟩
  | .hbm, ⟨5, _⟩ => ⟨S2x8448x127, .bf16⟩
  | .hbm, ⟨6, _⟩ => ⟨S2x8448x128, .bf16⟩
  | .hbm, ⟨7, _⟩ => ⟨S2x8448x128, .bf16⟩
  | .hbm, ⟨8, _⟩ => ⟨S2x8448x256, .bf16⟩
  | .hbm, ⟨9, _⟩ => ⟨S2x8448x1024, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x256, .bf16⟩
  | .local _ .vmem, ⟨9, _⟩ => ⟨S1x1024x1, .f32⟩
  | .local _ .vmem, ⟨10, _⟩ => ⟨S1x1024x256, .f32⟩
  | .local _ .vmem, ⟨11, _⟩ => ⟨S1x1024x2048, .f32⟩
  | .local _ .vmem, ⟨12, _⟩ => ⟨S1x1024x2048, .f32⟩
  | .local _ .vmem, ⟨13, _⟩ => ⟨S1x1024x256, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 66], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8448x2048 : Shape := ⟨3, ![2, 8448, 2048]⟩
abbrev S2x8448x256 : Shape := ⟨3, ![2, 8448, 256]⟩
abbrev S2x8448x8x256 : Shape := ⟨4, ![2, 8448, 8, 256]⟩
abbrev S2x8448x128 : Shape := ⟨3, ![2, 8448, 128]⟩
abbrev S2x256x8x256 : Shape := ⟨4, ![2, 256, 8, 256]⟩
abbrev S2x256x256 : Shape := ⟨3, ![2, 256, 256]⟩
abbrev S2x256x128 : Shape := ⟨3, ![2, 256, 128]⟩
abbrev S2x256x256x8 : Shape := ⟨4, ![2, 256, 256, 8]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩
abbrev S2x128x8x256 : Shape := ⟨4, ![2, 128, 8, 256]⟩
abbrev S2x256x8x128 : Shape := ⟨4, ![2, 256, 8, 128]⟩
abbrev S2x8192x8x256 : Shape := ⟨4, ![2, 8192, 8, 256]⟩
abbrev S2x8448x8192x8 : Shape := ⟨4, ![2, 8448, 8192, 8]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S2x128x8x8192 : Shape := ⟨4, ![2, 128, 8, 8192]⟩
abbrev S2x8192x8x128 : Shape := ⟨4, ![2, 8192, 8, 128]⟩
abbrev S2x8448x8x128 : Shape := ⟨4, ![2, 8448, 8, 128]⟩
abbrev S2x8448x1024 : Shape := ⟨3, ![2, 8448, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x256, .bf16⟩
  | .hbm, ⟨2, _⟩ => ⟨S2x8448x8x256, .bf16⟩
  | .hbm, ⟨3, _⟩ => ⟨S2x8448x128, .bf16⟩
  | .hbm, ⟨4, _⟩ => ⟨S2x256x8x256, .bf16⟩
  | .hbm, ⟨5, _⟩ => ⟨S2x256x256, .bf16⟩
  | .hbm, ⟨6, _⟩ => ⟨S2x256x128, .bf16⟩
  | .hbm, ⟨7, _⟩ => ⟨S2x256x256x8, .f32⟩
  | .hbm, ⟨8, _⟩ => ⟨S2x8x256x256, .f32⟩
  | .hbm, ⟨9, _⟩ => ⟨S_, .f32⟩
  | .hbm, ⟨10, _⟩ => ⟨S_, .f32⟩
  | .hbm, ⟨11, _⟩ => ⟨S2x8x256x256, .f32⟩
  | .hbm, ⟨12, _⟩ => ⟨S2x8x256x256, .f32⟩
  | .hbm, ⟨13, _⟩ => ⟨S_, .f32⟩
  | .hbm, ⟨14, _⟩ => ⟨S2x8x256, .f32⟩
  | .hbm, ⟨15, _⟩ => ⟨S_, .f32⟩
  | .hbm, ⟨16, _⟩ => ⟨S2x8x256, .f32⟩
  | .hbm, ⟨17, _⟩ => ⟨S2x8x256, .f32⟩
  | .hbm, ⟨18, _⟩ => ⟨S2x8x256x1, .f32⟩
  | .hbm, ⟨19, _⟩ => ⟨S2x8x256x256, .f32⟩
  | .hbm, ⟨20, _⟩ => ⟨S2x8x256x256, .f32⟩
  | .hbm, ⟨21, _⟩ => ⟨S2x8x256x256, .f32⟩
  | .hbm, ⟨22, _⟩ => ⟨S_, .f32⟩
  | .hbm, ⟨23, _⟩ => ⟨S2x8x256, .f32⟩
  | .hbm, ⟨24, _⟩ => ⟨S2x8x256x1, .f32⟩
  | .hbm, ⟨25, _⟩ => ⟨S2x8x256x256, .f32⟩
  | .hbm, ⟨26, _⟩ => ⟨S2x8x256x256, .f32⟩
  | .hbm, ⟨27, _⟩ => ⟨S2x8x256x256, .bf16⟩
  | .hbm, ⟨28, _⟩ => ⟨S2x128x8x256, .f32⟩
  | .hbm, ⟨29, _⟩ => ⟨S2x256x8x128, .f32⟩
  | .hbm, ⟨30, _⟩ => ⟨S2x256x8x128, .bf16⟩
  | .hbm, ⟨31, _⟩ => ⟨S2x8192x8x256, .bf16⟩
  | .hbm, ⟨32, _⟩ => ⟨S2x8448x8192x8, .f32⟩
  | .hbm, ⟨33, _⟩ => ⟨S2x8x8192x8448, .f32⟩
  | .hbm, ⟨34, _⟩ => ⟨S_, .f32⟩
  | .hbm, ⟨35, _⟩ => ⟨S_, .f32⟩
  | .hbm, ⟨36, _⟩ => ⟨S2x8x8192x8448, .f32⟩
  | .hbm, ⟨37, _⟩ => ⟨S2x8x8192x8448, .f32⟩
  | .hbm, ⟨38, _⟩ => ⟨S_, .f32⟩
  | .hbm, ⟨39, _⟩ => ⟨S2x8x8192, .f32⟩
  | .hbm, ⟨40, _⟩ => ⟨S_, .f32⟩
  | .hbm, ⟨41, _⟩ => ⟨S2x8x8192, .f32⟩
  | .hbm, ⟨42, _⟩ => ⟨S2x8x8192, .f32⟩
  | .hbm, ⟨43, _⟩ => ⟨S2x8x8192x1, .f32⟩
  | .hbm, ⟨44, _⟩ => ⟨S2x8x8192x8448, .f32⟩
  | .hbm, ⟨45, _⟩ => ⟨S2x8x8192x8448, .f32⟩
  | .hbm, ⟨46, _⟩ => ⟨S2x8x8192x8448, .f32⟩
  | .hbm, ⟨47, _⟩ => ⟨S_, .f32⟩
  | .hbm, ⟨48, _⟩ => ⟨S2x8x8192, .f32⟩
  | .hbm, ⟨49, _⟩ => ⟨S2x8x8192x1, .f32⟩
  | .hbm, ⟨50, _⟩ => ⟨S2x8x8192x8448, .f32⟩
  | .hbm, ⟨51, _⟩ => ⟨S2x8x8192x8448, .f32⟩
  | .hbm, ⟨52, _⟩ => ⟨S2x8x8192x8448, .bf16⟩
  | .hbm, ⟨53, _⟩ => ⟨S2x128x8x8192, .f32⟩
  | .hbm, ⟨54, _⟩ => ⟨S2x8192x8x128, .f32⟩
  | .hbm, ⟨55, _⟩ => ⟨S2x8192x8x128, .bf16⟩
  | .hbm, ⟨56, _⟩ => ⟨S2x8448x8x128, .bf16⟩
  | .hbm, ⟨57, _⟩ => ⟨S2x8448x1024, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== InProj.lean ====
abbrev S2x256x1024 : Shape := ⟨3, ![2, 256, 1024]⟩
abbrev S2x8192x1024 : Shape := ⟨3, ![2, 8192, 1024]⟩
abbrev S2x2x6x1x1024 : Shape := ⟨5, ![2, 2, 6, 1, 1024]⟩
abbrev S1024 : Shape := ⟨1, ![1024]⟩
abbrev S1024x4544 : Shape := ⟨2, ![1024, 4544]⟩
abbrev S64 : Shape := ⟨1, ![64]⟩
abbrev S2x8448x1024 : Shape := ⟨3, ![2, 8448, 1024]⟩
abbrev S1024x64 : Shape := ⟨2, ![1024, 64]⟩
abbrev S1024x448 : Shape := ⟨2, ![1024, 448]⟩
abbrev S_ : Shape := ⟨0, ![]⟩
abbrev S64x1 : Shape := ⟨2, ![64, 1]⟩
abbrev S1024x512 : Shape := ⟨2, ![1024, 512]⟩
abbrev S1024x4096 : Shape := ⟨2, ![1024, 4096]⟩
abbrev S1x1024 : Shape := ⟨2, ![1, 1024]⟩
abbrev S2x8448x512 : Shape := ⟨3, ![2, 8448, 512]⟩
abbrev S2x8448x4096 : Shape := ⟨3, ![2, 8448, 4096]⟩
abbrev S1x256x1024 : Shape := ⟨3, ![1, 256, 1024]⟩
abbrev S1x1x6x1x1024 : Shape := ⟨5, ![1, 1, 6, 1, 1024]⟩
abbrev S1x256x512 : Shape := ⟨3, ![1, 256, 512]⟩
abbrev S1x256x4096 : Shape := ⟨3, ![1, 256, 4096]⟩
abbrev S256x1024 : Shape := ⟨2, ![256, 1024]⟩
abbrev S256 : Shape := ⟨1, ![256]⟩
abbrev S256x1 : Shape := ⟨2, ![256, 1]⟩
abbrev S1x1x1x1x1024 : Shape := ⟨5, ![1, 1, 1, 1, 1024]⟩
abbrev S256x512 : Shape := ⟨2, ![256, 512]⟩
abbrev S1024x1024 : Shape := ⟨2, ![1024, 1024]⟩

abbrev nBuf : Space → Nat
  | .hbm => 25
  | .vmem => 11
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x2x6x1x1024, .f32⟩
  | .hbm, ⟨3, _⟩ => ⟨S1024, .f32⟩
  | .hbm, ⟨4, _⟩ => ⟨S1024x4544, .f32⟩
  | .hbm, ⟨5, _⟩ => ⟨S64, .i32⟩
  | .hbm, ⟨6, _⟩ => ⟨S2x8448x1024, .f32⟩
  | .hbm, ⟨7, _⟩ => ⟨S1024x64, .f32⟩
  | .hbm, ⟨8, _⟩ => ⟨S1024x448, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S1024x64, .f32⟩
  | .hbm, ⟨18, _⟩ => ⟨S1024x512, .f32⟩
  | .hbm, ⟨19, _⟩ => ⟨S1024x512, .bf16⟩
  | .hbm, ⟨20, _⟩ => ⟨S1024x4096, .f32⟩
  | .hbm, ⟨21, _⟩ => ⟨S1024x4096, .bf16⟩
  | .hbm, ⟨22, _⟩ => ⟨S1x1024, .f32⟩
  | .hbm, ⟨23, _⟩ => ⟨S2x8448x512, .f32⟩
  | .hbm, ⟨24, _⟩ => ⟨S2x8448x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1x1024, .f32⟩
  | .local _ .vmem, ⟨3, _⟩ => ⟨S1x1x6x1x1024, .f32⟩
  | .local _ .vmem, ⟨4, _⟩ => ⟨S1x1024, .f32⟩
  | .local _ .vmem, ⟨5, _⟩ => ⟨S1024x512, .bf16⟩
  | .local _ .vmem, ⟨6, _⟩ => ⟨S1024x4096, .bf16⟩
  | .local _ .vmem, ⟨7, _⟩ => ⟨S1x256x512, .f32⟩
  | .local _ .vmem, ⟨8, _⟩ => ⟨S1x256x512, .f32⟩
  | .local _ .vmem, ⟨9, _⟩ => ⟨S1x256x4096, .bf16⟩
  | .local _ .vmem, ⟨10, _⟩ => ⟨S1x256x4096, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![arg0.toNat, v1.toNat, c0_i32_1.toNat, c0_i32_2.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjReferenceIdeal.lean ====
abbrev S2x256x1024 : Shape := ⟨3, ![2, 256, 1024]⟩
abbrev S2x8192x1024 : Shape := ⟨3, ![2, 8192, 1024]⟩
abbrev S2x2x6x1x1024 : Shape := ⟨5, ![2, 2, 6, 1, 1024]⟩
abbrev S1024 : Shape := ⟨1, ![1024]⟩
abbrev S1024x4544 : Shape := ⟨2, ![1024, 4544]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1x1024 : Shape := ⟨5, ![2, 1, 1, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S2x256x4544 : Shape := ⟨3, ![2, 256, 4544]⟩
abbrev S2x8192x4544 : Shape := ⟨3, ![2, 8192, 4544]⟩
abbrev S2x8448x4544 : Shape := ⟨3, ![2, 8448, 4544]⟩
abbrev S2x8448x384 : Shape := ⟨3, ![2, 8448, 384]⟩
abbrev S2x8448x64 : Shape := ⟨3, ![2, 8448, 64]⟩
abbrev S2x8448x4096 : Shape := ⟨3, ![2, 8448, 4096]⟩
abbrev S2x8448x2x2x16 : Shape := ⟨5, ![2, 8448, 2, 2, 16]⟩
abbrev S2x8448x2x1x16 : Shape := ⟨5, ![2, 8448, 2, 1, 16]⟩
abbrev S2x8448x512 : Shape := ⟨3, ![2, 8448, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x2x6x1x1024, .f32⟩
  | .hbm, ⟨3, _⟩ => ⟨S1024, .f32⟩
  | .hbm, ⟨4, _⟩ => ⟨S1024x4544, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x1x1x1x1024, .f32⟩
  | .hbm, ⟨22, _⟩ => ⟨S2x1x1024, .f32⟩
  | .hbm, ⟨23, _⟩ => ⟨S2x1x1x1x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S2x1x1x1x1024, .f32⟩
  | .hbm, ⟨49, _⟩ => ⟨S2x1x1024, .f32⟩
  | .hbm, ⟨50, _⟩ => ⟨S2x1x1x1x1024, .f32⟩
  | .hbm, ⟨51, _⟩ => ⟨S2x1x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x256x4544, .f32⟩
  | .hbm, ⟨60, _⟩ => ⟨S2x8192x4544, .f32⟩
  | .hbm, ⟨61, _⟩ => ⟨S2x8448x4544, .f32⟩
  | .hbm, ⟨62, _⟩ => ⟨S2x8448x384, .f32⟩
  | .hbm, ⟨63, _⟩ => ⟨S2x8448x64, .f32⟩
  | .hbm, ⟨64, _⟩ => ⟨S2x8448x4096, .f32⟩
  | .hbm, ⟨65, _⟩ => ⟨S2x8448x2x2x16, .f32⟩
  | .hbm, ⟨66, _⟩ => ⟨S2x8448x2x1x16, .f32⟩
  | .hbm, ⟨67, _⟩ => ⟨S2x8448x2x1x16, .f32⟩
  | .hbm, ⟨68, _⟩ => ⟨S2x8448x2x2x16, .f32⟩
  | .hbm, ⟨69, _⟩ => ⟨S2x8448x64, .f32⟩
  | .hbm, ⟨70, _⟩ => ⟨S2x8448x512, .f32⟩
  | .hbm, ⟨71, _⟩ => ⟨S2x8448x4096, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Merge.lean ====
abbrev S2x8448x1024 : Shape := ⟨3, ![2, 8448, 1024]⟩
abbrev S2x8448x4096 : Shape := ⟨3, ![2, 8448, 4096]⟩
abbrev S2x256x1024 : Shape := ⟨3, ![2, 256, 1024]⟩
abbrev S2x8192x1024 : Shape := ⟨3, ![2, 8192, 1024]⟩
abbrev S2x2x6x1x1024 : Shape := ⟨5, ![2, 2, 6, 1, 1024]⟩
abbrev S2048 : Shape := ⟨1, ![2048]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S2x1x1024 : Shape := ⟨3, ![2, 1, 1024]⟩
abbrev S1x1024 : Shape := ⟨2, ![1, 1024]⟩
abbrev S2x8448x128 : Shape := ⟨3, ![2, 8448, 128]⟩
abbrev S2x33x8x256 : Shape := ⟨4, ![2, 33, 8, 256]⟩
abbrev S2x33x8x128 : Shape := ⟨4, ![2, 33, 8, 128]⟩
abbrev S8x128 : Shape := ⟨2, ![8, 128]⟩
abbrev S1x256x1024 : Shape := ⟨3, ![1, 256, 1024]⟩
abbrev S1x1x6x1x1024 : Shape := ⟨5, ![1, 1, 6, 1, 1024]⟩
abbrev S1x256x128 : Shape := ⟨3, ![1, 256, 128]⟩
abbrev S1x1x8x256 : Shape := ⟨4, ![1, 1, 8, 256]⟩
abbrev S1x1x8x128 : Shape := ⟨4, ![1, 1, 8, 128]⟩
abbrev S256x1024 : Shape := ⟨2, ![256, 1024]⟩
abbrev S1x1x1024 : Shape := ⟨3, ![1, 1, 1024]⟩
abbrev S1x1x1x1x1024 : Shape := ⟨5, ![1, 1, 1, 1, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S128 : Shape := ⟨1, ![128]⟩
abbrev S128x128 : Shape := ⟨2, ![128, 128]⟩
abbrev S128x256 : Shape := ⟨2, ![128, 256]⟩
abbrev S8x256 : Shape := ⟨2, ![8, 256]⟩

abbrev nBuf : Space → Nat
  | .hbm => 39
  | .vmem => 35
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .f32⟩
  | .hbm, ⟨2, _⟩ => ⟨S2x8448x1024, .f32⟩
  | .hbm, ⟨3, _⟩ => ⟨S2x8448x4096, .bf16⟩
  | .hbm, ⟨4, _⟩ => ⟨S2x256x1024, .f32⟩
  | .hbm, ⟨5, _⟩ => ⟨S2x8192x1024, .f32⟩
  | .hbm, ⟨6, _⟩ => ⟨S2x2x6x1x1024, .f32⟩
  | .hbm, ⟨7, _⟩ => ⟨S2048, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x32, .f32⟩
  | .hbm, ⟨13, _⟩ => ⟨S32, .f32⟩
  | .hbm, ⟨14, _⟩ => ⟨S2x8448x1024, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S2x1x1024, .f32⟩
  | .hbm, ⟨29, _⟩ => ⟨S1x1024, .f32⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S2x8448x1024, .f32⟩
  | .hbm, ⟨34, _⟩ => ⟨S2x8448x1024, .bf16⟩
  | .hbm, ⟨35, _⟩ => ⟨S2x8448x128, .f32⟩
  | .hbm, ⟨36, _⟩ => ⟨S2x33x8x256, .f32⟩
  | .hbm, ⟨37, _⟩ => ⟨S2x33x8x128, .i32⟩
  | .hbm, ⟨38, _⟩ => ⟨S8x128, .i32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x6x1x1024, .f32⟩
  | .local _ .vmem, ⟨15, _⟩ => ⟨S1x1x6x1x1024, .f32⟩
  | .local _ .vmem, ⟨16, _⟩ => ⟨S2x1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x128, .f32⟩
  | .local _ .vmem, ⟨22, _⟩ => ⟨S1x128, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .bf16⟩
  | .local _ .vmem, ⟨26, _⟩ => ⟨S1x256x1024, .bf16⟩
  | .local _ .vmem, ⟨27, _⟩ => ⟨S1x256x128, .f32⟩
  | .local _ .vmem, ⟨28, _⟩ => ⟨S1x256x128, .f32⟩
  | .local _ .vmem, ⟨29, _⟩ => ⟨S1x1x8x256, .f32⟩
  | .local _ .vmem, ⟨30, _⟩ => ⟨S1x1x8x256, .f32⟩
  | .local _ .vmem, ⟨31, _⟩ => ⟨S1x1x8x128, .i32⟩
  | .local _ .vmem, ⟨32, _⟩ => ⟨S1x1x8x128, .i32⟩
  | .local _ .vmem, ⟨33, _⟩ => ⟨S8x128, .i32⟩
  | .local _ .vmem, ⟨34, _⟩ => ⟨S1x128, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_c_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v14_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![arg0.toNat, v0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  ![arg0.toNat, v0.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![arg0.toNat, v0.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c0_i32_0 : BitVec 32 := 0#32
  let c1_i32_1 : BitVec 32 := 1#32
  let v2 : BitVec 32 := Scalar.select v1 c0_i32_0 c1_i32_1
  let c0_i32_2 : BitVec 32 := 0#32
  let c0_i32_3 : BitVec 32 := 0#32
  let c0_i32_4 : BitVec 32 := 0#32
  let c0_i32_5 : BitVec 32 := 0#32
  ![arg0.toNat, v2.toNat, c0_i32_2.toNat, c0_i32_3.toNat, c0_i32_4.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x8x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S8x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== MergeReferenceIdeal.lean ====
abbrev S2x8448x1024 : Shape := ⟨3, ![2, 8448, 1024]⟩
abbrev S2x8448x4096 : Shape := ⟨3, ![2, 8448, 4096]⟩
abbrev S2x256x1024 : Shape := ⟨3, ![2, 256, 1024]⟩
abbrev S2x8192x1024 : Shape := ⟨3, ![2, 8192, 1024]⟩
abbrev S2x2x6x1x1024 : Shape := ⟨5, ![2, 2, 6, 1, 1024]⟩
abbrev S2048 : Shape := ⟨1, ![2048]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1x1x1024 : Shape := ⟨3, ![1, 1, 1024]⟩
abbrev S2x1x1x1x1024 : Shape := ⟨5, ![2, 1, 1, 1, 1024]⟩
abbrev S2x1x1024 : Shape := ⟨3, ![2, 1, 1024]⟩
abbrev S2x256 : Shape := ⟨2, ![2, 256]⟩
abbrev S2x256x1 : Shape := ⟨3, ![2, 256, 1]⟩
abbrev S2x8192 : Shape := ⟨2, ![2, 8192]⟩
abbrev S2x8192x1 : Shape := ⟨3, ![2, 8192, 1]⟩

abbrev nBuf : Space → Nat
  | .hbm => 138
  | .vmem => 0
  | .smem => 0
  | _ => 0

abbrev hbmTy0_0 (i : Nat) : BufTy := match i % 128 with
  | 0 => ⟨S2x8448x1024, .bf16⟩
  | 1 => ⟨S2x8448x1024, .f32⟩
  | 2 => ⟨S2x8448x1024, .f32⟩
  | 3 => ⟨S2x8448x4096, .bf16⟩
  | 4 => ⟨S2x256x1024, .f32⟩
  | 5 => ⟨S2x8192x1024, .f32⟩
  | 6 => ⟨S2x2x6x1x1024, .f32⟩
  | 7 => ⟨S2048, .f32⟩
  | 8 => ⟨S1024, .f32⟩
  | 9 => ⟨S1024x1024, .f32⟩
  | 10 => ⟨S1024x1024, .f32⟩
  | 11 => ⟨S1024x1024, .f32⟩
  | 12 => ⟨S1024x32, .f32⟩
  | 13 => ⟨S32, .f32⟩
  | 14 => ⟨S2x8448x4096, .f32⟩
  | 15 => ⟨S2x8448x1024, .f32⟩
  | 16 => ⟨S2x8448x1024, .f32⟩
  | 17 => ⟨S2x8448x1024, .f32⟩
  | 18 => ⟨S2x8448x1024, .f32⟩
  | 19 => ⟨S2x8448x1024, .f32⟩
  | 20 => ⟨S2x8448x1024, .f32⟩
  | 21 => ⟨S2x8448x1024, .f32⟩
  | 22 => ⟨S_, .f32⟩
  | 23 => ⟨S2x8448x1024, .f32⟩
  | 24 => ⟨S2x8448x1024, .f32⟩
  | 25 => ⟨S2x8448x1024, .f32⟩
  | 26 => ⟨S_, .f32⟩
  | 27 => ⟨S2x8448x1024, .f32⟩
  | 28 => ⟨S2x8448x1024, .f32⟩
  | 29 => ⟨S2x8448x1024, .f32⟩
  | 30 => ⟨S_, .f32⟩
  | 31 => ⟨S2x8448x1024, .f32⟩
  | 32 => ⟨S2x8448x1024, .f32⟩
  | 33 => ⟨S_, .f32⟩
  | 34 => ⟨S2x8448x1024, .f32⟩
  | 35 => ⟨S2x8448x1024, .f32⟩
  | 36 => ⟨S2x8448x1024, .f32⟩
  | 37 => ⟨S2x8448x1024, .f32⟩
  | 38 => ⟨S2x8448x1024, .f32⟩
  | 39 => ⟨S2x8448x1024, .f32⟩
  | 40 => ⟨S2x8448x1024, .f32⟩
  | 41 => ⟨S1024, .f32⟩
  | 42 => ⟨S1x1x1024, .f32⟩
  | 43 => ⟨S2x8448x1024, .f32⟩
  | 44 => ⟨S2x8448x1024, .f32⟩
  | 45 => ⟨S2x8448x1024, .f32⟩
  | 46 => ⟨S2x8448x1024, .f32⟩
  | 47 => ⟨S_, .f32⟩
  | 48 => ⟨S2x8448x1024, .f32⟩
  | 49 => ⟨S2x8448x1024, .f32⟩
  | 50 => ⟨S_, .f32⟩
  | 51 => ⟨S2x8448x1024, .f32⟩
  | 52 => ⟨S2x8448x1024, .f32⟩
  | 53 => ⟨S2x8448x1024, .f32⟩
  | 54 => ⟨S1024, .f32⟩
  | 55 => ⟨S1x1x1024, .f32⟩
  | 56 => ⟨S2x8448x1024, .f32⟩
  | 57 => ⟨S2x8448x1024, .f32⟩
  | 58 => ⟨S2x8448x1024, .f32⟩
  | 59 => ⟨S2x8448x1024, .f32⟩
  | 60 => ⟨S_, .f32⟩
  | 61 => ⟨S2x8448x1024, .f32⟩
  | 62 => ⟨S2x8448x1024, .f32⟩
  | 63 => ⟨S_, .f32⟩
  | 64 => ⟨S2x8448x1024, .f32⟩
  | 65 => ⟨S2x8448x1024, .f32⟩
  | 66 => ⟨S2x8448x1024, .f32⟩
  | 67 => ⟨S2x8448x1024, .f32⟩
  | 68 => ⟨S2x8448x1024, .f32⟩
  | 69 => ⟨S2x1x1x1x1024, .f32⟩
  | 70 => ⟨S2x1x1024, .f32⟩
  | 71 => ⟨S2x256x1024, .f32⟩
  | 72 => ⟨S2x256x1024, .f32⟩
  | 73 => ⟨S2x256x1024, .f32⟩
  | 74 => ⟨S2x256x1024, .f32⟩
  | 75 => ⟨S2x1x1x1x1024, .f32⟩
  | 76 => ⟨S2x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S2x256x1024, .f32⟩
  | 82 => ⟨S_, .f32⟩
  | 83 => ⟨S2x256, .f32⟩
  | 84 => ⟨S2x256x1, .f32⟩
  | 85 => ⟨S_, .f32⟩
  | 86 => ⟨S2x256x1, .f32⟩
  | 87 => ⟨S2x256x1, .f32⟩
  | 88 => ⟨S_, .f32⟩
  | 89 => ⟨S2x256x1, .f32⟩
  | 90 => ⟨S2x256x1, .f32⟩
  | 91 => ⟨S2x256x1, .f32⟩
  | 92 => ⟨S2x256x1024, .f32⟩
  | 93 => ⟨S2x256x1024, .f32⟩
  | 94 => ⟨S1x1x1024, .f32⟩
  | 95 => ⟨S2x256x1024, .f32⟩
  | 96 => ⟨S2x256x1024, .f32⟩
  | 97 => ⟨S2x1x1x1x1024, .f32⟩
  | 98 => ⟨S2x1x1024, .f32⟩
  | 99 => ⟨S2x1x1x1x1024, .f32⟩
  | 100 => ⟨S2x1x1024, .f32⟩
  | 101 => ⟨S_, .f32⟩
  | 102 => ⟨S2x1x1024, .f32⟩
  | 103 => ⟨S2x1x1024, .f32⟩
  | 104 => ⟨S2x256x1024, .f32⟩
  | 105 => ⟨S2x256x1024, .f32⟩
  | 106 => ⟨S2x256x1024, .f32⟩
  | 107 => ⟨S2x256x1024, .f32⟩
  | 108 => ⟨S2x8192x1024, .f32⟩
  | 109 => ⟨S_, .f32⟩
  | 110 => ⟨S2x8192, .f32⟩
  | 111 => ⟨S2x8192x1, .f32⟩
  | 112 => ⟨S_, .f32⟩
  | 113 => ⟨S2x8192x1, .f32⟩
  | 114 => ⟨S2x8192x1, .f32⟩
  | 115 => ⟨S_, .f32⟩
  | 116 => ⟨S2x8192x1, .f32⟩
  | 117 => ⟨S2x8192x1, .f32⟩
  | 118 => ⟨S2x8192x1, .f32⟩
  | 119 => ⟨S2x8192x1024, .f32⟩
  | 120 => ⟨S2x8192x1024, .f32⟩
  | 121 => ⟨S1x1x1024, .f32⟩
  | 122 => ⟨S2x8192x1024, .f32⟩
  | 123 => ⟨S2x8192x1024, .f32⟩
  | 124 => ⟨S2x1x1x1x1024, .f32⟩
  | 125 => ⟨S2x1x1024, .f32⟩
  | 126 => ⟨S2x1x1x1x1024, .f32⟩
  | 127 => ⟨S2x1x1024, .f32⟩
  | _ => ⟨S2x8448x1024, .bf16⟩

abbrev hbmTy0_1 (i : Nat) : BufTy := match i % 128 with
  | 0 => ⟨S_, .f32⟩
  | 1 => ⟨S2x1x1024, .f32⟩
  | 2 => ⟨S2x1x1024, .f32⟩
  | 3 => ⟨S2x8192x1024, .f32⟩
  | 4 => ⟨S2x8192x1024, .f32⟩
  | 5 => ⟨S2x8192x1024, .f32⟩
  | 6 => ⟨S2x8192x1024, .f32⟩
  | 7 => ⟨S2x8448x1024, .f32⟩
  | 8 => ⟨S2x8448x1024, .f32⟩
  | 9 => ⟨S2x8448x1024, .bf16⟩
  | _ => ⟨S2x8448x1024, .bf16⟩

abbrev hbmTy (i : Nat) : BufTy := match i / 128 with
  | 0 => hbmTy0_0 i
  | 1 => hbmTy0_1 i
  | _ => ⟨S2x8448x1024, .bf16⟩

abbrev bufTy : (tb : Table) → Fin (tcTables nBuf tb) → BufTy
  | .hbm, ⟨i, _⟩ => hbmTy i
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== Heads.lean ====
abbrev S2x8448x448 : Shape := ⟨3, ![2, 8448, 448]⟩
abbrev S256 : Shape := ⟨1, ![256]⟩
abbrev S128 : Shape := ⟨1, ![128]⟩
abbrev S8x256x128 : Shape := ⟨3, ![8, 256, 128]⟩
abbrev S256x1536 : Shape := ⟨2, ![256, 1536]⟩
abbrev S64 : Shape := ⟨1, ![64]⟩
abbrev S2x8448x64 : Shape := ⟨3, ![2, 8448, 64]⟩
abbrev S_ : Shape := ⟨0, ![]⟩
abbrev S64x1 : Shape := ⟨2, ![64, 1]⟩
abbrev S2x8448x512 : Shape := ⟨3, ![2, 8448, 512]⟩
abbrev S256x8x192 : Shape := ⟨3, ![256, 8, 192]⟩
abbrev S8x256x192 : Shape := ⟨3, ![8, 256, 192]⟩
abbrev S8x256x64 : Shape := ⟨3, ![8, 256, 64]⟩
abbrev S8x256x256 : Shape := ⟨3, ![8, 256, 256]⟩
abbrev S256x8x256 : Shape := ⟨3, ![256, 8, 256]⟩
abbrev S256x2048 : Shape := ⟨2, ![256, 2048]⟩
abbrev S256x4096 : Shape := ⟨2, ![256, 4096]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S256x64 : Shape := ⟨2, ![256, 64]⟩
abbrev S8448x64 : Shape := ⟨2, ![8448, 64]⟩
abbrev S8448x128 : Shape := ⟨2, ![8448, 128]⟩
abbrev S8448x256 : Shape := ⟨2, ![8448, 256]⟩
abbrev S1x256 : Shape := ⟨2, ![1, 256]⟩
abbrev S1x128 : Shape := ⟨2, ![1, 128]⟩
abbrev S2x8448x2048 : Shape := ⟨3, ![2, 8448, 2048]⟩
abbrev S2x8448x256 : Shape := ⟨3, ![2, 8448, 256]⟩
abbrev S1x256x512 : Shape := ⟨3, ![1, 256, 512]⟩
abbrev S256x256 : Shape := ⟨2, ![256, 256]⟩
abbrev S256x128 : Shape := ⟨2, ![256, 128]⟩
abbrev S1x256x2048 : Shape := ⟨3, ![1, 256, 2048]⟩
abbrev S1x256x256 : Shape := ⟨3, ![1, 256, 256]⟩
abbrev S256x512 : Shape := ⟨2, ![256, 512]⟩
abbrev S256x1 : Shape := ⟨2, ![256, 1]⟩
abbrev S1x256x128 : Shape := ⟨3, ![1, 256, 128]⟩

abbrev nBuf : Space → Nat
  | .hbm => 136
  | .vmem => 17
  | .smem => 0
  | _ => 0

abbrev hbmTy0_0 (i : Nat) : BufTy := match i % 128 with
  | 0 => ⟨S2x8448x448, .f32⟩
  | 1 => ⟨S256, .f32⟩
  | 2 => ⟨S128, .f32⟩
  | 3 => ⟨S8x256x128, .f32⟩
  | 4 => ⟨S256x1536, .f32⟩
  | 5 => ⟨S64, .i32⟩
  | 6 => ⟨S2x8448x64, .f32⟩
  | 7 => ⟨S_, .i32⟩
  | 8 => ⟨S64, .i32⟩
  | 9 => ⟨S64, .i1⟩
  | 10 => ⟨S_, .i32⟩
  | 11 => ⟨S64, .i32⟩
  | 12 => ⟨S64, .i32⟩
  | 13 => ⟨S64, .i32⟩
  | 14 => ⟨S64x1, .i32⟩
  | 15 => ⟨S2x8448x64, .f32⟩
  | 16 => ⟨S2x8448x512, .f32⟩
  | 17 => ⟨S256x8x192, .f32⟩
  | 18 => ⟨S8x256x192, .f32⟩
  | 19 => ⟨S8x256x64, .f32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S8x256x64, .f32⟩
  | 29 => ⟨S_, .f32⟩
  | 30 => ⟨S8x256x128, .f32⟩
  | 31 => ⟨S8x256x256, .f32⟩
  | 32 => ⟨S8x256x256, .f32⟩
  | 33 => ⟨S256x8x256, .f32⟩
  | 34 => ⟨S256x2048, .f32⟩
  | 35 => ⟨S256x8x256, .f32⟩
  | 36 => ⟨S256x2048, .f32⟩
  | 37 => ⟨S256x4096, .f32⟩
  | 38 => ⟨S256x4096, .bf16⟩
  | 39 => ⟨S8192, .i32⟩
  | 40 => ⟨S_, .i32⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i1⟩
  | 48 => ⟨S8192, .i32⟩
  | 49 => ⟨S8192, .i32⟩
  | 50 => ⟨S_, .i32⟩
  | 51 => ⟨S8192, .i32⟩
  | 52 => ⟨S8192, .i1⟩
  | 53 => ⟨S8192, .i1⟩
  | 54 => ⟨S_, .i32⟩
  | 55 => ⟨S8192, .i32⟩
  | 56 => ⟨S8192, .i32⟩
  | 57 => ⟨S8192, .i32⟩
  | 58 => ⟨S8192, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i1⟩
  | 73 => ⟨S_, .i32⟩
  | 74 => ⟨S_, .i1⟩
  | 75 => ⟨S8192, .i1⟩
  | 76 => ⟨S8192, .i1⟩
  | 77 => ⟨S8192, .i1⟩
  | 78 => ⟨S8192, .i32⟩
  | 79 => ⟨S8192, .i32⟩
  | 80 => ⟨S8192, .i32⟩
  | 81 => ⟨S8192, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S8192x1, .f32⟩
  | 91 => ⟨S1x16, .f32⟩
  | 92 => ⟨S8192x16, .f32⟩
  | 93 => ⟨S8192x16, .f32⟩
  | 94 => ⟨S8192x16, .f32⟩
  | 95 => ⟨S8192x1, .f32⟩
  | 96 => ⟨S1x16, .f32⟩
  | 97 => ⟨S8192x16, .f32⟩
  | 98 => ⟨S8192x16, .f32⟩
  | 99 => ⟨S8192x16, .f32⟩
  | 100 => ⟨S8192x16, .f32⟩
  | 101 => ⟨S8192x16, .f32⟩
  | 102 => ⟨S8192x16, .f32⟩
  | 103 => ⟨S8192x16, .f32⟩
  | 104 => ⟨S8192x64, .f32⟩
  | 105 => ⟨S8192x16, .f32⟩
  | 106 => ⟨S8192x16, .f32⟩
  | 107 => ⟨S8192x16, .f32⟩
  | 108 => ⟨S8192x16, .f32⟩
  | 109 => ⟨S8192x16, .f32⟩
  | 110 => ⟨S8192x16, .f32⟩
  | 111 => ⟨S8192x64, .f32⟩
  | 112 => ⟨S_, .f32⟩
  | 113 => ⟨S256x64, .f32⟩
  | 114 => ⟨S8448x64, .f32⟩
  | 115 => ⟨S_, .f32⟩
  | 116 => ⟨S256x64, .f32⟩
  | 117 => ⟨S8448x64, .f32⟩
  | 118 => ⟨S_, .f32⟩
  | 119 => ⟨S8448x128, .f32⟩
  | 120 => ⟨S8448x256, .f32⟩
  | 121 => ⟨S_, .f32⟩
  | 122 => ⟨S8448x256, .f32⟩
  | 123 => ⟨S8448x256, .f32⟩
  | 124 => ⟨S_, .f32⟩
  | 125 => ⟨S8448x128, .f32⟩
  | 126 => ⟨S8448x256, .f32⟩
  | 127 => ⟨S_, .f32⟩
  | _ => ⟨S2x8448x448, .f32⟩

abbrev hbmTy0_1 (i : Nat) : BufTy := match i % 128 with
  | 0 => ⟨S8448x256, .f32⟩
  | 1 => ⟨S8448x256, .f32⟩
  | 2 => ⟨S8448x128, .f32⟩
  | 3 => ⟨S1x256, .f32⟩
  | 4 => ⟨S1x128, .f32⟩
  | 5 => ⟨S2x8448x2048, .bf16⟩
  | 6 => ⟨S2x8448x256, .bf16⟩
  | 7 => ⟨S2x8448x256, .bf16⟩
  | _ => ⟨S2x8448x448, .f32⟩

abbrev hbmTy (i : Nat) : BufTy := match i / 128 with
  | 0 => hbmTy0_0 i
  | 1 => hbmTy0_1 i
  | _ => ⟨S2x8448x448, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256, .f32⟩
  | .local _ .vmem, ⟨3, _⟩ => ⟨S1x128, .f32⟩
  | .local _ .vmem, ⟨4, _⟩ => ⟨S256x4096, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x128, .f32⟩
  | .local _ .vmem, ⟨10, _⟩ => ⟨S256x128, .f32⟩
  | .local _ .vmem, ⟨11, _⟩ => ⟨S1x256x2048, .bf16⟩
  | .local _ .vmem, ⟨12, _⟩ => ⟨S1x256x2048, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | _, _ => ⟨S2x8448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_6 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_8 : Ref sig .tc := ⟨.hbm, 112, rfl⟩
abbrev main_v61 : Ref sig .tc := ⟨.hbm, 113, rfl⟩
abbrev main_v62 : Ref sig .tc := ⟨.hbm, 114, rfl⟩
abbrev main_cst_9 : Ref sig .tc := ⟨.hbm, 115, rfl⟩
abbrev main_v63 : Ref sig .tc := ⟨.hbm, 116, rfl⟩
abbrev main_v64 : Ref sig .tc := ⟨.hbm, 117, rfl⟩
abbrev main_cst_10 : Ref sig .tc := ⟨.hbm, 118, rfl⟩
abbrev main_v65 : Ref sig .tc := ⟨.hbm, 119, rfl⟩
abbrev main_v66 : Ref sig .tc := ⟨.hbm, 120, rfl⟩
abbrev main_cst_11 : Ref sig .tc := ⟨.hbm, 121, rfl⟩
abbrev main_v67 : Ref sig .tc := ⟨.hbm, 122, rfl⟩
abbrev main_v68 : Ref sig .tc := ⟨.hbm, 123, rfl⟩
abbrev main_cst_12 : Ref sig .tc := ⟨.hbm, 124, rfl⟩
abbrev main_v69 : Ref sig .tc := ⟨.hbm, 125, rfl⟩
abbrev main_v70 : Ref sig .tc := ⟨.hbm, 126, rfl⟩
abbrev main_cst_13 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76_0 : Ref sig .tc := ⟨.hbm, 133, rfl⟩
abbrev main_v76_1 : Ref sig .tc := ⟨.hbm, 134, rfl⟩
abbrev main_v76_2 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== HeadsReferenceIdeal.lean ====
abbrev S2x8448x448 : Shape := ⟨3, ![2, 8448, 448]⟩
abbrev S256 : Shape := ⟨1, ![256]⟩
abbrev S128 : Shape := ⟨1, ![128]⟩
abbrev S8x256x128 : Shape := ⟨3, ![8, 256, 128]⟩
abbrev S256x1536 : Shape := ⟨2, ![256, 1536]⟩
abbrev S2x8448x256 : Shape := ⟨3, ![2, 8448, 256]⟩
abbrev S2x8448x128 : Shape := ⟨3, ![2, 8448, 128]⟩
abbrev S2x8448x64 : Shape := ⟨3, ![2, 8448, 64]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S2x8448 : Shape := ⟨2, ![2, 8448]⟩
abbrev S2x8448x1 : Shape := ⟨3, ![2, 8448, 1]⟩
abbrev S1x1x256 : Shape := ⟨3, ![1, 1, 256]⟩
abbrev S2x8448x8x128 : Shape := ⟨4, ![2, 8448, 8, 128]⟩
abbrev S256x8x192 : Shape := ⟨3, ![256, 8, 192]⟩
abbrev S256x8x64 : Shape := ⟨3, ![256, 8, 64]⟩
abbrev S2x8448x8x64 : Shape := ⟨4, ![2, 8448, 8, 64]⟩
abbrev S2x8192x8x64 : Shape := ⟨4, ![2, 8192, 8, 64]⟩
abbrev S8192x1x2x16 : Shape := ⟨4, ![8192, 1, 2, 16]⟩
abbrev S2x8192x8x2x2x16 : Shape := ⟨6, ![2, 8192, 8, 2, 2, 16]⟩
abbrev S2x8192x8x2x1x16 : Shape := ⟨6, ![2, 8192, 8, 2, 1, 16]⟩
abbrev S2x8192x8x2x16 : Shape := ⟨5, ![2, 8192, 8, 2, 16]⟩
abbrev S1x8192x1x2x16 : Shape := ⟨5, ![1, 8192, 1, 2, 16]⟩
abbrev S2x256x8x64 : Shape := ⟨4, ![2, 256, 8, 64]⟩
abbrev S2x8448x8x256 : Shape := ⟨4, ![2, 8448, 8, 256]⟩
abbrev S2x8192x64 : Shape := ⟨3, ![2, 8192, 64]⟩
abbrev S2x8192x2x2x16 : Shape := ⟨5, ![2, 8192, 2, 2, 16]⟩
abbrev S2x8192x2x1x16 : Shape := ⟨5, ![2, 8192, 2, 1, 16]⟩
abbrev S2x8192x2x16 : Shape := ⟨4, ![2, 8192, 2, 16]⟩
abbrev S1x8192x2x16 : Shape := ⟨4, ![1, 8192, 2, 16]⟩
abbrev S2x256x64 : Shape := ⟨3, ![2, 256, 64]⟩
abbrev S1x1x128 : Shape := ⟨3, ![1, 1, 128]⟩
abbrev S2x8448x127 : Shape := ⟨3, ![2, 8448, 127]⟩
abbrev S2x8448x2048 : Shape := ⟨3, ![2, 8448, 2048]⟩

abbrev nBuf : Space → Nat
  | .hbm => 152
  | .vmem => 0
  | .smem => 0
  | _ => 0

abbrev hbmTy0_0 (i : Nat) : BufTy := match i % 128 with
  | 0 => ⟨S2x8448x448, .f32⟩
  | 1 => ⟨S256, .f32⟩
  | 2 => ⟨S128, .f32⟩
  | 3 => ⟨S8x256x128, .f32⟩
  | 4 => ⟨S256x1536, .f32⟩
  | 5 => ⟨S2x8448x256, .f32⟩
  | 6 => ⟨S2x8448x128, .f32⟩
  | 7 => ⟨S2x8448x64, .f32⟩
  | 8 => ⟨S128, .f32⟩
  | 9 => ⟨S128x64, .f32⟩
  | 10 => ⟨S8192, .f32⟩
  | 11 => ⟨S64, .f32⟩
  | 12 => ⟨S1x64, .f32⟩
  | 13 => ⟨S128x64, .f32⟩
  | 14 => ⟨S8192, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S8192x1, .f32⟩
  | 24 => ⟨S1x16, .f32⟩
  | 25 => ⟨S8192x16, .f32⟩
  | 26 => ⟨S8192x16, .f32⟩
  | 27 => ⟨S8192x16, .f32⟩
  | 28 => ⟨S8192x1, .f32⟩
  | 29 => ⟨S1x16, .f32⟩
  | 30 => ⟨S8192x16, .f32⟩
  | 31 => ⟨S8192x16, .f32⟩
  | 32 => ⟨S8192x16, .f32⟩
  | 33 => ⟨S8192x1x16, .f32⟩
  | 34 => ⟨S8192x1x16, .f32⟩
  | 35 => ⟨S8192x2x16, .f32⟩
  | 36 => ⟨S8192x2x16, .f32⟩
  | 37 => ⟨S8192x2x16, .f32⟩
  | 38 => ⟨S2x8448x256, .f32⟩
  | 39 => ⟨S_, .f32⟩
  | 40 => ⟨S2x8448, .f32⟩
  | 41 => ⟨S2x8448x1, .f32⟩
  | 42 => ⟨S_, .f32⟩
  | 43 => ⟨S2x8448x1, .f32⟩
  | 44 => ⟨S2x8448x1, .f32⟩
  | 45 => ⟨S_, .f32⟩
  | 46 => ⟨S2x8448x1, .f32⟩
  | 47 => ⟨S2x8448x1, .f32⟩
  | 48 => ⟨S2x8448x1, .f32⟩
  | 49 => ⟨S2x8448x256, .f32⟩
  | 50 => ⟨S2x8448x256, .f32⟩
  | 51 => ⟨S1x1x256, .f32⟩
  | 52 => ⟨S2x8448x256, .f32⟩
  | 53 => ⟨S2x8448x256, .f32⟩
  | 54 => ⟨S2x8448x8x128, .f32⟩
  | 55 => ⟨S256x8x192, .f32⟩
  | 56 => ⟨S256x8x64, .f32⟩
  | 57 => ⟨S2x8448x8x64, .f32⟩
  | 58 => ⟨S2x8192x8x64, .f32⟩
  | 59 => ⟨S8192x1x2x16, .f32⟩
  | 60 => ⟨S8192x1x2x16, .f32⟩
  | 61 => ⟨S2x8192x8x2x2x16, .f32⟩
  | 62 => ⟨S2x8192x8x2x1x16, .f32⟩
  | 63 => ⟨S2x8192x8x2x16, .f32⟩
  | 64 => ⟨S2x8192x8x2x1x16, .f32⟩
  | 65 => ⟨S2x8192x8x2x16, .f32⟩
  | 66 => ⟨S1x8192x1x2x16, .f32⟩
  | 67 => ⟨S2x8192x8x2x16, .f32⟩
  | 68 => ⟨S2x8192x8x2x16, .f32⟩
  | 69 => ⟨S1x8192x1x2x16, .f32⟩
  | 70 => ⟨S2x8192x8x2x16, .f32⟩
  | 71 => ⟨S2x8192x8x2x16, .f32⟩
  | 72 => ⟨S2x8192x8x2x1x16, .f32⟩
  | 73 => ⟨S2x8192x8x2x1x16, .f32⟩
  | 74 => ⟨S2x8192x8x2x2x16, .f32⟩
  | 75 => ⟨S1x8192x1x2x16, .f32⟩
  | 76 => ⟨S2x8192x8x2x16, .f32⟩
  | 77 => ⟨S2x8192x8x2x16, .f32⟩
  | 78 => ⟨S2x8192x8x2x16, .f32⟩
  | 79 => ⟨S1x8192x1x2x16, .f32⟩
  | 80 => ⟨S2x8192x8x2x16, .f32⟩
  | 81 => ⟨S2x8192x8x2x16, .f32⟩
  | 82 => ⟨S2x8192x8x2x1x16, .f32⟩
  | 83 => ⟨S2x8192x8x2x1x16, .f32⟩
  | 84 => ⟨S2x8192x8x2x2x16, .f32⟩
  | 85 => ⟨S2x8192x8x64, .f32⟩
  | 86 => ⟨S2x8192x8x64, .f32⟩
  | 87 => ⟨S2x256x8x64, .f32⟩
  | 88 => ⟨S2x8192x8x64, .f32⟩
  | 89 => ⟨S2x8448x8x64, .f32⟩
  | 90 => ⟨S2x8448x8x256, .f32⟩
  | 91 => ⟨S_, .f32⟩
  | 92 => ⟨S2x8448x8x256, .f32⟩
  | 93 => ⟨S2x8448x8x256, .f32⟩
  | 94 => ⟨S2x8192x64, .f32⟩
  | 95 => ⟨S2x8192x2x2x16, .f32⟩
  | 96 => ⟨S2x8192x2x1x16, .f32⟩
  | 97 => ⟨S2x8192x2x16, .f32⟩
  | 98 => ⟨S2x8192x2x1x16, .f32⟩
  | 99 => ⟨S2x8192x2x16, .f32⟩
  | 100 => ⟨S1x8192x2x16, .f32⟩
  | 101 => ⟨S2x8192x2x16, .f32⟩
  | 102 => ⟨S2x8192x2x16, .f32⟩
  | 103 => ⟨S1x8192x2x16, .f32⟩
  | 104 => ⟨S2x8192x2x16, .f32⟩
  | 105 => ⟨S2x8192x2x16, .f32⟩
  | 106 => ⟨S2x8192x2x1x16, .f32⟩
  | 107 => ⟨S2x8192x2x1x16, .f32⟩
  | 108 => ⟨S2x8192x2x2x16, .f32⟩
  | 109 => ⟨S1x8192x2x16, .f32⟩
  | 110 => ⟨S2x8192x2x16, .f32⟩
  | 111 => ⟨S2x8192x2x16, .f32⟩
  | 112 => ⟨S2x8192x2x16, .f32⟩
  | 113 => ⟨S1x8192x2x16, .f32⟩
  | 114 => ⟨S2x8192x2x16, .f32⟩
  | 115 => ⟨S2x8192x2x16, .f32⟩
  | 116 => ⟨S2x8192x2x1x16, .f32⟩
  | 117 => ⟨S2x8192x2x1x16, .f32⟩
  | 118 => ⟨S2x8192x2x2x16, .f32⟩
  | 119 => ⟨S2x8192x64, .f32⟩
  | 120 => ⟨S2x8192x64, .f32⟩
  | 121 => ⟨S2x256x64, .f32⟩
  | 122 => ⟨S2x8448x64, .f32⟩
  | 123 => ⟨S_, .f32⟩
  | 124 => ⟨S2x256x64, .f32⟩
  | 125 => ⟨S2x8448x64, .f32⟩
  | 126 => ⟨S2x8448x128, .f32⟩
  | 127 => ⟨S_, .f32⟩
  | _ => ⟨S2x8448x448, .f32⟩

abbrev hbmTy0_1 (i : Nat) : BufTy := match i % 128 with
  | 0 => ⟨S2x8448, .f32⟩
  | 1 => ⟨S2x8448x1, .f32⟩
  | 2 => ⟨S_, .f32⟩
  | 3 => ⟨S2x8448x1, .f32⟩
  | 4 => ⟨S2x8448x1, .f32⟩
  | 5 => ⟨S_, .f32⟩
  | 6 => ⟨S2x8448x1, .f32⟩
  | 7 => ⟨S2x8448x1, .f32⟩
  | 8 => ⟨S2x8448x1, .f32⟩
  | 9 => ⟨S2x8448x128, .f32⟩
  | 10 => ⟨S2x8448x128, .f32⟩
  | 11 => ⟨S1x1x128, .f32⟩
  | 12 => ⟨S2x8448x128, .f32⟩
  | 13 => ⟨S2x8448x128, .f32⟩
  | 14 => ⟨S2x8448x256, .f32⟩
  | 15 => ⟨S_, .f32⟩
  | 16 => ⟨S2x8448x1, .f32⟩
  | 17 => ⟨S_, .f32⟩
  | 18 => ⟨S2x8448x127, .f32⟩
  | 19 => ⟨S2x8448x256, .f32⟩
  | 20 => ⟨S2x8448x2048, .f32⟩
  | 21 => ⟨S2x8448x2048, .bf16⟩
  | 22 => ⟨S2x8448x256, .bf16⟩
  | 23 => ⟨S2x8448x256, .bf16⟩
  | _ => ⟨S2x8448x448, .f32⟩

abbrev hbmTy (i : Nat) : BufTy := match i / 128 with
  | 0 => hbmTy0_0 i
  | 1 => hbmTy0_1 i
  | _ => ⟨S2x8448x448, .f32⟩

abbrev bufTy : (tb : Table) → Fin (tcTables nBuf tb) → BufTy
  | .hbm, ⟨i, _⟩ => hbmTy i
  | _, _ => ⟨S2x8448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_4 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_cst_5 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_cst_6 : Ref sig .tc := ⟨.hbm, 127, rfl⟩
abbrev main_v115 : Ref sig .tc := ⟨.hbm, 128, rfl⟩
abbrev main_v116 : Ref sig .tc := ⟨.hbm, 129, rfl⟩
abbrev main_cst_7 : Ref sig .tc := ⟨.hbm, 130, rfl⟩
abbrev main_v117 : Ref sig .tc := ⟨.hbm, 131, rfl⟩
abbrev main_v118 : Ref sig .tc := ⟨.hbm, 132, rfl⟩
abbrev main_cst_8 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_9 : Ref sig .tc := ⟨.hbm, 143, rfl⟩
abbrev main_v128 : Ref sig .tc := ⟨.hbm, 144, rfl⟩
abbrev main_cst_10 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩

abbrev nD : Nat := 1
abbrev τ : Topo := Topo.v7x

variable {F : FTy → Type} [FloatOps F]
-- ==== Proof.Online.lean ====
/-
  The mathematics of the softmax taken tile by tile, on one row of scores, over the extended reals.

  A row has real scores `s j` and real values `v j d`. The row's running state is a pair: a number `m` and, per
  column `d`, a number `acc d`. After the keys `0 … n - 1` the state is `State n`: `m` is SOME real `μ` and `acc d` is
  the sum of `2 ^ (s j - μ) * v j d` over those keys. Which real `μ` is does not matter: the quotient of two columns
  is the same for every `μ` (`State.quotient`). One tile keeps the property (`State.step`), and the first tile
  reaches it from `m = ⊥`, `acc = 0` (`State.first`).

  The reference takes the whole row at once: the exponentials of the scores minus their maximum, divided by their
  sum, times the values (`whole_row`); both are the quotient `soft`.
-/
module

public import Idealize.ShloMosaic.PureOps.Ideal

@[expose] public section

noncomputable section

namespace Cert.Online

open Idealize.ShloMosaic

/-! ## Sums and maxima of reals among the extended reals -/

/-- A finite sum of reals is a real. -/
theorem coe_sum {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The larger of two reals is a real. -/
theorem coe_max (a b : ℝ) : max (a : EReal) (b : EReal) = ((max a b : ℝ) : EReal) :=
  (EReal.coe_strictMono.monotone.map_max).symm

/-- The maximum of finitely many reals, at least one, taken from `⊥` on, is a real. -/
theorem exists_fold_max {ι : Type*} (S : Finset ι) (hS : S.Nonempty) (f : ι → EReal)
    (hf : ∀ i ∈ S, ∃ r : ℝ, f i = r) : ∃ r : ℝ, S.fold max ⊥ f = r := by
  obtain ⟨i, hi, h⟩ := Finset.exists_mem_eq_sup S hS f
  obtain ⟨r, hr⟩ := hf i hi
  exact ⟨r, by rw [← hr, ← h]; rfl⟩

/-- A fold of `max` over reals from a real is a real. -/
theorem exists_fold_max_real {ι : Type*} (S : Finset ι) (b : ℝ) (f : ι → EReal)
    (hf : ∀ i ∈ S, ∃ r : ℝ, f i = r) : ∃ r : ℝ, S.fold max (b : EReal) f = r := by
  classical
  induction S using Finset.induction_on with
  | empty => exact ⟨b, by simp⟩
  | insert a S ha ih =>
    obtain ⟨r, hr⟩ := ih fun i hi => hf i (Finset.mem_insert_of_mem hi)
    obtain ⟨q, hq⟩ := hf a (Finset.mem_insert_self a S)
    exact ⟨max q r, by rw [Finset.fold_insert ha, hr, hq, coe_max]⟩

/-! ## The state of a row -/

/-- Two to the power of a difference of scores. -/
abbrev pw (x : ℝ) : ℝ := Real.rpow 2 x

theorem pw_pos (x : ℝ) : 0 < pw x := Real.rpow_pos_of_pos (by norm_num) x

theorem pw_add (x y : ℝ) : pw (x + y) = pw x * pw y := Real.rpow_add (by norm_num) x y

/-- What a row's running pair holds once the keys `0 … n - 1` are taken in. -/
def State {D : Type*} (s : ℕ → ℝ) (v : ℕ → D → ℝ) (n : ℕ) (m : EReal) (acc : D → EReal) : Prop :=
  ∃ μ : ℝ, m = μ ∧ ∀ d, acc d = ((∑ j ∈ Finset.range n, pw (s j - μ) * v j d : ℝ) : EReal)

/-- A tile's own contribution, at the real `μ` the tile scales by. -/
theorem tile_sum {w : ℕ} (s : ℕ → ℝ) (v : ℕ → ℝ) (n : ℕ) (μ : ℝ) (S V : Fin w → EReal)
    (hS : ∀ x : Fin w, S x = (s (n + x) : ℝ)) (hV : ∀ x : Fin w, V x = (v (n + x) : ℝ)) :
    (∑ x : Fin w, Ideal.exp2 (S x - (μ : EReal)) * V x)
      = ((∑ j ∈ Finset.range w, pw (s (n + j) - μ) * v (n + j) : ℝ) : EReal) := by
  rw [Finset.sum_congr rfl fun x _ => show Ideal.exp2 (S x - (μ : EReal)) * V x
    = ((pw (s (n + x) - μ) * v (n + x) : ℝ) : EReal) by rw [hS, hV, ← EReal.coe_sub, Ideal.exp2_coe, ← EReal.coe_mul]]
  rw [coe_sum, Fin.sum_univ_eq_sum_range (fun j => pw (s (n + j) - μ) * v (n + j)) w]

/-- The first tile, from `m = ⊥` and `acc = 0`. -/
theorem State.first {D : Type*} {w : ℕ} (s : ℕ → ℝ) (v : ℕ → D → ℝ) (S : Fin w → EReal) (V : Fin w → D → EReal)
    (hS : ∀ x : Fin w, S x = (s x : ℝ)) (hV : ∀ x d, V x d = (v x d : ℝ)) {M m' : EReal} (hM : ∃ r : ℝ, M = r)
    (hm' : m' = max ⊥ M) {acc' : D → EReal}
    (hacc : ∀ d, acc' d = Ideal.exp2 (⊥ - m') * 0 + ∑ x : Fin w, Ideal.exp2 (S x - m') * V x d) :
    State s v w m' acc' := by
  obtain ⟨r, rfl⟩ := hM
  have hm : m' = (r : ℝ) := by rw [hm']; exact max_eq_right bot_le
  refine ⟨r, hm, fun d => ?_⟩
  rw [hacc, hm, tile_sum s (fun j => v j d) 0 r S (fun x => V x d) (by simpa using hS) (by simpa using fun x => hV x d)]
  simp

/-- A further tile. -/
theorem State.step {D : Type*} {w n : ℕ} {s : ℕ → ℝ} {v : ℕ → D → ℝ} {m : EReal} {acc : D → EReal}
    (h : State s v n m acc) (S : Fin w → EReal) (V : Fin w → D → EReal)
    (hS : ∀ x : Fin w, S x = (s (n + x) : ℝ)) (hV : ∀ x d, V x d = (v (n + x) d : ℝ)) {M m' : EReal}
    (hM : ∃ r : ℝ, M = r) (hm' : m' = max m M) {acc' : D → EReal}
    (hacc : ∀ d, acc' d = Ideal.exp2 (m - m') * acc d + ∑ x : Fin w, Ideal.exp2 (S x - m') * V x d) :
    State s v (n + w) m' acc' := by
  obtain ⟨μ, rfl, ha⟩ := h
  obtain ⟨r, rfl⟩ := hM
  have hm : m' = ((max μ r : ℝ) : EReal) := by rw [hm', coe_max]
  refine ⟨max μ r, hm, fun d => ?_⟩
  rw [hacc, hm, tile_sum s (fun j => v j d) n _ S (fun x => V x d) hS (fun x => hV x d), ha, ← EReal.coe_sub,
    Ideal.exp2_coe, ← EReal.coe_mul, ← EReal.coe_add, Finset.sum_range_add, Finset.mul_sum]
  congr 2
  refine Finset.sum_congr rfl fun j _ => ?_
  rw [← mul_assoc, show s j - max μ r = (μ - max μ r) + (s j - μ) by ring, pw_add]

/-- The row's result: the values weighted by the powers of two of the scores, divided by the powers' sum. -/
def soft (s : ℕ → ℝ) (v : ℕ → ℝ) (n : ℕ) : ℝ :=
  (∑ j ∈ Finset.range n, pw (s j) * v j) / ∑ j ∈ Finset.range n, pw (s j)

theorem sum_pw_pos (s : ℕ → ℝ) {n : ℕ} (hn : 0 < n) (μ : ℝ) : 0 < ∑ j ∈ Finset.range n, pw (s j - μ) :=
  Finset.sum_pos (fun _ _ => pw_pos _) (Finset.nonempty_range_iff.mpr hn.ne')

theorem shift (s : ℕ → ℝ) (v : ℕ → ℝ) (n : ℕ) (μ : ℝ) :
    (∑ j ∈ Finset.range n, pw (s j - μ) * v j) / (∑ j ∈ Finset.range n, pw (s j - μ)) = soft s v n := by
  have h1 : ∀ j, pw (s j - μ) = pw (-μ) * pw (s j) := fun j => by rw [← pw_add]; congr 1; ring
  simp only [h1, mul_assoc, ← Finset.mul_sum, soft]
  exact mul_div_mul_left _ _ (pw_pos _).ne'

/-- A column divided by a column whose values are all one is the row's result. -/
theorem State.quotient {D : Type*} {s : ℕ → ℝ} {v : ℕ → D → ℝ} {n : ℕ} {m : EReal} {acc : D → EReal}
    (h : State s v n m acc) (hn : 0 < n) (d e : D) (he : ∀ j, v j e = 1) :
    Ideal.div (acc d) (acc e) = (soft s (fun j => v j d) n : EReal) := by
  obtain ⟨μ, -, ha⟩ := h
  have hp := sum_pw_pos s hn μ
  rw [ha, ha]
  simp only [he, mul_one]
  rw [Ideal.div_coe hp.ne', ← EReal.coe_mul, mul_one_div, shift]

/-! ## The whole row at once -/

/-- The reference's row: exponentials of the scores (in units where `t j = s j * ln 2`) minus a real, each divided by
    their sum, times the values. -/
theorem whole_row {n : ℕ} (hn : 0 < n) (s t : ℕ → ℝ) (v : ℕ → ℝ) (ht : ∀ j, t j = s j * Real.log 2) (T V : Fin n → EReal)
    (hT : ∀ x : Fin n, T x = (t x : ℝ)) (hV : ∀ x : Fin n, V x = (v x : ℝ)) (μ : ℝ) :
    (∑ x : Fin n, Ideal.div (Ideal.exp (T x - (μ : EReal))) (∑ y : Fin n, Ideal.exp (T y - (μ : EReal))) * V x)
      = (soft s v n : EReal) := by
  have he : ∀ x : Fin n, Ideal.exp (T x - (μ : EReal)) = ((pw (s x - μ / Real.log 2) : ℝ) : EReal) := fun x => by
    rw [hT, ← EReal.coe_sub, Ideal.exp_coe]
    congr 1
    have h2 : Real.log 2 ≠ 0 := (Real.log_pos (by norm_num)).ne'
    rw [ht, show pw (s x - μ / Real.log 2) = Real.exp (Real.log 2 * (s x - μ / Real.log 2)) from
      Real.rpow_def_of_pos (by norm_num) _]
    congr 1
    field_simp
  have hsum : (∑ y : Fin n, Ideal.exp (T y - (μ : EReal)))
      = ((∑ j ∈ Finset.range n, pw (s j - μ / Real.log 2) : ℝ) : EReal) := by
    simp only [he]
    rw [coe_sum, Fin.sum_univ_eq_sum_range (fun j => pw (s j - μ / Real.log 2)) n]
  have hp := sum_pw_pos s hn (μ / Real.log 2)
  rw [hsum, Finset.sum_congr rfl fun x _ => show
    Ideal.div (Ideal.exp (T x - (μ : EReal))) ((∑ j ∈ Finset.range n, pw (s j - μ / Real.log 2) : ℝ) : EReal) * V x
      = ((pw (s x - μ / Real.log 2) * v x / (∑ j ∈ Finset.range n, pw (s j - μ / Real.log 2)) : ℝ) : EReal) by
    rw [he, hV, Ideal.div_coe hp.ne', ← EReal.coe_mul, ← EReal.coe_mul]; congr 1; ring]
  rw [coe_sum, Fin.sum_univ_eq_sum_range
    (fun j => pw (s j - μ / Real.log 2) * v j / (∑ j ∈ Finset.range n, pw (s j - μ / Real.log 2))) n,
    ← Finset.sum_div, shift]

end Cert.Online

end
-- ==== Proof.Payloads.lean ====
/-
  What the attention body's computed values are, read at an index, over the extended reals: the scores of a tile are
  the products of query rows and key rows; one tile's update of the running maximum and of the accumulator is the step
  of `Online.State` on every row; the stored block is one accumulator column divided by another.
-/
module

public import proofs.«01_k».proof.Proof.Gen.KernelIdeal.Skeleton
public import proofs.«01_k».proof.Proof.Online
public import Idealize.ShloMosaic.Lib.Pointwise

@[expose] public section

set_option maxRecDepth 16384

noncomputable section

namespace Cert.KernelIdeal.Att

open Cert.KernelIdeal Cert.KernelIdeal.Gen Idealize.ShloMosaic Cert.Online

/-- The mask word is minus infinity. -/
theorem ofBits_negInf : (FloatOps.ofBits (F := Ideal) .f32 0xFF800000#32) = (⊥ : EReal) := by
  show Ideal.ofBits .f32 0xFF800000#32 = _
  simp [Ideal.ofBits, Ideal.ieee]

/-- The running maximum starts at minus infinity. -/
theorem max_init : (k0_pay38 (F := Ideal)) = fun _ => (⊥ : EReal) := by
  funext j; pointwise [k0_pay38]; exact ofBits_negInf

/-- The accumulator starts at zero. -/
theorem acc_init : (k0_pay39 (F := Ideal)) = fun _ => (0 : EReal) := by
  funext j; pointwise [k0_pay39]

/-- The scores of the first tile (256 keys). -/
theorem score_first (K : Vec Ideal S1x256x256 .bf16) (Q : Vec Ideal S1x1024x256 .bf16) (r : Fin 1024) (x : Fin 256) :
    k0_pay9 K Q (ix3 0 r x) = ∑ k : Fin 256, Q (ix3 0 r k) * K (ix3 0 x k) := by
  pointwise [k0_pay9]

/-- The scores of a further tile (2048 keys). -/
theorem score_step (K : Vec Ideal S1x2048x256 .bf16) (Q : Vec Ideal S1x1024x256 .bf16) (r : Fin 1024) (x : Fin 2048) :
    k0_pay18 K Q (ix3 0 r x) = ∑ k : Fin 256, Q (ix3 0 r k) * K (ix3 0 x k) := by
  pointwise [k0_pay18]

/-- Every row of the running pair is in the state the keys `0 … n - 1` leave. -/
def Rows (s : Fin 1024 → ℕ → ℝ) (v : ℕ → Fin 256 → ℝ) (n : ℕ) (m : Vec Ideal S1x1024x1 .f32)
    (acc : Vec Ideal S1x1024x256 .f32) : Prop :=
  ∀ r : Fin 1024, State (s r) v n (m (ix3 0 r 0)) fun d => acc (ix3 0 r d)

/-- The largest entry of a row of the first tile, a real when the scores are. -/
theorem row_max_first (S : Vec Ideal S1x1024x256 .f32) (s : Fin 1024 → ℕ → ℝ)
    (hS : ∀ (r : Fin 1024) (x : Fin 256), S (ix3 0 r x) = (s r x : ℝ)) (r : Fin 1024) :
    ∃ ρ : ℝ, multiReduction .maximumf [1] S1024 (k0_pay11 S) 0xFF800000#32 reduces_S1024x256_S1024 (.inl rfl) rfl (ix1 r)
      = (ρ : EReal) := by
  have e := Ideal.multiReduction_maximumf_single (k0_pay11 S) 0xFF800000#32 reduces_S1024x256_S1024 (.inl rfl) rfl (ix1 r)
  rw [ofBits_negInf] at e
  obtain ⟨ρ, hρ⟩ := exists_fold_max (Finset.univ : Finset (Fin (S1024x256.size 1))) ⟨⟨0, by decide⟩, Finset.mem_univ _⟩
    (k0_pay11 S ∘ reduces_S1024x256_S1024.lift (ix1 r)) fun i _ => by
      show ∃ ρ : ℝ, k0_pay11 S (reduces_S1024x256_S1024.lift (ix1 r) i) = _
      generalize reduces_S1024x256_S1024.lift (ix1 r) i = y
      refine ⟨_, Eq.trans ?_ (hS (y 0) (y 1))⟩
      pointwise [k0_pay11]
  exact ⟨ρ, e.trans hρ⟩

/-- The largest entry of a row of a further tile, a real when the scores are. -/
theorem row_max_step (S : Vec Ideal S1x1024x2048 .f32) (s : Fin 1024 → ℕ → ℝ) (n : ℕ)
    (hS : ∀ (r : Fin 1024) (x : Fin 2048), S (ix3 0 r x) = (s r (n + x) : ℝ)) (r : Fin 1024) :
    ∃ ρ : ℝ, multiReduction .maximumf [1] S1024 (k0_pay32 S) 0xFF800000#32 reduces_S1024x2048_S1024 (.inl rfl) rfl (ix1 r)
      = (ρ : EReal) := by
  have e := Ideal.multiReduction_maximumf_single (k0_pay32 S) 0xFF800000#32 reduces_S1024x2048_S1024 (.inl rfl) rfl (ix1 r)
  rw [ofBits_negInf] at e
  obtain ⟨ρ, hρ⟩ := exists_fold_max (Finset.univ : Finset (Fin (S1024x2048.size 1))) ⟨⟨0, by decide⟩, Finset.mem_univ _⟩
    (k0_pay32 S ∘ reduces_S1024x2048_S1024.lift (ix1 r)) fun i _ => by
      show ∃ ρ : ℝ, k0_pay32 S (reduces_S1024x2048_S1024.lift (ix1 r) i) = _
      generalize reduces_S1024x2048_S1024.lift (ix1 r) i = y
      refine ⟨_, Eq.trans ?_ (hS (y 0) (y 1))⟩
      pointwise [k0_pay32]
  exact ⟨ρ, e.trans hρ⟩

/-- The running maximum after the first tile. -/
theorem max_first (S : Vec Ideal S1x1024x256 .f32) (m : Vec Ideal S1x1024x1 .f32) (r : Fin 1024) :
    k0_pay48 (k0_pay7 S m) (ix3 0 r 0) = max (m (ix3 0 r 0))
      (multiReduction .maximumf [1] S1024 (k0_pay11 S) 0xFF800000#32 reduces_S1024x256_S1024 (.inl rfl) rfl (ix1 r)) := by
  unfold k0_pay7
  change k0_pay48 (maximumf (k0_pay6 m) (shapeCast S1024x1 (multiReduction .maximumf [1] S1024 (k0_pay11 S) 0xFF800000#32
    reduces_S1024x256_S1024 (.inl rfl) rfl) shapeCasts_S1024_S1024x1)) (ix3 0 r 0) = _
  generalize multiReduction .maximumf [1] S1024 (k0_pay11 S) 0xFF800000#32 reduces_S1024x256_S1024 (.inl rfl) rfl = R
  pointwise [k0_pay6, k0_pay48]

/-- The running maximum after a further tile. -/
theorem max_step (S : Vec Ideal S1x1024x2048 .f32) (m : Vec Ideal S1x1024x1 .f32) (r : Fin 1024) :
    k0_pay36 S m (ix3 0 r 0) = max (m (ix3 0 r 0))
      (multiReduction .maximumf [1] S1024 (k0_pay32 S) 0xFF800000#32 reduces_S1024x2048_S1024 (.inl rfl) rfl (ix1 r)) := by
  unfold k0_pay36 k0_pay34
  generalize multiReduction .maximumf [1] S1024 (k0_pay32 S) 0xFF800000#32 reduces_S1024x2048_S1024 (.inl rfl) rfl = R
  pointwise [k0_pay33]

/-- The accumulator after the first tile. -/
theorem acc_first (S : Vec Ideal S1x1024x256 .f32) (m : Vec Ideal S1x1024x1 .f32) (acc : Vec Ideal S1x1024x256 .f32)
    (V : Vec Ideal S1x256x256 .bf16) (r : Fin 1024) (d : Fin 256) :
    k0_pay8 S m acc V (ix3 0 r d)
      = Ideal.exp2 (m (ix3 0 r 0) - k0_pay48 (k0_pay7 S m) (ix3 0 r 0)) * acc (ix3 0 r d)
        + ∑ x : Fin 256, Ideal.exp2 (S (ix3 0 r x) - k0_pay48 (k0_pay7 S m) (ix3 0 r 0)) * V (ix3 0 x d) := by
  unfold k0_pay8
  generalize k0_pay7 S m = M
  pointwise [k0_pay5, k0_pay6, k0_pay48]
  rfl

/-- The accumulator after a further tile. -/
theorem acc_step (S : Vec Ideal S1x1024x2048 .f32) (m : Vec Ideal S1x1024x1 .f32) (acc : Vec Ideal S1x1024x256 .f32)
    (V : Vec Ideal S1x2048x256 .bf16) (r : Fin 1024) (d : Fin 256) :
    k0_pay35 S m acc V (ix3 0 r d)
      = Ideal.exp2 (m (ix3 0 r 0) - k0_pay36 S m (ix3 0 r 0)) * acc (ix3 0 r d)
        + ∑ x : Fin 2048, Ideal.exp2 (S (ix3 0 r x) - k0_pay36 S m (ix3 0 r 0)) * V (ix3 0 x d) := by
  unfold k0_pay35 k0_pay36
  generalize k0_pay34 S m = M
  pointwise [k0_pay32, k0_pay33]
  rfl

/-- The first tile's update, from the initial pair. -/
theorem rows_first (s : Fin 1024 → ℕ → ℝ) (v : ℕ → Fin 256 → ℝ) (S : Vec Ideal S1x1024x256 .f32)
    (V : Vec Ideal S1x256x256 .bf16) (hS : ∀ (r : Fin 1024) (x : Fin 256), S (ix3 0 r x) = (s r x : ℝ))
    (hV : ∀ (x d : Fin 256), V (ix3 0 x d) = (v x d : ℝ)) :
    Rows s v 256 (k0_pay48 (k0_pay7 S (k0_pay38 (F := Ideal)))) (k0_pay8 S (k0_pay38 (F := Ideal)) (k0_pay39 (F := Ideal)) V) := by
  intro r
  refine State.first (s r) v (fun x => S (ix3 0 r x)) (fun x d => V (ix3 0 x d)) (hS r) hV (row_max_first S s hS r) ?_ ?_
  · rw [max_first, max_init]
  · intro d; rw [acc_first, max_init, acc_init]

/-- A further tile's update. -/
theorem rows_step (s : Fin 1024 → ℕ → ℝ) (v : ℕ → Fin 256 → ℝ) (n : ℕ) (m : Vec Ideal S1x1024x1 .f32)
    (acc : Vec Ideal S1x1024x256 .f32) (h : Rows s v n m acc) (S : Vec Ideal S1x1024x2048 .f32)
    (V : Vec Ideal S1x2048x256 .bf16) (hS : ∀ (r : Fin 1024) (x : Fin 2048), S (ix3 0 r x) = (s r (n + x) : ℝ))
    (hV : ∀ (x : Fin 2048) (d : Fin 256), V (ix3 0 x d) = (v (n + x) d : ℝ)) :
    Rows s v (n + 2048) (k0_pay36 S m) (k0_pay35 S m acc V) := by
  intro r
  refine State.step (h r) (fun x => S (ix3 0 r x)) (fun x d => V (ix3 0 x d)) (hS r) hV (row_max_step S s n hS r) ?_ ?_
  · rw [max_step]
  · intro d; rw [acc_step]

end Cert.KernelIdeal.Att

end
-- ==== Proof.Pack.lean ====
/-
  The attention body stacks its block of queries: head `h`'s 256 columns of the 128 query rows become the rows
  `128·h … 128·h + 127` of one matrix, so that all heads meet the shared keys in one product.
-/
module

public import proofs.«01_k».proof.Proof.Payloads
public import proofs.«01_k».proof.Proof.Gen.KernelIdeal.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.KernelIdeal.Att

open Cert.KernelIdeal Cert.KernelIdeal.Gen Idealize.ShloMosaic Idealize.ShloMosaic.TcCoe

/-- Entry `k` of stacked query row `r`: row `r % 128`, head `r / 128`. -/
def qAt (x0 : Vec Ideal S1x128x2048 .bf16) (r : Fin 1024) (k : Fin 256) : EReal :=
  x0 (ix3 0 ⟨r.1 % 128, Nat.mod_lt _ (by decide)⟩ ⟨r.1 / 128 * 256 + k.1, by have := r.isLt; have := k.isLt; omega⟩)

/-- An entry of the block of queries, by the row and head it belongs to. -/
theorem eq_qAt (x0 : Vec Ideal S1x128x2048 .bf16) (r : Fin 1024) (k : Fin 256) (z : S1x128x2048.Idx)
    (hr : (z 1).1 = r.1 % 128) (hk : (z 2).1 = r.1 / 128 * 256 + k.1) : x0 z = qAt x0 r k := by
  unfold qAt
  congr 1
  funext a
  fin_cases a
  · exact Subsingleton.elim (α := Fin 1) _ _
  · exact Fin.ext hr
  · exact Fin.ext hk

variable (c : Dev nD) (arg2 : Memref sig .tc .vmem S1x128x2048 .bf16) (harg2 : arg2.IsWhole)
  (arg6 : Memref sig .tc .vmem S1x1024x256 .bf16) (x0 : Vec Ideal S1x128x2048 .bf16)

/-- The stacked queries (context-tile case). -/
theorem packed_A_at (x : S1x1024x256.Idx) : kernelRun0_A.sl.v95 (F := Ideal) c arg2 harg2 arg6 x0 x = qAt x0 (x 1) (x 2) := by
  unfold kernelRun0_A.sl.v95
  rw [View.readCov_eq_canon']
  unfold kernelRun0_A.sl.HS0_8
  canon_tiles x h
  all_goals open_payloads
  all_goals try unfold kernelRun0_A.sl.r
  all_goals pointwise []
  all_goals
    rw [Rect.idx_unit_val] at h1 h2
    first
      | rw [harg2.read_unread]; refine eq_qAt x0 _ _ _ ?_ ?_
      | rw [harg2.readAt_unread]; refine eq_qAt x0 _ _ _ ?_ ?_
    all_goals
      try rw [Rect.idx_unit_val]
      simp [ix3] at h1 h2 ⊢
      omega

/-- The stacked queries (latent-tile case). -/
theorem packed_B_at (x : S1x1024x256.Idx) : kernelRun0_B.sl.v95 (F := Ideal) c arg2 harg2 arg6 x0 x = qAt x0 (x 1) (x 2) := by
  unfold kernelRun0_B.sl.v95
  rw [View.readCov_eq_canon']
  unfold kernelRun0_B.sl.HS0_8
  canon_tiles x h
  all_goals open_payloads
  all_goals try unfold kernelRun0_B.sl.r
  all_goals pointwise []
  all_goals
    rw [Rect.idx_unit_val] at h1 h2
    first
      | rw [harg2.read_unread]; refine eq_qAt x0 _ _ _ ?_ ?_
      | rw [harg2.readAt_unread]; refine eq_qAt x0 _ _ _ ?_ ?_
    all_goals
      try rw [Rect.idx_unit_val]
      simp [ix3] at h1 h2 ⊢
      omega

end Cert.KernelIdeal.Att

end
-- ==== Proof.Tiles.lean ====
/-
  The attention body's running maximum and accumulator, tile by tile: after each tile the pair is, on every stacked
  row, in the state the keys met so far leave (`Online.State`).
-/
module

public import proofs.«01_k».proof.Proof.Pack

@[expose] public section

set_option maxRecDepth 16384

noncomputable section

namespace Cert.KernelIdeal.Att

open Cert.KernelIdeal Cert.KernelIdeal.Gen Idealize.ShloMosaic Idealize.ShloMosaic.TcCoe Cert.Online

/-- The blocks of one grid point are real: `s r j` is the score of stacked query row `r` on key `j`, `v j` the value
    row of key `j`. -/
structure Blocks (x0 : Vec Ideal S1x128x2048 .bf16) (x1 x2 : Vec Ideal S1x8448x256 .bf16) (s : Fin 1024 → ℕ → ℝ)
    (v : ℕ → Fin 256 → ℝ) : Prop where
  score : ∀ (r : Fin 1024) (j : ℕ) (hj : j < 8448), ∑ k : Fin 256, qAt x0 r k * x1 (ix3 0 ⟨j, hj⟩ k) = (s r j : ℝ)
  val : ∀ (j : ℕ) (hj : j < 8448) (d : Fin 256), x2 (ix3 0 ⟨j, hj⟩ d) = (v j d : ℝ)

variable (c : Dev nD) (arg2 : Memref sig .tc .vmem S1x128x2048 .bf16) (harg2 : arg2.IsWhole)
  (arg3 : Memref sig .tc .vmem S1x8448x256 .bf16) (harg3 : arg3.IsWhole)
  (arg4 : Memref sig .tc .vmem S1x8448x256 .bf16) (harg4 : arg4.IsWhole)
  (arg6 : Memref sig .tc .vmem S1x1024x256 .bf16) (arg7 : Memref sig .tc .vmem S1x1024x1 .f32)
  (arg8 : Memref sig .tc .vmem S1x1024x256 .f32) (arg9 arg10 : Memref sig .tc .vmem S1x1024x2048 .f32)
  (arg11 : Memref sig .tc .vmem S1x1024x256 .f32)
  (x0 : Vec Ideal S1x128x2048 .bf16) (x1 x2 : Vec Ideal S1x8448x256 .bf16)

/-- A tile of 256 keys (or value rows), read from the staged block. -/
theorem tile_first (X : Memref sig .tc .vmem S1x8448x256 .bf16) (hX : X.IsWhole) (x : Vec Ideal S1x8448x256 .bf16)
    (off : ℕ) (inb) (j : Fin 256) (k : Fin 256) (hj : off + j.1 < 8448) :
    View.readAt (Elt Ideal) X.view (Rect.unit (s := S1x8448x256) ![0, off, 0] S1x256x256.size inb).toLoadRect (hX.unread x) (ix3 0 j k)
      = x (ix3 0 ⟨off + j.1, hj⟩ k) := by
  rw [Memref.IsWhole.readAt_unread hX]
  congr 1
  funext a
  refine Fin.ext ((Rect.idx_unit_val _ _ _ _ a).trans ?_)
  fin_cases a <;> simp [ix3]

/-- A tile of 2048 keys (or value rows), read from the staged block. -/
theorem tile_step (X : Memref sig .tc .vmem S1x8448x256 .bf16) (hX : X.IsWhole) (x : Vec Ideal S1x8448x256 .bf16)
    (off : ℕ) (inb) (j : Fin 2048) (k : Fin 256) (hj : off + j.1 < 8448) :
    View.readAt (Elt Ideal) X.view (Rect.unit (s := S1x8448x256) ![0, off, 0] S1x2048x256.size inb).toLoadRect (hX.unread x) (ix3 0 j k)
      = x (ix3 0 ⟨off + j.1, hj⟩ k) := by
  rw [Memref.IsWhole.readAt_unread hX]
  congr 1
  funext a
  refine Fin.ext ((Rect.idx_unit_val _ _ _ _ a).trans ?_)
  fin_cases a <;> simp [ix3]

variable {s : Fin 1024 → ℕ → ℝ} {v : ℕ → Fin 256 → ℝ} (H : Blocks x0 x1 x2 s v)

include H

/-- The scores of the first tile. -/
theorem scores_first (Q : Vec Ideal S1x1024x256 .bf16) (hQ : ∀ x, Q x = qAt x0 (x 1) (x 2)) (inb) (r : Fin 1024) (x : Fin 256) :
    k0_pay9 (View.readAt (Elt Ideal) arg3.view (Rect.unit (s := S1x8448x256) ![0, 0, 0] S1x256x256.size inb).toLoadRect (harg3.unread x1)) Q
      (ix3 0 r x) = (s r x : ℝ) := by
  rw [score_first, ← H.score r x (by have := x.isLt; omega)]
  refine Finset.sum_congr rfl fun k _ => ?_
  rw [hQ, tile_first arg3 harg3 x1 0 inb x k (by have := x.isLt; omega)]
  exact congrArg (fun i => qAt x0 r k * x1 (ix3 0 i k)) (Fin.ext (Nat.zero_add _))

/-- The scores of a further tile, the keys from `off` on. -/
theorem scores_step (Q : Vec Ideal S1x1024x256 .bf16) (hQ : ∀ x, Q x = qAt x0 (x 1) (x 2)) (off : ℕ) (hoff : off + 2048 ≤ 8448)
    (inb) (r : Fin 1024) (x : Fin 2048) :
    k0_pay18 (View.readAt (Elt Ideal) arg3.view (Rect.unit (s := S1x8448x256) ![0, off, 0] S1x2048x256.size inb).toLoadRect (harg3.unread x1)) Q
      (ix3 0 r x) = (s r (off + x) : ℝ) := by
  rw [score_step, ← H.score r (off + x) (by have := x.isLt; omega)]
  refine Finset.sum_congr rfl fun k _ => ?_
  rw [hQ, tile_step arg3 harg3 x1 off inb x k (by have := x.isLt; omega)]
  rfl

/-- The value rows of the first tile. -/
theorem vals_first (inb) (x : Fin 256) (d : Fin 256) :
    View.readAt (Elt Ideal) arg4.view (Rect.unit (s := S1x8448x256) ![0, 0, 0] S1x256x256.size inb).toLoadRect (harg4.unread x2)
      (ix3 0 x d) = (v x d : ℝ) := by
  rw [tile_first arg4 harg4 x2 0 inb x d (by have := x.isLt; omega), H.val, Nat.zero_add]

/-- The value rows of a further tile. -/
theorem vals_step (off : ℕ) (hoff : off + 2048 ≤ 8448) (inb) (x : Fin 2048) (d : Fin 256) :
    View.readAt (Elt Ideal) arg4.view (Rect.unit (s := S1x8448x256) ![0, off, 0] S1x2048x256.size inb).toLoadRect (harg4.unread x2)
      (ix3 0 x d) = (v (off + x) d : ℝ) := by
  rw [tile_step arg4 harg4 x2 off inb x d (by have := x.isLt; omega), H.val]

omit H

/-! ### Latent tiles: the words of the run, in terms of the tile step -/

theorem B_v111 : (kernelRun0_B.sl.v111 (F := Ideal) c arg7) = k0_pay38 (F := Ideal) := by
  unfold kernelRun0_B.sl.v111 kernelRun0_B.sl.HS1_1
  refine (View.readCov_unit_lit' _ _ _ (by decide)).trans ?_
  rfl

theorem B_v122 : (kernelRun0_B.sl.v122 (F := Ideal) c arg8) = k0_pay39 (F := Ideal) := by
  unfold kernelRun0_B.sl.v122 kernelRun0_B.sl.HS2_1
  refine (View.readCov_unit_lit' _ _ _ (by decide)).trans ?_
  rfl

theorem B_v109 : (kernelRun0_B.sl.v109 (F := Ideal) c arg2 harg2 arg3 harg3 arg6 arg11 x0 x1) = k0_pay9 (View.readAt (Elt Ideal) arg3.view (Rect.unit (s := S1x8448x256) ![0, 0, 0] S1x256x256.size inb_S1x8448x256_S1x256x256_0_0_0).toLoadRect (harg3.unread x1)) (kernelRun0_B.sl.v95 (F := Ideal) c arg2 harg2 arg6 x0) := by
  unfold kernelRun0_B.sl.v109 kernelRun0_B.sl.HS5_1
  refine (View.readCov_unit_lit' _ _ _ (by decide)).trans ?_
  rfl

theorem B_v144 : (kernelRun0_B.sl.v144 (F := Ideal) c arg2 harg2 arg3 harg3 arg6 arg9 x0 x1) = k0_pay18 (View.readAt (Elt Ideal) arg3.view (Rect.unit (s := S1x8448x256) ![0, 256, 0] S1x2048x256.size inb_S1x8448x256_S1x2048x256_0_256_0).toLoadRect (harg3.unread x1)) (kernelRun0_B.sl.v95 (F := Ideal) c arg2 harg2 arg6 x0) := by
  unfold kernelRun0_B.sl.v144 kernelRun0_B.sl.HS3_1
  refine (View.readCov_unit_lit' _ _ _ (by decide)).trans ?_
  rfl

theorem B_v179 : (kernelRun0_B.sl.v179 (F := Ideal) c arg2 harg2 arg3 harg3 arg6 arg10 x0 x1) = k0_pay18 (View.readAt (Elt Ideal) arg3.view (Rect.unit (s := S1x8448x256) ![0, 2304, 0] S1x2048x256.size inb_S1x8448x256_S1x2048x256_0_2304_0).toLoadRect (harg3.unread x1)) (kernelRun0_B.sl.v95 (F := Ideal) c arg2 harg2 arg6 x0) := by
  unfold kernelRun0_B.sl.v179 kernelRun0_B.sl.HS4_1
  refine (View.readCov_unit_lit' _ _ _ (by decide)).trans ?_
  rfl

theorem B_v214 : (kernelRun0_B.sl.v214 (F := Ideal) c arg2 harg2 arg3 harg3 arg6 arg9 x0 x1) = k0_pay18 (View.readAt (Elt Ideal) arg3.view (Rect.unit (s := S1x8448x256) ![0, 4352, 0] S1x2048x256.size inb_S1x8448x256_S1x2048x256_0_4352_0).toLoadRect (harg3.unread x1)) (kernelRun0_B.sl.v95 (F := Ideal) c arg2 harg2 arg6 x0) := by
  unfold kernelRun0_B.sl.v214 kernelRun0_B.sl.HS3_2
  refine (View.readCov_cons_unit_lit' _ _ _ _ _ (by decide) (by decide)).trans ?_
  rfl

theorem B_v241 : (kernelRun0_B.sl.v241 (F := Ideal) c arg2 harg2 arg3 harg3 arg6 arg10 x0 x1) = k0_pay18 (View.readAt (Elt Ideal) arg3.view (Rect.unit (s := S1x8448x256) ![0, 6400, 0] S1x2048x256.size inb_S1x8448x256_S1x2048x256_0_6400_0).toLoadRect (harg3.unread x1)) (kernelRun0_B.sl.v95 (F := Ideal) c arg2 harg2 arg6 x0) := by
  unfold kernelRun0_B.sl.v241 kernelRun0_B.sl.HS4_2
  refine (View.readCov_cons_unit_lit' _ _ _ _ _ (by decide) (by decide)).trans ?_
  unfold kernelRun0_B.sl.r_8
  rfl

theorem B_v146 : (kernelRun0_B.sl.v146 (F := Ideal) c arg2 harg2 arg3 harg3 arg6 arg7 arg11 x0 x1) = k0_pay48 (k0_pay7 (kernelRun0_B.sl.v109 (F := Ideal) c arg2 harg2 arg3 harg3 arg6 arg11 x0 x1) (k0_pay38 (F := Ideal))) := by
  unfold kernelRun0_B.sl.v146 kernelRun0_B.sl.HS1_2
  refine (View.readCov_cons_unit_lit' _ _ _ _ _ (by decide) (by decide)).trans ?_
  unfold kernelRun0_B.sl.r_1
  rw [B_v111]
  rfl

theorem B_v157 : (kernelRun0_B.sl.v157 (F := Ideal) c arg2 harg2 arg3 harg3 arg4 harg4 arg6 arg7 arg8 arg11 x0 x1 x2) = k0_pay8 (kernelRun0_B.sl.v109 (F := Ideal) c arg2 harg2 arg3 harg3 arg6 arg11 x0 x1) (k0_pay38 (F := Ideal)) (k0_pay39 (F := Ideal)) (View.readAt (Elt Ideal) arg4.view (Rect.unit (s := S1x8448x256) ![0, 0, 0] S1x256x256.size inb_S1x8448x256_S1x256x256_0_0_0).toLoadRect (harg4.unread x2)) := by
  unfold kernelRun0_B.sl.v157 kernelRun0_B.sl.HS2_2
  refine (View.readCov_cons_unit_lit' _ _ _ _ _ (by decide) (by decide)).trans ?_
  unfold kernelRun0_B.sl.r_2 kernelRun0_B.sl.r_3
  rw [B_v111, B_v122]
  rfl

theorem B_v181 : (kernelRun0_B.sl.v181 (F := Ideal) c arg2 harg2 arg3 harg3 arg6 arg7 arg9 arg11 x0 x1) = k0_pay36 (kernelRun0_B.sl.v144 (F := Ideal) c arg2 harg2 arg3 harg3 arg6 arg9 x0 x1) (kernelRun0_B.sl.v146 (F := Ideal) c arg2 harg2 arg3 harg3 arg6 arg7 arg11 x0 x1) := by
  unfold kernelRun0_B.sl.v181 kernelRun0_B.sl.HS1_3
  refine (View.readCov_cons_unit_lit' _ _ _ _ _ (by decide) (by decide)).trans ?_
  unfold kernelRun0_B.sl.r_6
  rfl

theorem B_v192 : (kernelRun0_B.sl.v192 (F := Ideal) c arg2 harg2 arg3 harg3 arg4 harg4 arg6 arg7 arg8 arg9 arg11 x0 x1 x2) = k0_pay35 (kernelRun0_B.sl.v144 (F := Ideal) c arg2 harg2 arg3 harg3 arg6 arg9 x0 x1) (kernelRun0_B.sl.v146 (F := Ideal) c arg2 harg2 arg3 harg3 arg6 arg7 arg11 x0 x1) (kernelRun0_B.sl.v157 (F := Ideal) c arg2 harg2 arg3 harg3 arg4 harg4 arg6 arg7 arg8 arg11 x0 x1 x2) (View.readAt (Elt Ideal) arg4.view (Rect.unit (s := S1x8448x256) ![0, 256, 0] S1x2048x256.size inb_S1x8448x256_S1x2048x256_0_256_0).toLoadRect (harg4.unread x2)) := by
  unfold kernelRun0_B.sl.v192 kernelRun0_B.sl.HS2_3
  refine (View.readCov_cons_unit_lit' _ _ _ _ _ (by decide) (by decide)).trans ?_
  unfold kernelRun0_B.sl.r_4 kernelRun0_B.sl.r_5 kernelRun0_B.sl.r_6
  rfl

theorem B_v216 : (kernelRun0_B.sl.v216 (F := Ideal) c arg2 harg2 arg3 harg3 arg6 arg7 arg9 arg10 arg11 x0 x1) = k0_pay36 (kernelRun0_B.sl.v179 (F := Ideal) c arg2 harg2 arg3 harg3 arg6 arg10 x0 x1) (kernelRun0_B.sl.v181 (F := Ideal) c arg2 harg2 arg3 harg3 arg6 arg7 arg9 arg11 x0 x1) := by
  unfold kernelRun0_B.sl.v216 kernelRun0_B.sl.HS1_4
  refine (View.readCov_cons_unit_lit' _ _ _ _ _ (by decide) (by decide)).trans ?_
  unfold kernelRun0_B.sl.r_7
  rfl

theorem B_v227 : (kernelRun0_B.sl.v227 (F := Ideal) c arg2 harg2 arg3 harg3 arg4 harg4 arg6 arg7 arg8 arg9 arg10 arg11 x0 x1 x2) = k0_pay35 (kernelRun0_B.sl.v179 (F := Ideal) c arg2 harg2 arg3 harg3 arg6 arg10 x0 x1) (kernelRun0_B.sl.v181 (F := Ideal) c arg2 harg2 arg3 harg3 arg6 arg7 arg9 arg11 x0 x1) (kernelRun0_B.sl.v192 (F := Ideal) c arg2 harg2 arg3 harg3 arg4 harg4 arg6 arg7 arg8 arg9 arg11 x0 x1 x2) (View.readAt (Elt Ideal) arg4.view (Rect.unit (s := S1x8448x256) ![0, 2304, 0] S1x2048x256.size inb_S1x8448x256_S1x2048x256_0_2304_0).toLoadRect (harg4.unread x2)) := by
  unfold kernelRun0_B.sl.v227 kernelRun0_B.sl.HS2_4
  refine (View.readCov_cons_unit_lit' _ _ _ _ _ (by decide) (by decide)).trans ?_
  unfold kernelRun0_B.sl.r_7
  rfl

theorem B_v243 : (kernelRun0_B.sl.v243 (F := Ideal) c arg2 harg2 arg3 harg3 arg6 arg7 arg9 arg10 arg11 x0 x1) = k0_pay36 (kernelRun0_B.sl.v214 (F := Ideal) c arg2 harg2 arg3 harg3 arg6 arg9 x0 x1) (kernelRun0_B.sl.v216 (F := Ideal) c arg2 harg2 arg3 harg3 arg6 arg7 arg9 arg10 arg11 x0 x1) := by
  unfold kernelRun0_B.sl.v243 kernelRun0_B.sl.HS1_5
  refine (View.readCov_cons_unit_lit' _ _ _ _ _ (by decide) (by decide)).trans ?_
  rfl

theorem B_v254 : (kernelRun0_B.sl.v254 (F := Ideal) c arg2 harg2 arg3 harg3 arg4 harg4 arg6 arg7 arg8 arg9 arg10 arg11 x0 x1 x2) = k0_pay35 (kernelRun0_B.sl.v214 (F := Ideal) c arg2 harg2 arg3 harg3 arg6 arg9 x0 x1) (kernelRun0_B.sl.v216 (F := Ideal) c arg2 harg2 arg3 harg3 arg6 arg7 arg9 arg10 arg11 x0 x1) (kernelRun0_B.sl.v227 (F := Ideal) c arg2 harg2 arg3 harg3 arg4 harg4 arg6 arg7 arg8 arg9 arg10 arg11 x0 x1 x2) (View.readAt (Elt Ideal) arg4.view (Rect.unit (s := S1x8448x256) ![0, 4352, 0] S1x2048x256.size inb_S1x8448x256_S1x2048x256_0_4352_0).toLoadRect (harg4.unread x2)) := by
  unfold kernelRun0_B.sl.v254 kernelRun0_B.sl.HS2_5
  refine (View.readCov_cons_unit_lit' _ _ _ _ _ (by decide) (by decide)).trans ?_
  rfl

theorem B_v54 : (kernelRun0_B.sl.v54 (F := Ideal) c arg2 harg2 arg3 harg3 arg4 harg4 arg6 arg7 arg8 arg9 arg10 arg11 x0 x1 x2) = k0_pay35 (kernelRun0_B.sl.v241 (F := Ideal) c arg2 harg2 arg3 harg3 arg6 arg10 x0 x1) (kernelRun0_B.sl.v243 (F := Ideal) c arg2 harg2 arg3 harg3 arg6 arg7 arg9 arg10 arg11 x0 x1) (kernelRun0_B.sl.v254 (F := Ideal) c arg2 harg2 arg3 harg3 arg4 harg4 arg6 arg7 arg8 arg9 arg10 arg11 x0 x1 x2) (View.readAt (Elt Ideal) arg4.view (Rect.unit (s := S1x8448x256) ![0, 6400, 0] S1x2048x256.size inb_S1x8448x256_S1x2048x256_0_6400_0).toLoadRect (harg4.unread x2)) := by
  unfold kernelRun0_B.sl.v54 kernelRun0_B.sl.HS2_6
  refine (View.readCov_cons_unit_lit' _ _ _ _ _ (by decide) (by decide)).trans ?_
  unfold kernelRun0_B.sl.r_9
  rfl

/-! ### Latent tiles: the states -/

include H

theorem B_rows_1 : Rows s v 256 (kernelRun0_B.sl.v146 (F := Ideal) c arg2 harg2 arg3 harg3 arg6 arg7 arg11 x0 x1) (kernelRun0_B.sl.v157 (F := Ideal) c arg2 harg2 arg3 harg3 arg4 harg4 arg6 arg7 arg8 arg11 x0 x1 x2) := by
  rw [B_v146, B_v157]
  refine rows_first s v _ _ (fun r x => ?_) fun x d => ?_
  · rw [B_v109]; exact scores_first arg3 harg3 x0 x1 x2 H _ (packed_B_at c arg2 harg2 arg6 x0) _ r x
  · exact vals_first arg4 harg4 x0 x1 x2 H _ x d

theorem B_rows_2 : Rows s v 2304 (kernelRun0_B.sl.v181 (F := Ideal) c arg2 harg2 arg3 harg3 arg6 arg7 arg9 arg11 x0 x1) (kernelRun0_B.sl.v192 (F := Ideal) c arg2 harg2 arg3 harg3 arg4 harg4 arg6 arg7 arg8 arg9 arg11 x0 x1 x2) := by
  rw [B_v181, B_v192]
  refine rows_step s v 256 _ _ (B_rows_1 c arg2 harg2 arg3 harg3 arg4 harg4 arg6 arg7 arg8 arg11 x0 x1 x2 H) _ _ (fun r x => ?_) fun x d => ?_
  · rw [B_v144]; exact scores_step arg3 harg3 x0 x1 x2 H _ (packed_B_at c arg2 harg2 arg6 x0) 256 (by decide) _ r x
  · exact vals_step arg4 harg4 x0 x1 x2 H 256 (by decide) _ x d

theorem B_rows_3 : Rows s v 4352 (kernelRun0_B.sl.v216 (F := Ideal) c arg2 harg2 arg3 harg3 arg6 arg7 arg9 arg10 arg11 x0 x1) (kernelRun0_B.sl.v227 (F := Ideal) c arg2 harg2 arg3 harg3 arg4 harg4 arg6 arg7 arg8 arg9 arg10 arg11 x0 x1 x2) := by
  rw [B_v216, B_v227]
  refine rows_step s v 2304 _ _ (B_rows_2 c arg2 harg2 arg3 harg3 arg4 harg4 arg6 arg7 arg8 arg9 arg11 x0 x1 x2 H) _ _ (fun r x => ?_) fun x d => ?_
  · rw [B_v179]; exact scores_step arg3 harg3 x0 x1 x2 H _ (packed_B_at c arg2 harg2 arg6 x0) 2304 (by decide) _ r x
  · exact vals_step arg4 harg4 x0 x1 x2 H 2304 (by decide) _ x d

theorem B_rows_4 : Rows s v 6400 (kernelRun0_B.sl.v243 (F := Ideal) c arg2 harg2 arg3 harg3 arg6 arg7 arg9 arg10 arg11 x0 x1) (kernelRun0_B.sl.v254 (F := Ideal) c arg2 harg2 arg3 harg3 arg4 harg4 arg6 arg7 arg8 arg9 arg10 arg11 x0 x1 x2) := by
  rw [B_v243, B_v254]
  refine rows_step s v 4352 _ _ (B_rows_3 c arg2 harg2 arg3 harg3 arg4 harg4 arg6 arg7 arg8 arg9 arg10 arg11 x0 x1 x2 H) _ _ (fun r x => ?_) fun x d => ?_
  · rw [B_v214]; exact scores_step arg3 harg3 x0 x1 x2 H _ (packed_B_at c arg2 harg2 arg6 x0) 4352 (by decide) _ r x
  · exact vals_step arg4 harg4 x0 x1 x2 H 4352 (by decide) _ x d

/-- After the last tile, the accumulator holds what all 8448 keys leave. -/
theorem B_rows : Rows s v 8448 (k0_pay36 (kernelRun0_B.sl.v241 (F := Ideal) c arg2 harg2 arg3 harg3 arg6 arg10 x0 x1) (kernelRun0_B.sl.v243 (F := Ideal) c arg2 harg2 arg3 harg3 arg6 arg7 arg9 arg10 arg11 x0 x1)) (kernelRun0_B.sl.v54 (F := Ideal) c arg2 harg2 arg3 harg3 arg4 harg4 arg6 arg7 arg8 arg9 arg10 arg11 x0 x1 x2) := by
  rw [B_v54]
  refine rows_step s v 6400 _ _ (B_rows_4 c arg2 harg2 arg3 harg3 arg4 harg4 arg6 arg7 arg8 arg9 arg10 arg11 x0 x1 x2 H) _ _ (fun r x => ?_) fun x d => ?_
  · rw [B_v241]; exact scores_step arg3 harg3 x0 x1 x2 H _ (packed_B_at c arg2 harg2 arg6 x0) 6400 (by decide) _ r x
  · exact vals_step arg4 harg4 x0 x1 x2 H 6400 (by decide) _ x d

omit H

/-! ### Context tiles -/

theorem A_v103 : (kernelRun0_A.sl.v103 (F := Ideal) c arg7) = k0_pay38 (F := Ideal) := by
  unfold kernelRun0_A.sl.v103 kernelRun0_A.sl.HS1_1
  refine (View.readCov_unit_lit' _ _ _ (by decide)).trans ?_
  rfl

theorem A_v114 : (kernelRun0_A.sl.v114 (F := Ideal) c arg8) = k0_pay39 (F := Ideal) := by
  unfold kernelRun0_A.sl.v114 kernelRun0_A.sl.HS2_1
  refine (View.readCov_unit_lit' _ _ _ (by decide)).trans ?_
  rfl

theorem A_v101 : (kernelRun0_A.sl.v101 (F := Ideal) c arg2 harg2 arg3 harg3 arg6 arg11 x0 x1) = k0_pay9 (View.readAt (Elt Ideal) arg3.view (Rect.unit (s := S1x8448x256) ![0, 0, 0] S1x256x256.size inb_S1x8448x256_S1x256x256_0_0_0).toLoadRect (harg3.unread x1)) (kernelRun0_A.sl.v95 (F := Ideal) c arg2 harg2 arg6 x0) := by
  unfold kernelRun0_A.sl.v101 kernelRun0_A.sl.HS5_1
  refine (View.readCov_unit_lit' _ _ _ (by decide)).trans ?_
  rfl

theorem A_v54 : (kernelRun0_A.sl.v54 (F := Ideal) c arg2 harg2 arg3 harg3 arg4 harg4 arg6 arg7 arg8 arg11 x0 x1 x2) = k0_pay8 (kernelRun0_A.sl.v101 (F := Ideal) c arg2 harg2 arg3 harg3 arg6 arg11 x0 x1) (k0_pay38 (F := Ideal)) (k0_pay39 (F := Ideal)) (View.readAt (Elt Ideal) arg4.view (Rect.unit (s := S1x8448x256) ![0, 0, 0] S1x256x256.size inb_S1x8448x256_S1x256x256_0_0_0).toLoadRect (harg4.unread x2)) := by
  unfold kernelRun0_A.sl.v54 kernelRun0_A.sl.HS2_2
  refine (View.readCov_cons_unit_lit' _ _ _ _ _ (by decide) (by decide)).trans ?_
  unfold kernelRun0_A.sl.r_2
  rw [A_v103, A_v114]

include H

/-- A context tile meets only the 256 context keys. -/
theorem A_rows : Rows s v 256 (k0_pay48 (k0_pay7 (kernelRun0_A.sl.v101 (F := Ideal) c arg2 harg2 arg3 harg3 arg6 arg11 x0 x1) (k0_pay38 (F := Ideal)))) (kernelRun0_A.sl.v54 (F := Ideal) c arg2 harg2 arg3 harg3 arg4 harg4 arg6 arg7 arg8 arg11 x0 x1 x2) := by
  rw [A_v54]
  refine rows_first s v _ _ (fun r x => ?_) fun x d => ?_
  · rw [A_v101]; exact scores_first arg3 harg3 x0 x1 x2 H _ (packed_A_at c arg2 harg2 arg6 x0) _ r x
  · exact vals_first arg4 harg4 x0 x1 x2 H _ x d

end Cert.KernelIdeal.Att

end
-- ==== Proof.Block.lean ====
/-
  What one grid point writes: the accumulator's value columns over its column of ones' sum, head `h`'s rows in columns
  `128·h … 128·h + 127` — the attention of the block's queries over the keys the point met.
-/
module

public import proofs.«01_k».proof.Proof.Tiles

@[expose] public section

set_option maxRecDepth 16384

noncomputable section

namespace Cert.KernelIdeal.Att

open Cert.KernelIdeal Cert.KernelIdeal.Gen Idealize.ShloMosaic Idealize.ShloMosaic.TcCoe Cert.Online

/-- The eight stores of a point, by the accumulator they divide. -/
def stores (a : Vec Ideal S1x1024x256 .f32) : List (View.Piece (Elt Ideal) S1x128x1024 .bf16) := [
    ⟨Rect.unit (s := S1x128x1024) ![0, 0, 896] S1x128x128.size inb_S1x128x1024_S1x128x128_0_0_896, k0_pay3 (k0_pay53 a)⟩,
    ⟨Rect.unit (s := S1x128x1024) ![0, 0, 768] S1x128x128.size inb_S1x128x1024_S1x128x128_0_0_768, k0_pay2 (k0_pay53 a)⟩,
    ⟨Rect.unit (s := S1x128x1024) ![0, 0, 640] S1x128x128.size inb_S1x128x1024_S1x128x128_0_0_640, k0_pay1 (k0_pay59 a)⟩,
    ⟨Rect.unit (s := S1x128x1024) ![0, 0, 512] S1x128x128.size inb_S1x128x1024_S1x128x128_0_0_512, k0_pay58 a⟩,
    ⟨Rect.unit (s := S1x128x1024) ![0, 0, 384] S1x128x128.size inb_S1x128x1024_S1x128x128_0_0_384, k0_pay57 a⟩,
    ⟨Rect.unit (s := S1x128x1024) ![0, 0, 256] S1x128x128.size inb_S1x128x1024_S1x128x128_0_0_256, k0_pay56 a⟩,
    ⟨Rect.unit (s := S1x128x1024) ![0, 0, 128] S1x128x128.size inb_S1x128x1024_S1x128x128_0_0_128, k0_pay55 a⟩,
    ⟨Rect.unit (s := S1x128x1024) ![0, 0, 0] S1x128x128.size inb_S1x128x1024_S1x128x128_0_0_0, k0_pay54 a⟩]

/-- The stacked row and the accumulator column behind an entry of the block. -/
def rowOf (y : S1x128x1024.Idx) : Fin 1024 :=
  ⟨(y 2).1 / 128 * 128 + (y 1).1, by have h1 : (y 1).1 < 128 := (y 1).isLt; have h2 : (y 2).1 < 1024 := (y 2).isLt; omega⟩

def colOf (y : S1x128x1024.Idx) : Fin 256 := ⟨(y 2).1 % 128, by omega⟩

theorem quotient_at (a : Vec Ideal S1x1024x256 .f32) (r r' : Fin 1024) (d d' : Fin 256) (hr : r = r') (hd : d = d') :
    Ideal.div (a (ix3 0 r d)) (a (ix3 0 r 128)) = Ideal.div (a (ix3 0 r' d')) (a (ix3 0 r' 128)) := by rw [hr, hd]

theorem canon_stores (a : Vec Ideal S1x1024x256 .f32) (y : S1x128x1024.Idx) :
    View.canon (stores a) y = Ideal.div (a (ix3 0 (rowOf y) (colOf y))) (a (ix3 0 (rowOf y) 128)) := by
  unfold stores
  canon_tiles y h
  all_goals pointwise [k0_pay1, k0_pay2, k0_pay3, k0_pay53, k0_pay54, k0_pay55, k0_pay56, k0_pay57, k0_pay58, k0_pay59]
  all_goals
    refine quotient_at a _ _ _ _ (Fin.ext ?_) (Fin.ext ?_)
    · unfold rowOf; simp only [Fin.val_mk]; omega
    · unfold colOf; simp only [Fin.val_mk]; omega

/-- The block a context tile writes. -/
theorem out_A (c : Dev nD) (i : grid0.Coords) (arg2 : Memref sig .tc .vmem S1x128x2048 .bf16) (harg2 : arg2.IsWhole)
    (arg3 : Memref sig .tc .vmem S1x8448x256 .bf16) (harg3 : arg3.IsWhole) (arg4 : Memref sig .tc .vmem S1x8448x256 .bf16)
    (harg4 : arg4.IsWhole) (arg5 : Memref sig .tc .vmem S1x128x1024 .bf16) (harg5 : arg5.IsWhole)
    (arg6 : Memref sig .tc .vmem S1x1024x256 .bf16) (harg6 : arg6.IsWhole) (arg7 : Memref sig .tc .vmem S1x1024x1 .f32)
    (harg7 : arg7.IsWhole) (arg8 : Memref sig .tc .vmem S1x1024x256 .f32) (harg8 : arg8.IsWhole)
    (arg9 : Memref sig .tc .vmem S1x1024x2048 .f32) (harg9 : arg9.IsWhole) (arg10 : Memref sig .tc .vmem S1x1024x2048 .f32)
    (harg10 : arg10.IsWhole) (arg11 : Memref sig .tc .vmem S1x1024x256 .f32) (harg11 : arg11.IsWhole) (hc0 : cond0_0 i)
    (hc1 : ¬cond0_1 i) (x0 : Vec Ideal S1x128x2048 .bf16) (x1 x2 : Vec Ideal S1x8448x256 .bf16)
    (s : Fin 1024 → ℕ → ℝ) (v : ℕ → Fin 256 → ℝ) (H : Blocks x0 x1 x2 s v) (h1 : ∀ j, v j 128 = 1) (y : S1x128x1024.Idx) :
    out0_A_3 (F := Ideal) c i arg2 harg2 arg3 harg3 arg4 harg4 arg5 harg5 arg6 harg6 arg7 harg7 arg8 harg8 arg9 harg9 arg10
      harg10 arg11 harg11 hc0 hc1 x0 x1 x2 y = (soft (s (rowOf y)) (fun j => v j (colOf y)) 256 : ℝ) := by
  have e : out0_A_3 (F := Ideal) c i arg2 harg2 arg3 harg3 arg4 harg4 arg5 harg5 arg6 harg6 arg7 harg7 arg8 harg8 arg9 harg9
      arg10 harg10 arg11 harg11 hc0 hc1 x0 x1 x2 = View.canon (stores (kernelRun0_A.sl.v54 (F := Ideal) c arg2 harg2 arg3 harg3 arg4 harg4 arg6 arg7 arg8 arg11 x0 x1 x2)) :=
    (View.read_writes_junk_eq_canon _ _).trans (congrArg View.canon rfl)
  rw [e, canon_stores]
  exact State.quotient (A_rows c arg2 harg2 arg3 harg3 arg4 harg4 arg6 arg7 arg8 arg11 x0 x1 x2 H (rowOf y)) (by decide) (colOf y) 128 h1

/-- The block a latent tile writes. -/
theorem out_B (c : Dev nD) (i : grid0.Coords) (arg2 : Memref sig .tc .vmem S1x128x2048 .bf16) (harg2 : arg2.IsWhole)
    (arg3 : Memref sig .tc .vmem S1x8448x256 .bf16) (harg3 : arg3.IsWhole) (arg4 : Memref sig .tc .vmem S1x8448x256 .bf16)
    (harg4 : arg4.IsWhole) (arg5 : Memref sig .tc .vmem S1x128x1024 .bf16) (harg5 : arg5.IsWhole)
    (arg6 : Memref sig .tc .vmem S1x1024x256 .bf16) (harg6 : arg6.IsWhole) (arg7 : Memref sig .tc .vmem S1x1024x1 .f32)
    (harg7 : arg7.IsWhole) (arg8 : Memref sig .tc .vmem S1x1024x256 .f32) (harg8 : arg8.IsWhole)
    (arg9 : Memref sig .tc .vmem S1x1024x2048 .f32) (harg9 : arg9.IsWhole) (arg10 : Memref sig .tc .vmem S1x1024x2048 .f32)
    (harg10 : arg10.IsWhole) (arg11 : Memref sig .tc .vmem S1x1024x256 .f32) (harg11 : arg11.IsWhole) (hc0 : ¬cond0_0 i)
    (hc1 : cond0_1 i) (x0 : Vec Ideal S1x128x2048 .bf16) (x1 x2 : Vec Ideal S1x8448x256 .bf16)
    (s : Fin 1024 → ℕ → ℝ) (v : ℕ → Fin 256 → ℝ) (H : Blocks x0 x1 x2 s v) (h1 : ∀ j, v j 128 = 1) (y : S1x128x1024.Idx) :
    out0_B_3 (F := Ideal) c i arg2 harg2 arg3 harg3 arg4 harg4 arg5 harg5 arg6 harg6 arg7 harg7 arg8 harg8 arg9 harg9 arg10
      harg10 arg11 harg11 hc0 hc1 x0 x1 x2 y = (soft (s (rowOf y)) (fun j => v j (colOf y)) 8448 : ℝ) := by
  have e : out0_B_3 (F := Ideal) c i arg2 harg2 arg3 harg3 arg4 harg4 arg5 harg5 arg6 harg6 arg7 harg7 arg8 harg8 arg9 harg9
      arg10 harg10 arg11 harg11 hc0 hc1 x0 x1 x2 = View.canon (stores (kernelRun0_B.sl.v54 (F := Ideal) c arg2 harg2 arg3 harg3 arg4 harg4 arg6 arg7 arg8 arg9 arg10 arg11 x0 x1 x2)) :=
    (View.read_writes_junk_eq_canon _ _).trans (congrArg View.canon rfl)
  rw [e, canon_stores]
  exact State.quotient (B_rows c arg2 harg2 arg3 harg3 arg4 harg4 arg6 arg7 arg8 arg9 arg10 arg11 x0 x1 x2 H (rowOf y)) (by decide) (colOf y) 128 h1

end Cert.KernelIdeal.Att

end
-- ==== Proof.Attention.lean ====
/-
  The value both programs compute: attention of 8 heads over one shared row of keys and values per position. Scores are
  plain products, weights powers of two (`Online.soft`), the values are the keys' first 128 columns; the first 256
  positions see only themselves, every later position sees all 8448.
-/
module

public import proofs.«01_k».proof.Proof.Online
public import Idealize.ShloMosaic.Lib.Pointwise

@[expose] public section

set_option maxRecDepth 16384

noncomputable section

namespace Cert.Attention

open Idealize.ShloMosaic Cert.Online

/-- The queries' array, head `h` in columns `256·h … 256·h + 255`; the keys' array. -/
abbrev QArr := (⟨3, ![2, 8448, 2048]⟩ : Shape).Idx → EReal
abbrev KArr := (⟨3, ![2, 8448, 256]⟩ : Shape).Idx → EReal

/-- Every entry is a real number. -/
def Real {ι : Type} (x : ι → EReal) : Prop := ∀ i, ∃ r : ℝ, x i = r

/-- The score of key `j` for query position `t`, head `h`. -/
def score (q : QArr) (kv : KArr) (b : Fin 2) (t : Fin 8448) (h : Fin 8) (j : ℕ) : ℝ :=
  if hj : j < 8448 then
    ∑ k : Fin 256, (q (ix3 b t ⟨h.1 * 256 + k.1, by omega⟩)).toReal * (kv (ix3 b ⟨j, hj⟩ k)).toReal
  else 0

/-- Entry `d` of value row `j`. -/
def val (kv : KArr) (b : Fin 2) (d : Fin 128) (j : ℕ) : ℝ :=
  if hj : j < 8448 then (kv (ix3 b ⟨j, hj⟩ ⟨d.1, by omega⟩)).toReal else 0

/-- How many keys position `t` sees. -/
def seen (t : Fin 8448) : ℕ := if t.1 < 256 then 256 else 8448

/-- One entry of the attention. -/
def attn (q : QArr) (kv : KArr) (b : Fin 2) (t : Fin 8448) (h : Fin 8) (d : Fin 128) : ℝ :=
  soft (score q kv b t h) (val kv b d) (seen t)

/-- The whole result, head `h` in columns `128·h … 128·h + 127`. -/
def result (q : QArr) (kv : KArr) (i : (⟨3, ![2, 8448, 1024]⟩ : Shape).Idx) : EReal :=
  (attn q kv (i 0) (i 1) ⟨(i 2).1 / 128, by have h : (i 2).1 < 1024 := (i 2).isLt; omega⟩ ⟨(i 2).1 % 128, by omega⟩ : ℝ)

/-- Over real arrays the products of the arrays' rows are the scores. -/
theorem score_eq {q : QArr} {kv : KArr} (hq : Real q) (hk : Real kv) (b : Fin 2) (t : Fin 8448) (h : Fin 8) (j : ℕ)
    (hj : j < 8448) :
    ∑ k : Fin 256, q (ix3 b t ⟨h.1 * 256 + k.1, by omega⟩) * kv (ix3 b ⟨j, hj⟩ k) = (score q kv b t h j : EReal) := by
  unfold score
  rw [dif_pos hj, ← coe_sum]
  refine Finset.sum_congr rfl fun k _ => ?_
  obtain ⟨x, hx⟩ := hq (ix3 b t ⟨h.1 * 256 + k.1, by omega⟩)
  obtain ⟨y, hy⟩ := hk (ix3 b ⟨j, hj⟩ k)
  rw [hx, hy, EReal.toReal_coe, EReal.toReal_coe, EReal.coe_mul]

theorem val_eq {kv : KArr} (hk : Real kv) (b : Fin 2) (d : Fin 128) (j : ℕ) (hj : j < 8448) :
    kv (ix3 b ⟨j, hj⟩ ⟨d.1, by omega⟩) = (val kv b d j : EReal) := by
  unfold val
  rw [dif_pos hj]
  obtain ⟨y, hy⟩ := hk (ix3 b ⟨j, hj⟩ ⟨d.1, by omega⟩)
  rw [hy, EReal.toReal_coe]

end Cert.Attention

end
-- ==== Proof.Array.lean ====
module

public import proofs.«01_k».proof.Proof.Block
public import proofs.«01_k».proof.Proof.Attention
public import Idealize.ShloMosaic.Lib.Claim
public import Idealize.ShloMosaic.Lib.StableHlo.ReadAt

@[expose] public section

set_option maxRecDepth 16384

noncomputable section

namespace Cert.KernelIdeal.Att

open Cert.KernelIdeal Cert.KernelIdeal.Gen Idealize.ShloMosaic Idealize.ShloMosaic.TcCoe Cert.Online Cert.Attention

variable (m : (ℓ : Loc nD τ sig) → Buf (Elt Ideal) ℓ) (c : Dev nD)

abbrev qA : QArr := m ((c : Thread nD τ).loc main_arg0)
abbrev kA : KArr := m ((c : Thread nD τ).loc main_arg1)

/-- The windows' block indices at a grid point. -/
theorem index0 : ∀ t : Fin cfg0.N, win0_0.index t 0 = t.1 / 66 ∧ win0_0.index t 1 = t.1 % 66 ∧ win0_0.index t 2 = 0 :=
  (by decide +kernel : ∀ t : Fin grid0.N, win0_0.index t 0 = t.1 / 66 ∧ win0_0.index t 1 = t.1 % 66 ∧ win0_0.index t 2 = 0)

theorem index1 : ∀ t : Fin cfg0.N, win0_1.index t 0 = t.1 / 66 ∧ win0_1.index t 1 = 0 ∧ win0_1.index t 2 = 0 :=
  (by decide +kernel : ∀ t : Fin grid0.N, win0_1.index t 0 = t.1 / 66 ∧ win0_1.index t 1 = 0 ∧ win0_1.index t 2 = 0)

theorem index2 : ∀ t : Fin cfg0.N, win0_2.index t 0 = t.1 / 66 ∧ win0_2.index t 1 = 0 ∧ win0_2.index t 2 = 0 :=
  (by decide +kernel : ∀ t : Fin grid0.N, win0_2.index t 0 = t.1 / 66 ∧ win0_2.index t 1 = 0 ∧ win0_2.index t 2 = 0)

theorem index3 : ∀ t : Fin cfg0.N, win0_3.index t 0 = t.1 / 66 ∧ win0_3.index t 1 = t.1 % 66 ∧ win0_3.index t 2 = 0 :=
  (by decide +kernel : ∀ t : Fin grid0.N, win0_3.index t 0 = t.1 / 66 ∧ win0_3.index t 1 = t.1 % 66 ∧ win0_3.index t 2 = 0)

/-- The block of queries a point stages. -/
theorem q_block (t : Fin cfg0.N) (y1 : Fin 128) (y2 : Fin 2048) (h1 : t.1 / 66 < 2) (h2 : t.1 % 66 * 128 + y1.1 < 8448) :
    iblk m c 0 t (ix3 0 y1 y2) = qA m c (ix3 ⟨t.1 / 66, h1⟩ ⟨t.1 % 66 * 128 + y1.1, h2⟩ y2) := by
  obtain ⟨e0, e1, e2⟩ := index0 t
  unfold iblk
  blk_ext [V, e0, e1, e2]

/-- The block of keys: a whole batch row. -/
theorem k_block (t : Fin cfg0.N) (y1 : Fin 8448) (y2 : Fin 256) (h1 : t.1 / 66 < 2) :
    iblk m c 1 t (ix3 0 y1 y2) = kA m c (ix3 ⟨t.1 / 66, h1⟩ y1 y2) := by
  obtain ⟨e0, e1, e2⟩ := index1 t
  unfold iblk
  blk_ext [V, e0, e1, e2]

/-- The host's column of ones and its zeros. -/
theorem ones_entry (i : S2x8448x1.Idx) :
    @Eq EReal ((StableHlo.upto hostOps0 (fun b => m (c, b)) 4 (Proc.tc.devRef main_v0) : S2x8448x1.Idx → EReal) i) 1 := by
  after_reads_at

theorem zeros_entry (i : S2x8448x127.Idx) :
    @Eq EReal ((StableHlo.upto hostOps0 (fun b => m (c, b)) 4 (Proc.tc.devRef main_v1) : S2x8448x127.Idx → EReal) i) 0 := by
  after_reads_at

/-- The value rows the host prepares: the keys' first 128 columns, a column of ones, zeros. -/
theorem v_entry (b : Fin 2) (j : Fin 8448) (d : Fin 256) : V m c main_v4 (ix3 b j d) =
    if d.1 < 128 then kA m c (ix3 b j d) else if d.1 = 128 then (1 : EReal) else 0 := by
  unfold V
  after_reads_at
  by_cases h : d.1 < 128
  · rw [dif_pos h, if_pos h]
  · rw [dif_neg h, if_neg h]
    by_cases h' : d.1 = 128
    · rw [dif_pos (by omega), if_pos h']; exact ones_entry m c _
    · rw [dif_neg (by omega), if_neg h']; exact zeros_entry m c _

/-- The block of value rows. -/
theorem v_block (t : Fin cfg0.N) (y1 : Fin 8448) (y2 : Fin 256) (h1 : t.1 / 66 < 2) :
    iblk m c 2 t (ix3 0 y1 y2) = V m c main_v4 (ix3 ⟨t.1 / 66, h1⟩ y1 y2) := by
  obtain ⟨e0, e1, e2⟩ := index2 t
  unfold iblk
  generalize hV : V m c = W
  blk_ext [e0, e1, e2]

/-- Row and value functions of a point. -/
def sAt (t : Fin cfg0.N) (h1 : t.1 / 66 < 2) (r : Fin 1024) (j : ℕ) : ℝ :=
  Attention.score (qA m c) (kA m c) ⟨t.1 / 66, h1⟩ ⟨t.1 % 66 * 128 + r.1 % 128, by omega⟩ ⟨r.1 / 128, by omega⟩ j

def vAt (t : Fin cfg0.N) (h1 : t.1 / 66 < 2) (j : ℕ) (d : Fin 256) : ℝ :=
  if h : d.1 < 128 then Attention.val (kA m c) ⟨t.1 / 66, h1⟩ ⟨d.1, h⟩ j else if d.1 = 128 then 1 else 0

theorem blocks (hq : Attention.Real (qA m c)) (hk : Attention.Real (kA m c)) (t : Fin cfg0.N) (h1 : t.1 / 66 < 2) :
    Blocks (iblk m c 0 t) (iblk m c 1 t) (iblk m c 2 t) (sAt m c t h1) (vAt m c t h1) where
  score r j hj := by
    unfold sAt
    rw [← score_eq hq hk _ _ _ j hj]
    refine Finset.sum_congr rfl fun k _ => ?_
    unfold qAt
    rw [q_block m c t _ _ h1 (by omega), k_block m c t _ _ h1]
  val j hj d := by
    unfold vAt
    rw [v_block m c t _ _ h1, v_entry]
    by_cases h : d.1 < 128
    · rw [if_pos h, dif_pos h]
      exact val_eq hk _ ⟨d.1, h⟩ j hj
    · rw [if_neg h, dif_neg h]
      split <;> simp

/-- A point's block of the result, from the row and value functions of the point. -/
theorem soft_eq (t : Fin cfg0.N) (h1 : t.1 / 66 < 2) (y : S1x128x1024.Idx) (n : ℕ)
    (hn : ∀ ht, seen ⟨t.1 % 66 * 128 + (y 1).1, ht⟩ = n) :
    ((soft (sAt m c t h1 (rowOf y)) (fun j => vAt m c t h1 j (colOf y)) n : ℝ) : EReal)
      = Attention.result (qA m c) (kA m c) ((win0_3.blk t).view.emb y) := by
  have hy1 : (y 1).1 < 128 := (y 1).isLt
  have hy2 : (y 2).1 < 1024 := (y 2).isLt
  obtain ⟨e0, e1, e2⟩ := index3 t
  have e : Attention.result (qA m c) (kA m c) ((win0_3.blk t).view.emb y)
      = Attention.result (qA m c) (kA m c) (ix3 ⟨t.1 / 66, h1⟩ ⟨t.1 % 66 * 128 + (y 1).1, by omega⟩ (y 2)) := by
    blk_ext [e0, e1, e2]
  rw [e]
  unfold Attention.result attn
  refine congrArg _ ?_
  rw [← hn (by omega)]
  refine congrArg₂ (fun f g => soft f g _) ?_ ?_
  · funext j
    unfold sAt rowOf
    refine congrArg₂ (fun a b => Attention.score (qA m c) (kA m c) ⟨t.1 / 66, h1⟩ a b j) (Fin.ext ?_) (Fin.ext ?_)
    · show t.1 % 66 * 128 + ((y 2).1 / 128 * 128 + (y 1).1) % 128 = t.1 % 66 * 128 + (y 1).1
      omega
    · show ((y 2).1 / 128 * 128 + (y 1).1) / 128 = (y 2).1 / 128
      omega
  · funext j
    unfold vAt
    rw [dif_pos (show (colOf y).1 < 128 by unfold colOf; exact Nat.mod_lt _ (by decide))]
    rfl

/-- The array the kernel leaves. -/
theorem array (hq : Attention.Real (qA m c)) (hk : Attention.Real (kA m c)) :
    (dats m 0 c).arrAt 3 cfg0.N = Attention.result (qA m c) (kA m c) := by
  refine (dats m 0 c).arrAt_eq_of_covers 3 _ (by decide +kernel) fun t hf y => ?_
  blk_simp
  rw [after0_3]
  have ht : t.1 < 132 := t.isLt
  have h1 : t.1 / 66 < 2 := by omega
  have hv : ∀ j, vAt m c t h1 j 128 = 1 := fun j => rfl
  have hy1 : (y 1).1 < 128 := (y 1).isLt
  by_cases h : t.1 % 66 ≤ 1
  · refine (congrFun (outsAt0_A m c t h (by omega)) y).trans ?_
    refine (out_A c _ _ _ _ _ _ _ _ _ _ _ _ _ _ _ _ _ _ _ _ _ _ _ _ _ _ _ _ (blocks m c hq hk t h1) hv y).trans ?_
    refine soft_eq m c t h1 y 256 fun ht => ?_
    unfold seen; rw [if_pos (by simp only [Fin.val_mk]; omega)]
  · refine (congrFun (outsAt0_B m c t h (by omega)) y).trans ?_
    refine (out_B c _ _ _ _ _ _ _ _ _ _ _ _ _ _ _ _ _ _ _ _ _ _ _ _ _ _ _ _ (blocks m c hq hk t h1) hv y).trans ?_
    refine soft_eq m c t h1 y 8448 fun ht => ?_
    unfold seen; rw [if_neg (by simp only [Fin.val_mk]; omega)]

end Cert.KernelIdeal.Att

end
-- ==== Proof.Reference.lean ====
/-
  The reference at one entry: the scores times the logarithm of two, less their row's largest, exponentiated and divided
  by their sum, against the values; once over the first 256 positions, once over all of them.
-/
module

public import proofs.«01_k».proof.Proof.Attention
public import proofs.«01_k».proof.Proof.Gen.ReferenceIdeal.Run
public import proofs.«01_k».proof.ReferenceIdeal
public import Idealize.ShloMosaic.Lib.Pointwise

@[expose] public section

set_option maxRecDepth 16384

noncomputable section

namespace Cert.ReferenceIdeal.Att

open Cert.ReferenceIdeal Cert.ReferenceIdeal.Gen Idealize.ShloMosaic Cert.Online
open Cert.ReferenceIdeal.Facts

/-- The pattern of minus infinity. -/
theorem ofBits_negInf : Ideal.ofBits .f32 0xFF800000#32 = (⊥ : EReal) := by
  simp [Ideal.ofBits, Ideal.ieee]

/-- Minus infinity is no larger than anything. -/
theorem negInf_max (x : Ideal .f32) : FloatOps.maximumf (F := Ideal) (FloatOps.ofBits (F := Ideal) .f32 0xFF800000#32) x = x := by
  show @max EReal _ (Ideal.ofBits .f32 0xFF800000#32) x = x
  rw [ofBits_negInf]
  exact max_eq_right bot_le

/-- The pattern of two is two, and its logarithm the real one. -/
theorem log_two : FloatOps.hostUnary (F := Ideal) (φ := .f32) .log (FloatOps.ofBits (F := Ideal) .f32 0x40000000#32) = ((Real.log 2 : ℝ) : EReal) := by
  have e : @Eq EReal (FloatOps.ofBits (F := Ideal) .f32 0x40000000#32) ((2 : ℝ) : EReal) := by
    show Ideal.ofBits .f32 0x40000000#32 = _
    have h : Ideal.ofBits .f32 0x40000000#32 = ((8388608 : ℝ) : EReal) * (((2 ^ 22)⁻¹ : ℝ) : EReal) := by
      simp [Ideal.ofBits, Ideal.ieee]
    rw [h, ← EReal.coe_mul]
    norm_num
  refine (congrArg Ideal.log e).trans ?_
  show (if (2 : ℝ) ≤ 0 then (⊥ : EReal) else ((Real.log 2 : ℝ) : EReal)) = _
  rw [if_neg (by norm_num)]

variable (q : FVec Ideal S2x8448x2048 .bf16) (kv : FVec Ideal S2x8448x256 .bf16)

/-- The first 256 positions: the scores. -/
def scC : FVec Ideal S2x8x256x256 .f32 :=
  mulf (transpose S2x8x256x256 [0, 3, 2, 1] (Host.dotGeneral dot_S2x256x256_S2x256x8x256_S2x256x256x8_2_3_1_12_0_0 none (extractStridedSlice S2x256x256 ![0, 0, 0] kv slices_S2x8448x256_S2x256x256_0_0_0) (extractStridedSlice S2x256x8x256 ![0, 0, 0, 0] (shapeCast _ q shapeCasts_S2x8448x2048_S2x8448x8x256) slices_S2x8448x8x256_S2x256x8x256_0_0_0_0)) transposes_S2x256x256x8_S2x8x256x256_0_3_2_1) (broadcastInDim S2x8x256x256 ![] bcast_S_S2x8x256x256 (Host.log (constant S_ .f32 0x40000000#32)))

/-- The rows' largest. -/
def mrC (x : FVec Ideal S2x8x256x256 .f32) : FVec Ideal S2x8x256 .f32 :=
  Host.reduce FloatOps.maximumf x (constant S_ .f32 0xFF800000#32) reducesTo_S2x8x256x256_S2x8x256_d3 h_S_

/-- A value per row, along the row. -/
def mxC (M : FVec Ideal S2x8x256 .f32) : FVec Ideal S2x8x256x256 .f32 :=
  broadcastInDim S2x8x256x256 ![0, 1, 2, 3] bcast_S2x8x256x1_S2x8x256x256_0_1_2_3 (broadcastInDim S2x8x256x1 ![0, 1, 2] bcast_S2x8x256_S2x8x256x1_0_1_2 (maximumf (broadcastInDim S2x8x256 ![] bcast_S_S2x8x256 (constant S_ .f32 0xFF800000#32)) M))

/-- The exponentials of the scores less their row's largest. -/
def exC (x : FVec Ideal S2x8x256x256 .f32) : FVec Ideal S2x8x256x256 .f32 := Host.exp (subf x (mxC (mrC x)))

/-- The rows' weights. -/
def smC (e : FVec Ideal S2x8x256x256 .f32) : FVec Ideal S2x8x256x256 .bf16 :=
  truncf .bf16 (Host.divf e (broadcastInDim S2x8x256x256 ![0, 1, 2, 3] bcast_S2x8x256x1_S2x8x256x256_0_1_2_3 (broadcastInDim S2x8x256x1 ![0, 1, 2] bcast_S2x8x256_S2x8x256x1_0_1_2 (Host.reduceAdd e (constant S_ .f32 0x00000000#32) reducesTo_S2x8x256x256_S2x8x256_d3 h_S_)))) bitsLt_bf16_f32

/-- The weights against the values. -/
def outC (p : FVec Ideal S2x8x256x256 .bf16) : FVec Ideal S2x256x8x128 .bf16 :=
  truncf .bf16 (transpose S2x256x8x128 [0, 3, 2, 1] (Host.dotGeneral dot_S2x256x128_S2x8x256x256_S2x128x8x256_1_3_2_12_0_0 none (extractStridedSlice S2x256x128 ![0, 0, 0] (extractStridedSlice S2x8448x128 ![0, 0, 0] kv slices_S2x8448x256_S2x8448x128_0_0_0) slices_S2x8448x128_S2x256x128_0_0_0) p) transposes_S2x128x8x256_S2x256x8x128_0_3_2_1) bitsLt_bf16_f32

theorem scC_at (b : Fin 2) (h : Fin 8) (t : Fin 256) (j : Fin 256) :
    scC q kv (ix4 b h t j) = (∑ k : Fin 256, kv (ix3 b ⟨j.1, by omega⟩ k) * q (ix3 b ⟨t.1, by omega⟩ ⟨h.1 * 256 + k.1, by omega⟩))
      * ((Real.log 2 : ℝ) : EReal) := by
  rw [← log_two]
  pointwise [scC]

theorem mxC_at (M : FVec Ideal S2x8x256 .f32) (b : Fin 2) (h : Fin 8) (t : Fin 256) (j : Fin 256) :
    mxC M (ix4 b h t j) = M (ix3 b h t) := by
  pointwise [mxC]
  exact negInf_max _

theorem mrC_real (x : FVec Ideal S2x8x256x256 .f32) (b : Fin 2) (h : Fin 8) (t : Fin 256) (hx : ∀ j, ∃ r : ℝ, x (ix4 b h t j) = r) :
    ∃ μ : ℝ, mrC x (ix3 b h t) = μ := by
  have hr : Shape.Reduces S2x8x256x256 [(3 : Fin 4)] S2x8x256 := by decide
  have hl : ∀ k, hr.lift (ix3 b h t) k = ix4 b h t k := fun k => by
    funext a
    fin_cases a <;> rfl
  obtain ⟨μ, hμ⟩ := exists_fold_max (Finset.univ : Finset (Fin (S2x8x256x256.size 3))) ⟨⟨0, by decide⟩, Finset.mem_univ _⟩
    (x ∘ hr.lift (ix3 b h t)) fun i _ => by
      obtain ⟨r, h⟩ := hx i
      exact ⟨r, (congrArg x (hl i)).trans h⟩
  have e := Host.reduce_eq_fold_single (FloatOps.maximumf (F := Ideal) (φ := .f32)) x (constant S_ .f32 0xFF800000#32) reducesTo_S2x8x256x256_S2x8x256_d3 hr h_S_ (ix3 b h t)
  rw [constant_apply, show @Eq EReal (FloatOps.ofBits (F := Ideal) .f32 0xFF800000#32) ⊥ from ofBits_negInf] at e
  exact ⟨μ, e.trans hμ⟩

theorem exC_at (x : FVec Ideal S2x8x256x256 .f32) (i : S2x8x256x256.Idx) : exC x i = Ideal.exp (x i - mxC (mrC x) i) := rfl

theorem smC_at (e : FVec Ideal S2x8x256x256 .f32) (b : Fin 2) (h : Fin 8) (t : Fin 256) (j : Fin 256) :
    smC e (ix4 b h t j) = Ideal.div (e (ix4 b h t j)) (∑ y : Fin 256, e (ix4 b h t y)) := by
  pointwise [smC]

theorem outC_at (p : FVec Ideal S2x8x256x256 .bf16) (b : Fin 2) (t : Fin 256) (h : Fin 8) (d : Fin 128) :
    outC kv p (ix4 b t h d) = ∑ x : Fin 256, p (ix4 b h t x) * kv (ix3 b ⟨x.1, by omega⟩ ⟨d.1, by omega⟩) := by
  pointwise [outC]
  exact Finset.sum_congr rfl fun _ _ => mul_comm _ _

/-- One entry: the attention over the row's 256 keys. -/
theorem rowC (hq : Attention.Real q) (hk : Attention.Real kv) (b : Fin 2) (t : Fin 256) (h : Fin 8) (d : Fin 128) :
    outC kv (smC (exC (scC q kv))) (ix4 b t h d)
      = (soft (Attention.score q kv b ⟨t.1, by omega⟩ h) (Attention.val kv b d) 256 : EReal) := by
  have hs : ∀ j : Fin 256, scC q kv (ix4 b h t j)
      = ((Attention.score q kv b ⟨t.1, by omega⟩ h j * Real.log 2 : ℝ) : EReal) := fun j => by
    rw [scC_at, EReal.coe_mul, ← Attention.score_eq hq hk b ⟨t.1, by omega⟩ h j (by omega)]
    exact congrArg (· * _) (Finset.sum_congr rfl fun _ _ => mul_comm _ _)
  obtain ⟨μ, hμ⟩ := mrC_real (scC q kv) b h t fun j => ⟨_, hs j⟩
  have he : ∀ j, exC (scC q kv) (ix4 b h t j) = Ideal.exp (scC q kv (ix4 b h t j) - (μ : EReal)) := fun j => by
    rw [exC_at, mxC_at, hμ]
  rw [outC_at]
  refine Eq.trans (Finset.sum_congr rfl fun x _ => ?_)
    (whole_row (n := 256) (by norm_num) (Attention.score q kv b ⟨t.1, by omega⟩ h) _ (Attention.val kv b d) (fun _ => rfl)
      (fun x => scC q kv (ix4 b h t x)) (fun x => kv (ix3 b ⟨x.1, by omega⟩ ⟨d.1, by omega⟩)) hs
      (fun x => Attention.val_eq hk b d x (by omega)) μ)
  rw [smC_at, he]
  simp only [he]

/-- The later positions: the scores. -/
def scL : FVec Ideal S2x8x8192x8448 .f32 :=
  mulf (transpose S2x8x8192x8448 [0, 3, 2, 1] (Host.dotGeneral dot_S2x8448x256_S2x8192x8x256_S2x8448x8192x8_2_3_1_12_0_0 none kv (extractStridedSlice S2x8192x8x256 ![0, 256, 0, 0] (shapeCast _ q shapeCasts_S2x8448x2048_S2x8448x8x256) slices_S2x8448x8x256_S2x8192x8x256_0_256_0_0)) transposes_S2x8448x8192x8_S2x8x8192x8448_0_3_2_1) (broadcastInDim S2x8x8192x8448 ![] bcast_S_S2x8x8192x8448 (Host.log (constant S_ .f32 0x40000000#32)))

/-- The rows' largest. -/
def mrL (x : FVec Ideal S2x8x8192x8448 .f32) : FVec Ideal S2x8x8192 .f32 :=
  Host.reduce FloatOps.maximumf x (constant S_ .f32 0xFF800000#32) reducesTo_S2x8x8192x8448_S2x8x8192_d3 h_S_

/-- A value per row, along the row. -/
def mxL (M : FVec Ideal S2x8x8192 .f32) : FVec Ideal S2x8x8192x8448 .f32 :=
  broadcastInDim S2x8x8192x8448 ![0, 1, 2, 3] bcast_S2x8x8192x1_S2x8x8192x8448_0_1_2_3 (broadcastInDim S2x8x8192x1 ![0, 1, 2] bcast_S2x8x8192_S2x8x8192x1_0_1_2 (maximumf (broadcastInDim S2x8x8192 ![] bcast_S_S2x8x8192 (constant S_ .f32 0xFF800000#32)) M))

/-- The exponentials of the scores less their row's largest. -/
def exL (x : FVec Ideal S2x8x8192x8448 .f32) : FVec Ideal S2x8x8192x8448 .f32 := Host.exp (subf x (mxL (mrL x)))

/-- The rows' weights. -/
def smL (e : FVec Ideal S2x8x8192x8448 .f32) : FVec Ideal S2x8x8192x8448 .bf16 :=
  truncf .bf16 (Host.divf e (broadcastInDim S2x8x8192x8448 ![0, 1, 2, 3] bcast_S2x8x8192x1_S2x8x8192x8448_0_1_2_3 (broadcastInDim S2x8x8192x1 ![0, 1, 2] bcast_S2x8x8192_S2x8x8192x1_0_1_2 (Host.reduceAdd e (constant S_ .f32 0x00000000#32) reducesTo_S2x8x8192x8448_S2x8x8192_d3 h_S_)))) bitsLt_bf16_f32

/-- The weights against the values. -/
def outL (p : FVec Ideal S2x8x8192x8448 .bf16) : FVec Ideal S2x8192x8x128 .bf16 :=
  truncf .bf16 (transpose S2x8192x8x128 [0, 3, 2, 1] (Host.dotGeneral dot_S2x8448x128_S2x8x8192x8448_S2x128x8x8192_1_3_2_12_0_0 none (extractStridedSlice S2x8448x128 ![0, 0, 0] kv slices_S2x8448x256_S2x8448x128_0_0_0) p) transposes_S2x128x8x8192_S2x8192x8x128_0_3_2_1) bitsLt_bf16_f32

theorem scL_at (b : Fin 2) (h : Fin 8) (t : Fin 8192) (j : Fin 8448) :
    scL q kv (ix4 b h t j) = (∑ k : Fin 256, kv (ix3 b ⟨j.1, by omega⟩ k) * q (ix3 b ⟨256 + t.1, by omega⟩ ⟨h.1 * 256 + k.1, by omega⟩))
      * ((Real.log 2 : ℝ) : EReal) := by
  rw [← log_two]
  pointwise [scL]

theorem mxL_at (M : FVec Ideal S2x8x8192 .f32) (b : Fin 2) (h : Fin 8) (t : Fin 8192) (j : Fin 8448) :
    mxL M (ix4 b h t j) = M (ix3 b h t) := by
  pointwise [mxL]
  exact negInf_max _

theorem mrL_real (x : FVec Ideal S2x8x8192x8448 .f32) (b : Fin 2) (h : Fin 8) (t : Fin 8192) (hx : ∀ j, ∃ r : ℝ, x (ix4 b h t j) = r) :
    ∃ μ : ℝ, mrL x (ix3 b h t) = μ := by
  have hr : Shape.Reduces S2x8x8192x8448 [(3 : Fin 4)] S2x8x8192 := by decide
  have hl : ∀ k, hr.lift (ix3 b h t) k = ix4 b h t k := fun k => by
    funext a
    fin_cases a <;> rfl
  obtain ⟨μ, hμ⟩ := exists_fold_max (Finset.univ : Finset (Fin (S2x8x8192x8448.size 3))) ⟨⟨0, by decide⟩, Finset.mem_univ _⟩
    (x ∘ hr.lift (ix3 b h t)) fun i _ => by
      obtain ⟨r, h⟩ := hx i
      exact ⟨r, (congrArg x (hl i)).trans h⟩
  have e := Host.reduce_eq_fold_single (FloatOps.maximumf (F := Ideal) (φ := .f32)) x (constant S_ .f32 0xFF800000#32) reducesTo_S2x8x8192x8448_S2x8x8192_d3 hr h_S_ (ix3 b h t)
  rw [constant_apply, show @Eq EReal (FloatOps.ofBits (F := Ideal) .f32 0xFF800000#32) ⊥ from ofBits_negInf] at e
  exact ⟨μ, e.trans hμ⟩

theorem exL_at (x : FVec Ideal S2x8x8192x8448 .f32) (i : S2x8x8192x8448.Idx) : exL x i = Ideal.exp (x i - mxL (mrL x) i) := rfl

theorem smL_at (e : FVec Ideal S2x8x8192x8448 .f32) (b : Fin 2) (h : Fin 8) (t : Fin 8192) (j : Fin 8448) :
    smL e (ix4 b h t j) = Ideal.div (e (ix4 b h t j)) (∑ y : Fin 8448, e (ix4 b h t y)) := by
  pointwise [smL]

theorem outL_at (p : FVec Ideal S2x8x8192x8448 .bf16) (b : Fin 2) (t : Fin 8192) (h : Fin 8) (d : Fin 128) :
    outL kv p (ix4 b t h d) = ∑ x : Fin 8448, p (ix4 b h t x) * kv (ix3 b ⟨x.1, by omega⟩ ⟨d.1, by omega⟩) := by
  pointwise [outL]
  exact Finset.sum_congr rfl fun _ _ => mul_comm _ _

/-- One entry: the attention over the row's 8448 keys. -/
theorem rowL (hq : Attention.Real q) (hk : Attention.Real kv) (b : Fin 2) (t : Fin 8192) (h : Fin 8) (d : Fin 128) :
    outL kv (smL (exL (scL q kv))) (ix4 b t h d)
      = (soft (Attention.score q kv b ⟨256 + t.1, by omega⟩ h) (Attention.val kv b d) 8448 : EReal) := by
  have hs : ∀ j : Fin 8448, scL q kv (ix4 b h t j)
      = ((Attention.score q kv b ⟨256 + t.1, by omega⟩ h j * Real.log 2 : ℝ) : EReal) := fun j => by
    rw [scL_at, EReal.coe_mul, ← Attention.score_eq hq hk b ⟨256 + t.1, by omega⟩ h j (by omega)]
    exact congrArg (· * _) (Finset.sum_congr rfl fun _ _ => mul_comm _ _)
  obtain ⟨μ, hμ⟩ := mrL_real (scL q kv) b h t fun j => ⟨_, hs j⟩
  have he : ∀ j, exL (scL q kv) (ix4 b h t j) = Ideal.exp (scL q kv (ix4 b h t j) - (μ : EReal)) := fun j => by
    rw [exL_at, mxL_at, hμ]
  rw [outL_at]
  refine Eq.trans (Finset.sum_congr rfl fun x _ => ?_)
    (whole_row (n := 8448) (by norm_num) (Attention.score q kv b ⟨256 + t.1, by omega⟩ h) _ (Attention.val kv b d) (fun _ => rfl)
      (fun x => scL q kv (ix4 b h t x)) (fun x => kv (ix3 b ⟨x.1, by omega⟩ ⟨d.1, by omega⟩)) hs
      (fun x => Attention.val_eq hk b d x (by omega)) μ)
  rw [smL_at, he]
  simp only [he]

variable (m : (ℓ : Loc nD τ sig) → Buf (Elt Ideal) ℓ) (c : Dev nD)

/-- The arrays the program is given. -/
abbrev qA : Attention.QArr := m ((c.tc : Thread nD τ).loc main_arg0)
abbrev kA : Attention.KArr := m ((c.tc : Thread nD τ).loc main_arg1)

/-- The array the reference leaves. -/
theorem array (hq : Attention.Real (qA m c)) (hk : Attention.Real (kA m c)) :
    Value.res_out0 m c = Attention.result (qA m c) (kA m c) := by
  unfold Value.res_out0 Value.res_main_v47
  have e : ∀ (b : Fin 2) (t : Fin 8448) (h : Fin 8) (d : Fin 128),
      Value.fn_main_v46 (F := Ideal) (outC (kA m c) (smC (exC (scC (qA m c) (kA m c))))) (outL (kA m c) (smL (exL (scL (qA m c) (kA m c)))))
        (ix4 b t h d) = (Attention.attn (qA m c) (kA m c) b t h d : EReal) := fun b t h d => by
    unfold Value.fn_main_v46 Attention.attn Attention.seen
    pointwise
    by_cases h1 : t.1 < 256
    · rw [dif_pos h1, if_pos h1]
      exact rowC _ _ hq hk b ⟨t.1, h1⟩ h d
    · rw [dif_neg h1, if_neg h1]
      refine (rowL _ _ hq hk b ⟨t.1 - 256, by omega⟩ h d).trans ?_
      rw [show (⟨256 + (⟨t.1 - 256, by omega⟩ : Fin 8192).1, by simp only [Fin.val_mk]; omega⟩ : Fin 8448) = t from Fin.ext (by simp only [Fin.val_mk]; omega)]
  funext i
  refine Eq.trans (b := shapeCast S2x8448x1024 (Value.fn_main_v46 (F := Ideal) (outC (kA m c) (smC (exC (scC (qA m c) (kA m c))))) (outL (kA m c) (smL (exL (scL (qA m c) (kA m c))))))
        shapeCasts_S2x8448x8x128_S2x8448x1024 i) rfl ?_
  generalize Value.fn_main_v46 (F := Ideal) _ _ = M at e
  pointwise
  exact e (i 0) (i 1) _ _

end Cert.ReferenceIdeal.Att

end
-- ==== Proof.Finite.lean ====
/-
  What the precondition says: an array whose entries all lie below infinity in absolute value has real entries.
-/
module

public import proofs.«01_k».proof.Pre_finite
public import proofs.«01_k».proof.Proof.Attention
public import Idealize.ShloMosaic.Lib.ReduceAll
public import Idealize.ShloMosaic.Lib.Pointwise

@[expose] public section

set_option maxRecDepth 16384

noncomputable section

namespace Cert.Pre_finite

open Idealize.ShloMosaic

instance facts : Facts where
  bcast_S_S2x8448x2048 := by decide
  reducesTo_S2x8448x2048_S_d0_1_2 := by decide
  h_S_ := by decide
  bcast_S_S2x8448x256 := by decide
  reducesTo_S2x8448x256_S_d0_1_2 := by decide

/-- An extended real below infinity in absolute value is a real. -/
theorem real_of_abs_lt (x : EReal) (h : max x (-x) < ⊤) : ∃ r : ℝ, x = r := by
  induction x with
  | bot => simp at h
  | coe r => exact ⟨r, rfl⟩
  | top => simp at h

/-- The comparison with the pattern of infinity. -/
theorem real_of_cmp (x : EReal) (h : FloatOps.cmpf (F := Ideal) (φ := .bf16) .olt (FloatOps.hostAbsf x) (FloatOps.ofBits .bf16 0x7F80#16) = 1#1) :
    ∃ r : ℝ, x = r := by
  refine real_of_abs_lt x ?_
  have e : @Eq EReal (FloatOps.ofBits (F := Ideal) .bf16 0x7F80#16) ⊤ := by
    show Ideal.ofBits .bf16 0x7F80#16 = _
    simp [Ideal.ofBits, Ideal.ieee]
  rw [e] at h
  by_contra hc
  have h' : BitVec.ofBool (decide (@LT.lt EReal _ (max x (-x)) ⊤)) = 1#1 := h
  simp [hc] at h'

theorem reals (q : FVec Ideal S2x8448x2048 .bf16) (kv : FVec Ideal S2x8448x256 .bf16) (h : fn q kv = fun _ => 1#1) :
    Attention.Real q ∧ Attention.Real kv := by
  have h0 := congrFun h ix0
  unfold fn at h0
  haveI : Subsingleton S_.Idx := ⟨fun a b => funext fun i => i.elim0⟩
  obtain ⟨h1, h2⟩ := IntOp.andi_eq_one.1 h0
  exact ⟨fun i => real_of_cmp _ (Host.reduce_andi_all _ _ _ _ _ h1 i), fun i => real_of_cmp _ (Host.reduce_andi_all _ _ _ _ _ h2 i)⟩

end Cert.Pre_finite

end
-- ==== Proof.Project.lean ====
/-
  The value both projection programs compute: a row of activations divided by its root mean square, times the norm's
  weights, times one plus the segment's scale, plus the segment's shift, against the columns of the projection weights.
  The first 256 positions are the context and take the modulation of segment 0, the later ones are the latents and take
  that of segment 1. The first result has the low-rank columns, the 64 rotary key columns, and those columns once more
  with the halves of each 32 exchanged; the second has the remaining 4096 columns.
-/
module

public import Idealize.ShloMosaic.Lib.Pointwise

@[expose] public section

set_option maxRecDepth 16384

noncomputable section

namespace Cert.Project

open Idealize.ShloMosaic

abbrev CtxArr := (⟨3, ![2, 256, 1024]⟩ : Shape).Idx → EReal
abbrev LatArr := (⟨3, ![2, 8192, 1024]⟩ : Shape).Idx → EReal
abbrev ModArr := (⟨5, ![2, 2, 6, 1, 1024]⟩ : Shape).Idx → EReal
abbrev NormArr := (⟨1, ![1024]⟩ : Shape).Idx → EReal
abbrev WArr := (⟨2, ![1024, 4544]⟩ : Shape).Idx → EReal

/-- The reciprocal root mean square of a row. -/
def rms (row : Fin 1024 → EReal) : EReal :=
  Ideal.rsqrt (Ideal.div (∑ k : Fin 1024, row k * row k) (Ideal.ofBits .f32 0x44800000#32) + Ideal.ofBits .f32 0x358637BD#32)

/-- One entry of a row normalised and modulated. -/
def entry (row g shift scale : Fin 1024 → EReal) (k : Fin 1024) : EReal :=
  row k * rms row * g k * (Ideal.ofBits .f32 0x3F800000#32 + scale k) + shift k

variable (ctx : CtxArr) (x : LatArr) (mods : ModArr) (g : NormArr) (w : WArr)

/-- Row `t` of the two segments laid end to end. -/
def row (b : Fin 2) (t : Fin 8448) (k : Fin 1024) : EReal :=
  if h : t.1 < 256 then ctx (ix3 b ⟨t.1, h⟩ k) else x (ix3 b ⟨t.1 - 256, by omega⟩ k)

/-- The segment of a position. -/
def seg (t : Fin 8448) : Fin 2 := if t.1 < 256 then 0 else 1

/-- One entry of a position's normalised and modulated row. -/
def act (b : Fin 2) (t : Fin 8448) (k : Fin 1024) : EReal :=
  entry (row ctx x b t) (fun k => g (ix1 k)) (fun k => mods (ix5 b (seg t) 0 0 k)) (fun k => mods (ix5 b (seg t) 1 0 k)) k

/-- One entry of the projection. -/
def proj (b : Fin 2) (t : Fin 8448) (c : Fin 4544) : EReal :=
  ∑ k : Fin 1024, act ctx x mods g b t k * w (ix2 k c)

/-- The rotary partner of one of 64 columns: the other half of its 32. -/
def partner (c : Fin 64) : Fin 64 := ⟨c.1 / 32 * 32 + (c.1 % 32 + 16) % 32, by omega⟩

/-- The column of the weights behind a column of the first result. -/
def colA (c : Fin 512) : Fin 4544 :=
  if h : c.1 < 448 then ⟨c.1, by omega⟩ else ⟨384 + (partner ⟨c.1 - 448, by omega⟩).1, by omega⟩

/-- The two results. -/
def resultA (i : (⟨3, ![2, 8448, 512]⟩ : Shape).Idx) : EReal := proj ctx x mods g w (i 0) (i 1) (colA (i 2))

def resultB (i : (⟨3, ![2, 8448, 4096]⟩ : Shape).Idx) : EReal :=
  proj ctx x mods g w (i 0) (i 1) ⟨448 + (i 2).1, by have h : (i 2).1 < 4096 := (i 2).isLt; omega⟩

end Cert.Project

end
-- ==== Proof.ProjectKernel.lean ====
/-
  What one grid point of the projection writes: its 256 rows normalised, modulated and multiplied with the staged
  weights, the second result in four column strips; then the arrays these blocks make.
-/
module

public import proofs.«01_k».proof.Proof.Project
public import proofs.«01_k».proof.Proof.Gen.InProjIdeal.Value
public import Idealize.ShloMosaic.Lib.Claim
public import Idealize.ShloMosaic.Lib.Pipeline.ValueKit
public import Idealize.ShloMosaic.Lib.StableHlo.ReadAt

@[expose] public section

set_option maxRecDepth 16384

noncomputable section

namespace Cert.InProjIdeal.Prj

open Cert.InProjIdeal Cert.InProjIdeal.Gen Idealize.ShloMosaic Idealize.ShloMosaic.TcCoe Cert.Project

/-- The activations of a block. -/
theorem act_at (X : Vec Ideal S1x256x1024 .f32) (G : Vec Ideal S1x1024 .f32) (C S : Vec Ideal S1x1x1x1x1024 .f32)
    (r : Fin 256) (k : Fin 1024) :
    k0_pay5 X G C S (ix2 r k) = entry (fun k => X (ix3 0 r k)) (fun k => G (ix2 0 k)) (fun k => S (ix5 0 0 0 0 k))
      (fun k => C (ix5 0 0 0 0 k)) k := by
  unfold entry rms
  pointwise [k0_pay5]

/-- One entry of the first result's block. -/
theorem strip_A (X : Vec Ideal S1x256x1024 .f32) (G : Vec Ideal S1x1024 .f32) (C S : Vec Ideal S1x1x1x1x1024 .f32)
    (W : Vec Ideal S1024x512 .bf16) (y : S1x256x512.Idx) :
    k0_pay6 X G C S W y = ∑ k : Fin 1024, k0_pay5 X G C S (ix2 (y 1) k) * W (ix2 k (y 2)) := by
  pointwise [k0_pay6]

/-- One entry of a strip of the second result's block. -/
theorem strip_1 (H : FVec Ideal S256x1024 .bf16) (W : Vec Ideal S1024x1024 .bf16) (y : S1x256x1024.Idx) :
    k0_pay1 H W y = ∑ k : Fin 1024, H (ix2 (y 1) k) * W (ix2 k (y 2)) := by
  pointwise [k0_pay1]

theorem strip_2 (H : FVec Ideal S256x1024 .bf16) (W : Vec Ideal S1024x1024 .bf16) (y : S1x256x1024.Idx) :
    k0_pay2 H W y = ∑ k : Fin 1024, H (ix2 (y 1) k) * W (ix2 k (y 2)) := by
  pointwise [k0_pay2]

theorem strip_3 (H : FVec Ideal S256x1024 .bf16) (W : Vec Ideal S1024x1024 .bf16) (y : S1x256x1024.Idx) :
    k0_pay3 H W y = ∑ k : Fin 1024, H (ix2 (y 1) k) * W (ix2 k (y 2)) := by
  pointwise [k0_pay3]

theorem strip_4 (H : FVec Ideal S256x1024 .bf16) (W : Vec Ideal S1024x1024 .bf16) (y : S1x256x1024.Idx) :
    k0_pay4 H W y = ∑ k : Fin 1024, H (ix2 (y 1) k) * W (ix2 k (y 2)) := by
  pointwise [k0_pay4]

/-- The activations of a point's staged blocks. -/
def blockAct (x0 : Vec Ideal S1x256x1024 .f32) (x1 : Vec Ideal S1x1x6x1x1024 .f32) (x2 : Vec Ideal S1x1024 .f32)
    (r : Fin 256) (k : Fin 1024) : EReal :=
  entry (fun k => x0 (ix3 0 r k)) (fun k => x2 (ix2 0 k)) (fun k => x1 (ix5 0 0 0 0 k)) (fun k => x1 (ix5 0 0 1 0 k)) k

theorem staged_act (x0 : Vec Ideal S1x256x1024 .f32) (x1 : Vec Ideal S1x1x6x1x1024 .f32) (x2 : Vec Ideal S1x1024 .f32)
    (r : Fin 256) (k : Fin 1024) :
    k0_pay5 (View.ld x0 r0_0) (View.ld x2 r0_1) (View.ld x1 r0_2) (View.ld x1 r0_3) (ix2 r k) = blockAct x0 x1 x2 r k := by
  rw [act_at]
  unfold blockAct
  have e0 : ∀ k : Fin 1024, View.ld x0 r0_0 (ix3 0 r k) = x0 (ix3 0 r k) := fun k =>
    View.ld_unit_apply_of _ _ _ _ _ _ fun a => by fin_cases a <;> simp
  have e1 : ∀ k : Fin 1024, View.ld x2 r0_1 (ix2 0 k) = x2 (ix2 0 k) := fun k =>
    View.ld_unit_apply_of _ _ _ _ _ _ fun a => by fin_cases a <;> simp
  have e2 : ∀ k : Fin 1024, View.ld x1 r0_2 (ix5 0 0 0 0 k) = x1 (ix5 0 0 1 0 k) := fun k =>
    View.ld_unit_apply_of _ _ _ _ _ _ fun a => by fin_cases a <;> simp
  have e3 : ∀ k : Fin 1024, View.ld x1 r0_3 (ix5 0 0 0 0 k) = x1 (ix5 0 0 0 0 k) := fun k =>
    View.ld_unit_apply_of _ _ _ _ _ _ fun a => by fin_cases a <;> simp
  simp only [e0, e1, e2, e3]

/-- The first result's block. -/
theorem block_A (x0 : Vec Ideal S1x256x1024 .f32) (x1 : Vec Ideal S1x1x6x1x1024 .f32) (x2 : Vec Ideal S1x1024 .f32)
    (x3 : Vec Ideal S1024x512 .bf16) (x4 : Vec Ideal S1024x4096 .bf16) (y : S1x256x512.Idx) :
    out0_5 x0 x1 x2 x3 x4 y = ∑ k : Fin 1024, blockAct x0 x1 x2 (y 1) k * x3 (ix2 k (y 2)) := by
  have e3 : ∀ (k : Fin 1024) (c : Fin 512), View.ld x3 r0_4 (ix2 k c) = x3 (ix2 k c) := fun k c =>
    View.ld_unit_apply_of _ _ _ _ _ _ fun a => by fin_cases a <;> simp
  unfold out0_5
  canon_tiles y h
  rw [strip_A]
  rename_i x
  refine Finset.sum_congr rfl fun k _ => congrArg₂ (· * ·) ?_ ?_
  · exact (staged_act x0 x1 x2 _ k).trans (congrArg (fun r => blockAct x0 x1 x2 r k) (Fin.ext h1.symm))
  · exact (e3 k _).trans (congrArg (fun c => x3 (ix2 k c)) (Fin.ext h2.symm))

/-- The second result's block. -/
theorem block_B (x0 : Vec Ideal S1x256x1024 .f32) (x1 : Vec Ideal S1x1x6x1x1024 .f32) (x2 : Vec Ideal S1x1024 .f32)
    (x3 : Vec Ideal S1024x512 .bf16) (x4 : Vec Ideal S1024x4096 .bf16) (y : S1x256x4096.Idx) :
    out0_6 x0 x1 x2 x3 x4 y = ∑ k : Fin 1024, blockAct x0 x1 x2 (y 1) k * x4 (ix2 k (y 2)) := by
  unfold out0_6 k0_pay7
  canon_tiles y h
  · rw [strip_4]
    rename_i x
    refine Finset.sum_congr rfl fun k _ => congrArg₂ (· * ·) ?_ ?_
    · exact (staged_act x0 x1 x2 _ k).trans (congrArg (fun r => blockAct x0 x1 x2 r k) (Fin.ext h1.symm))
    · exact View.ld_unit_apply_of _ _ _ _ _ _ fun a => by
        fin_cases a
        · simp
        · simpa using h2
  · rw [strip_3]
    rename_i x
    refine Finset.sum_congr rfl fun k _ => congrArg₂ (· * ·) ?_ ?_
    · exact (staged_act x0 x1 x2 _ k).trans (congrArg (fun r => blockAct x0 x1 x2 r k) (Fin.ext h1.symm))
    · exact View.ld_unit_apply_of _ _ _ _ _ _ fun a => by
        fin_cases a
        · simp
        · simpa using h2
  · rw [strip_2]
    rename_i x
    refine Finset.sum_congr rfl fun k _ => congrArg₂ (· * ·) ?_ ?_
    · exact (staged_act x0 x1 x2 _ k).trans (congrArg (fun r => blockAct x0 x1 x2 r k) (Fin.ext h1.symm))
    · exact View.ld_unit_apply_of _ _ _ _ _ _ fun a => by
        fin_cases a
        · simp
        · simpa using h2
  · rw [strip_1]
    rename_i x
    refine Finset.sum_congr rfl fun k _ => congrArg₂ (· * ·) ?_ ?_
    · exact (staged_act x0 x1 x2 _ k).trans (congrArg (fun r => blockAct x0 x1 x2 r k) (Fin.ext h1.symm))
    · exact View.ld_unit_apply_of _ _ _ _ _ _ fun a => by
        fin_cases a
        · simp
        · simpa using h2

end Cert.InProjIdeal.Prj

end
-- ==== Proof.ProjectArray.lean ====
/-
  The arrays the projection leaves: the host lays context and latents end to end and takes the weights' columns apart;
  point `t` of the grid stages rows `256·(t mod 33) …` of batch entry `t / 33`, that entry's modulation of the rows'
  segment, and all of the weights; so the blocks it writes are the two results of `Proof/Project.lean`.
-/
module

public import proofs.«01_k».proof.Proof.ProjectKernel

@[expose] public section

set_option maxRecDepth 16384

noncomputable section

namespace Cert.InProjIdeal.Prj

open Cert.InProjIdeal Cert.InProjIdeal.Gen Idealize.ShloMosaic Idealize.ShloMosaic.TcCoe Cert.Project

variable (m : (ℓ : Loc nD τ sig) → Buf (Elt Ideal) ℓ) (c : Dev nD)

abbrev ctxA : CtxArr := m ((c : Thread nD τ).loc main_arg0)
abbrev latA : LatArr := m ((c : Thread nD τ).loc main_arg1)
abbrev modA : ModArr := m ((c : Thread nD τ).loc main_arg2)
abbrev normA : NormArr := m ((c : Thread nD τ).loc main_arg3)
abbrev wA : WArr := m ((c : Thread nD τ).loc main_arg4)

/-- The windows' block indices at a grid point. -/
theorem index0 : ∀ t : Fin cfg0.N, win0_0.index t 0 = t.1 / 33 ∧ win0_0.index t 1 = t.1 % 33 ∧ win0_0.index t 2 = 0 :=
  (by decide +kernel : ∀ t : Fin grid0.N, win0_0.index t 0 = t.1 / 33 ∧ win0_0.index t 1 = t.1 % 33 ∧ win0_0.index t 2 = 0)

theorem index1 : ∀ t : Fin cfg0.N, win0_1.index t 0 = t.1 / 33 ∧ win0_1.index t 1 = (if t.1 % 33 < 1 then 0 else 1)
    ∧ win0_1.index t 2 = 0 ∧ win0_1.index t 3 = 0 ∧ win0_1.index t 4 = 0 :=
  (by decide +kernel : ∀ t : Fin grid0.N, win0_1.index t 0 = t.1 / 33 ∧ win0_1.index t 1 = (if t.1 % 33 < 1 then 0 else 1)
    ∧ win0_1.index t 2 = 0 ∧ win0_1.index t 3 = 0 ∧ win0_1.index t 4 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = t.1 / 33 ∧ win0_5.index t 1 = t.1 % 33 ∧ win0_5.index t 2 = 0 :=
  (by decide +kernel : ∀ t : Fin grid0.N, win0_5.index t 0 = t.1 / 33 ∧ win0_5.index t 1 = t.1 % 33 ∧ win0_5.index t 2 = 0)

theorem index6 : ∀ t : Fin cfg0.N, win0_6.index t 0 = t.1 / 33 ∧ win0_6.index t 1 = t.1 % 33 ∧ win0_6.index t 2 = 0 :=
  (by decide +kernel : ∀ t : Fin grid0.N, win0_6.index t 0 = t.1 / 33 ∧ win0_6.index t 1 = t.1 % 33 ∧ win0_6.index t 2 = 0)

/-- The two segments end to end. -/
theorem rows_entry (b : Fin 2) (t : Fin 8448) (k : Fin 1024) :
    @Eq EReal (V m c main_v0 (ix3 b t k)) (row (ctxA m c) (latA m c) b t k) := by
  unfold V row
  after_reads_at

/-- The norm's weights as a row. -/
theorem norm_entry (k : Fin 1024) : @Eq EReal (V m c main_v14 (ix2 0 k)) (normA m c (ix1 k)) := by
  unfold V
  after_reads_at

/-- The second weights: the columns from 448 on. -/
theorem wb_entry (k : Fin 1024) (j : Fin 4096) : @Eq EReal (V m c main_v13 (ix2 k j)) (wA m c (ix2 k ⟨448 + j.1, by omega⟩)) := by
  unfold V
  after_reads_at

/-- A column gather at one entry: the column its index names. -/
theorem gather_at {α : Type} (x : S1024x64.Idx → α) (idx : IVec S64x1 32) (k : Fin 1024) (j : Fin 64) :
    Host.gather gather_S1024x64_S64x1_S1024x64_0_1_n_n_1_1_10241 x idx (ix2 k j)
      = x (ix2 k ⟨min (idx (ix2 j 0)).toInt.toNat 63, by omega⟩) := by
  unfold Host.gather
  congr 1
  funext a
  refine Fin.ext ?_
  show GatherDims.start gather_S1024x64_S64x1_S1024x64_0_1_n_n_1_1_10241 (ix2 k j) idx a
    + GatherDims.batchCoord gather_S1024x64_S64x1_S1024x64_0_1_n_n_1_1_10241 (ix2 k j) a
    + GatherDims.offCoord gather_S1024x64_S64x1_S1024x64_0_1_n_n_1_1_10241 (ix2 k j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · have e : GatherDims.start gather_S1024x64_S64x1_S1024x64_0_1_n_n_1_1_10241 (ix2 k j) idx 0 = 0 := by
      unfold GatherDims.start
      exact dif_neg (show (0 : Fin 2) ∉ [(1 : Fin 2)] by decide)
    rw [e, Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ gather_S1024x64_S64x1_S1024x64_0_1_n_n_1_1_10241.startIndexMap from List.mem_singleton.mpr rfl)]
    have hsi : GatherDims.siIdx gather_S1024x64_S64x1_S1024x64_0_1_n_n_1_1_10241 (ix2 k j)
        ⟨List.idxOf (1 : Fin 2) gather_S1024x64_S64x1_S1024x64_0_1_n_n_1_1_10241.startIndexMap, List.idxOf_lt_length_iff.2 (List.mem_singleton.mpr rfl)⟩ = ix2 j 0 := by
      funext b
      refine Fin.ext ?_
      match b with
      | ⟨0, _⟩ => rfl
      | ⟨1, _⟩ => rfl
    exact congrArg (fun i => min (idx i).toInt.toNat 63) hsi

/-- The column indices the host gathers by. -/
def gatherIdx : IVec S64x1 32 :=
  broadcastInDim S64x1 ![0] bcast_S64_S64x1_0
    (select (cmpi CmpIPredicate.slt (fun i => lit0 (S64.rowMajor i)) (broadcastInDim S64 ![] bcast_S_S64 (constantI S_ 32 0#32)))
      (addi (fun i => lit0 (S64.rowMajor i)) (broadcastInDim S64 ![] bcast_S_S64 (constantI S_ 32 64#32)))
      (fun i => lit0 (S64.rowMajor i)))

/-- They are the rotary partners. -/
theorem gatherIdx_eq : ∀ j : Fin 64, min (gatherIdx (ix2 j 0)).toInt.toNat 63 = (partner j).1 := by
  decide +kernel

/-- The first weights: the first 448 columns, and the rotary ones once more by their partners. -/
theorem wa_entry (k : Fin 1024) (j : Fin 512) : @Eq EReal (V m c main_v11 (ix2 k j)) (wA m c (ix2 k (colA j))) := by
  unfold V
  after_reads_at
  unfold colA
  split
  · after_reads_at
  · after_reads_at
    refine (gather_at _ gatherIdx k _).trans ?_
    pointwise
    refine congrArg (wA m c) (congrArg (ix2 k) (Fin.ext ?_))
    exact congrArg (384 + ·) (gatherIdx_eq _)

/-- The block of rows a point stages. -/
theorem rows_block (t : Fin cfg0.N) (r : Fin 256) (k : Fin 1024) (h1 : t.1 / 33 < 2) (h2 : t.1 % 33 * 256 + r.1 < 8448) :
    iblk m c 0 t (ix3 0 r k) = V m c main_v0 (ix3 ⟨t.1 / 33, h1⟩ ⟨t.1 % 33 * 256 + r.1, h2⟩ k) := by
  obtain ⟨e0, e1, e2⟩ := index0 t
  unfold iblk
  generalize hV : V m c = W
  blk_ext [e0, e1, e2]

/-- The modulation of the rows' segment. -/
theorem mods_block (t : Fin cfg0.N) (a : Fin 6) (k : Fin 1024) (h1 : t.1 / 33 < 2) (r : Fin 256) (h2 : t.1 % 33 * 256 + r.1 < 8448) :
    iblk m c 1 t (ix5 0 0 a 0 k) = modA m c (ix5 ⟨t.1 / 33, h1⟩ (seg ⟨t.1 % 33 * 256 + r.1, h2⟩) a 0 k) := by
  obtain ⟨e0, e1, e2, e3, e4⟩ := index1 t
  have es : (seg ⟨t.1 % 33 * 256 + r.1, h2⟩).1 = if t.1 % 33 < 1 then 0 else 1 := by
    unfold seg
    by_cases h : t.1 % 33 < 1
    · rw [if_pos h, if_pos (by simp only [Fin.val_mk]; omega)]; rfl
    · rw [if_neg h, if_neg (by simp only [Fin.val_mk]; omega)]; rfl
  unfold iblk
  blk_ext [V, e0, e1, e2, e3, e4, es]

theorem norm_block (t : Fin cfg0.N) (k : Fin 1024) : iblk m c 2 t (ix2 0 k) = V m c main_v14 (ix2 0 k) := by
  obtain ⟨e0, e1⟩ := index2 t
  unfold iblk
  generalize hV : V m c = W
  blk_ext [e0, e1]

theorem wa_block (t : Fin cfg0.N) (k : Fin 1024) (j : Fin 512) : iblk m c 3 t (ix2 k j) = V m c main_v11 (ix2 k j) := by
  obtain ⟨e0, e1⟩ := index3 t
  unfold iblk
  generalize hV : V m c = W
  blk_ext [e0, e1]

theorem wb_block (t : Fin cfg0.N) (k : Fin 1024) (j : Fin 4096) : iblk m c 4 t (ix2 k j) = V m c main_v13 (ix2 k j) := by
  obtain ⟨e0, e1⟩ := index4 t
  unfold iblk
  generalize hV : V m c = W
  blk_ext [e0, e1]

/-- The activations a point computes. -/
theorem act_block (t : Fin cfg0.N) (r : Fin 256) (k : Fin 1024) (h1 : t.1 / 33 < 2) (h2 : t.1 % 33 * 256 + r.1 < 8448) :
    blockAct (iblk m c 0 t) (iblk m c 1 t) (iblk m c 2 t) r k
      = act (ctxA m c) (latA m c) (modA m c) (normA m c) ⟨t.1 / 33, h1⟩ ⟨t.1 % 33 * 256 + r.1, h2⟩ k := by
  have e0 : (fun k : Fin 1024 => (iblk m c 0 t (ix3 0 r k) : EReal)) = row (ctxA m c) (latA m c) ⟨t.1 / 33, h1⟩ ⟨t.1 % 33 * 256 + r.1, h2⟩ :=
    funext fun k => (rows_block m c t r k h1 h2).trans (rows_entry m c _ _ k)
  have e1 : (fun k : Fin 1024 => (iblk m c 2 t (ix2 0 k) : EReal)) = fun k => normA m c (ix1 k) :=
    funext fun k => (norm_block m c t k).trans (norm_entry m c k)
  have e2 : ∀ a : Fin 6, (fun k : Fin 1024 => (iblk m c 1 t (ix5 0 0 a 0 k) : EReal))
      = fun k => modA m c (ix5 ⟨t.1 / 33, h1⟩ (seg ⟨t.1 % 33 * 256 + r.1, h2⟩) a 0 k) :=
    fun a => funext fun k => mods_block m c t a k h1 r h2
  unfold blockAct act
  rw [← e0, ← e1, ← e2 0, ← e2 1]

/-- The first array. -/
theorem array_A : (dats m 0 c).arrAt 5 cfg0.N = resultA (ctxA m c) (latA m c) (modA m c) (normA m c) (wA m c) := by
  refine (dats m 0 c).arrAt_eq_of_covers 5 _ (by decide +kernel) fun t hf y => ?_
  blk_simp
  rw [after0_5]
  have ht : t.1 < 66 := t.isLt
  have hy1 : (y 1).1 < 256 := (y 1).isLt
  have hy2 : (y 2).1 < 512 := (y 2).isLt
  obtain ⟨e0, e1, e2⟩ := index5 t
  have e : resultA (ctxA m c) (latA m c) (modA m c) (normA m c) (wA m c) ((win0_5.blk t).view.emb y)
      = resultA (ctxA m c) (latA m c) (modA m c) (normA m c) (wA m c)
        (ix3 ⟨t.1 / 33, by omega⟩ ⟨t.1 % 33 * 256 + (y 1).1, by omega⟩ (y 2)) := by
    blk_ext [e0, e1, e2]
  refine (block_A _ _ _ _ _ y).trans (Eq.trans ?_ e.symm)
  unfold resultA proj
  refine Finset.sum_congr rfl fun k _ => congrArg₂ (· * ·) (act_block m c t (y 1) k _ _) ?_
  exact (wa_block m c t k (y 2)).trans (wa_entry m c k (y 2))

/-- The second array. -/
theorem array_B : (dats m 0 c).arrAt 6 cfg0.N = resultB (ctxA m c) (latA m c) (modA m c) (normA m c) (wA m c) := by
  refine (dats m 0 c).arrAt_eq_of_covers 6 _ (by decide +kernel) fun t hf y => ?_
  blk_simp
  rw [after0_6]
  have ht : t.1 < 66 := t.isLt
  have hy1 : (y 1).1 < 256 := (y 1).isLt
  have hy2 : (y 2).1 < 4096 := (y 2).isLt
  obtain ⟨e0, e1, e2⟩ := index6 t
  have e : resultB (ctxA m c) (latA m c) (modA m c) (normA m c) (wA m c) ((win0_6.blk t).view.emb y)
      = resultB (ctxA m c) (latA m c) (modA m c) (normA m c) (wA m c)
        (ix3 ⟨t.1 / 33, by omega⟩ ⟨t.1 % 33 * 256 + (y 1).1, by omega⟩ (y 2)) := by
    blk_ext [e0, e1, e2]
  refine (block_B _ _ _ _ _ y).trans (Eq.trans ?_ e.symm)
  unfold resultB proj
  refine Finset.sum_congr rfl fun k _ => congrArg₂ (· * ·) (act_block m c t (y 1) k _ _) ?_
  exact (wb_block m c t k (y 2)).trans (wb_entry m c k (y 2))

end Cert.InProjIdeal.Prj

end
-- ==== Proof.ProjectReference.lean ====
/-
  The projection's reference at one entry: context and latents are normalised and modulated on their own, multiplied with
  the weights and laid end to end; the first result's last 64 columns are the rotary ones with the halves of each 32
  exchanged.
-/
module

public import proofs.«01_k».proof.Proof.Project
public import proofs.«01_k».proof.Proof.Gen.InProjReferenceIdeal.Run
public import proofs.«01_k».proof.InProjReferenceIdeal
public import Idealize.ShloMosaic.Lib.Pointwise

@[expose] public section

set_option maxRecDepth 16384

noncomputable section

namespace Cert.InProjReferenceIdeal.Prj

open Cert.InProjReferenceIdeal Cert.InProjReferenceIdeal.Gen Idealize.ShloMosaic Cert.Project
open Cert.InProjReferenceIdeal.Facts

variable (ctx : FVec Ideal S2x256x1024 .f32) (x : FVec Ideal S2x8192x1024 .f32) (mods : FVec Ideal S2x2x6x1x1024 .f32)
  (g : FVec Ideal S1024 .f32) (w : FVec Ideal S1024x4544 .f32)

/-- The context's activations. -/
def actC : FVec Ideal S2x256x1024 .f32 :=
  addf (mulf (mulf (mulf ctx (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf ctx ctx) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))) (broadcastInDim S2x256x1024 ![0, 1, 2] bcast_S2x1x1024_S2x256x1024_0_1_2 (addf (broadcastInDim S2x1x1024 ![] bcast_S_S2x1x1024 (constant S_ .f32 0x3F800000#32)) (shapeCast _ (extractStridedSlice S2x1x1x1x1024 ![0, 0, 1, 0, 0] mods slices_S2x2x6x1x1024_S2x1x1x1x1024_0_0_1_0_0) shapeCasts_S2x1x1x1x1024_S2x1x1024)))) (broadcastInDim S2x256x1024 ![0, 1, 2] bcast_S2x1x1024_S2x256x1024_0_1_2 (shapeCast _ (extractStridedSlice S2x1x1x1x1024 ![0, 0, 0, 0, 0] mods slices_S2x2x6x1x1024_S2x1x1x1x1024_0_0_0_0_0) shapeCasts_S2x1x1x1x1024_S2x1x1024))

/-- The latents' activations. -/
def actL : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1x1024 ![0, 1, 1, 0, 0] mods slices_S2x2x6x1x1024_S2x1x1x1x1024_0_1_1_0_0) shapeCasts_S2x1x1x1x1024_S2x1x1024)))) (broadcastInDim S2x8192x1024 ![0, 1, 2] bcast_S2x1x1024_S2x8192x1024_0_1_2 (shapeCast _ (extractStridedSlice S2x1x1x1x1024 ![0, 1, 0, 0, 0] mods slices_S2x2x6x1x1024_S2x1x1x1x1024_0_1_0_0_0) shapeCasts_S2x1x1x1x1024_S2x1x1024))

/-- Both projected, end to end. -/
def zAll : FVec Ideal S2x8448x4544 .f32 :=
  concatenate S2x8448x4544 1 [⟨S2x256x4544, (Host.dotGeneral dot_S2x256x1024_S1024x4544_S2x256x4544_2_0_01_1_n_n none (actC ctx mods g) w)⟩, ⟨S2x8192x4544, (Host.dotGeneral dot_S2x8192x1024_S1024x4544_S2x8192x4544_2_0_01_1_n_n none (actL x mods g) w)⟩] concatenates_S2x256x4544_S2x8192x4544_S2x8448x4544_d1

/-- The halves of each 32 columns exchanged. -/
def swap (k : FVec Ideal S2x8448x64 .f32) : FVec Ideal S2x8448x64 .f32 :=
  shapeCast _ (concatenate S2x8448x2x2x16 3 [⟨S2x8448x2x1x16, (extractStridedSlice S2x8448x2x1x16 ![0, 0, 0, 1, 0] (shapeCast _ k shapeCasts_S2x8448x64_S2x8448x2x2x16) slices_S2x8448x2x2x16_S2x8448x2x1x16_0_0_0_1_0)⟩, ⟨S2x8448x2x1x16, (extractStridedSlice S2x8448x2x1x16 ![0, 0, 0, 0, 0] (shapeCast _ k shapeCasts_S2x8448x64_S2x8448x2x2x16) slices_S2x8448x2x2x16_S2x8448x2x1x16_0_0_0_0_0)⟩] concatenates_S2x8448x2x1x16_S2x8448x2x1x16_S2x8448x2x2x16_d3) shapeCasts_S2x8448x2x2x16_S2x8448x64

/-- The first result from the projection. -/
def outA (z : FVec Ideal S2x8448x4544 .f32) : FVec Ideal S2x8448x512 .f32 :=
  (concatenate S2x8448x512 2 [⟨S2x8448x384, ((extractStridedSlice S2x8448x384 ![0, 0, 0] z slices_S2x8448x4544_S2x8448x384_0_0_0) : (⟨S2x8448x384, .f32⟩ : BufTy).Contents (Elt Ideal))⟩, ⟨S2x8448x64, ((extractStridedSlice S2x8448x64 ![0, 0, 384] z slices_S2x8448x4544_S2x8448x64_0_0_384) : (⟨S2x8448x64, .f32⟩ : BufTy).Contents (Elt Ideal))⟩, ⟨S2x8448x64, ((swap (extractStridedSlice S2x8448x64 ![0, 0, 384] z slices_S2x8448x4544_S2x8448x64_0_0_384)) : (⟨S2x8448x64, .f32⟩ : BufTy).Contents (Elt Ideal))⟩] concatenates_S2x8448x384_S2x8448x64_S2x8448x64_S2x8448x512_d2 : (⟨S2x8448x512, .f32⟩ : BufTy).Contents (Elt Ideal))

theorem actC_at (b : Fin 2) (t : Fin 256) (k : Fin 1024) :
    actC ctx mods g (ix3 b t k) = entry (fun k => ctx (ix3 b t k)) (fun k => g (ix1 k)) (fun k => mods (ix5 b 0 0 0 k))
      (fun k => mods (ix5 b 0 1 0 k)) k := by
  unfold entry rms
  pointwise [actC]

theorem actL_at (b : Fin 2) (t : Fin 8192) (k : Fin 1024) :
    actL x mods g (ix3 b t k) = entry (fun k => x (ix3 b t k)) (fun k => g (ix1 k)) (fun k => mods (ix5 b 1 0 0 k))
      (fun k => mods (ix5 b 1 1 0 k)) k := by
  unfold entry rms
  pointwise [actL]

/-- One entry of the projection. -/
theorem zAll_at (b : Fin 2) (t : Fin 8448) (c : Fin 4544) :
    zAll ctx x mods g w (ix3 b t c) = proj ctx x mods g w b t c := by
  have e : zAll ctx x mods g w (ix3 b t c) = if h : t.1 < 256
      then ∑ k : Fin 1024, actC ctx mods g (ix3 b ⟨t.1, h⟩ k) * w (ix2 k c)
      else ∑ k : Fin 1024, actL x mods g (ix3 b ⟨t.1 - 256, by omega⟩ k) * w (ix2 k c) := by
    pointwise [zAll]
  rw [e]
  unfold proj
  split
  · refine Finset.sum_congr rfl fun k _ => congrArg (· * _) ?_
    rw [actC_at]
    unfold act row seg
    simp only [*, dif_pos, if_pos]
  · refine Finset.sum_congr rfl fun k _ => congrArg (· * _) ?_
    rw [actL_at]
    unfold act row seg
    simp only [*, dif_neg, if_neg, not_false_eq_true]

/-- An exchanged column is its partner's. -/
theorem swap_at (k : FVec Ideal S2x8448x64 .f32) (b : Fin 2) (t : Fin 8448) (c : Fin 64) :
    swap k (ix3 b t c) = k (ix3 b t (partner c)) := by
  pointwise [swap]
  unfold partner
  split
  · exact congrArg (fun j => k (ix3 b t j)) (Fin.ext (by simp only [Fin.val_mk]; omega))
  · exact congrArg (fun j => k (ix3 b t j)) (Fin.ext (by simp only [Fin.val_mk]; omega))

theorem outA_at (z : FVec Ideal S2x8448x4544 .f32) (b : Fin 2) (t : Fin 8448) (c : Fin 512) :
    outA z (ix3 b t c) = z (ix3 b t (colA c)) := by
  pointwise [outA]
  unfold colA
  by_cases h : c.1 < 448
  · rw [dif_pos h]
    split
    · rfl
    · rw [dif_pos (by omega)]
      exact congrArg (fun j => z (ix3 b t j)) (Fin.ext (by simp only [Fin.val_mk]; omega))
  · rw [dif_neg h, dif_neg (by omega), dif_neg (by omega), swap_at]
    pointwise
    exact congrArg (fun j => z (ix3 b t j)) (Fin.ext (by simp only [Fin.val_mk, show c.1 - 384 - 64 = c.1 - 448 by omega]))

/-- The second result from the projection. -/
def outB (z : FVec Ideal S2x8448x4544 .f32) : FVec Ideal S2x8448x4096 .bf16 :=
  truncf .bf16 (extractStridedSlice S2x8448x4096 ![0, 0, 448] z slices_S2x8448x4544_S2x8448x4096_0_0_448) bitsLt_bf16_f32

theorem outB_at (z : FVec Ideal S2x8448x4544 .f32) (b : Fin 2) (t : Fin 8448) (c : Fin 4096) :
    outB z (ix3 b t c) = z (ix3 b t ⟨448 + c.1, by omega⟩) := by
  pointwise [outB]

/-- The projection gives both results. -/
theorem result_A : outA (zAll ctx x mods g w) = resultA ctx x mods g w := by
  funext i
  have e := (outA_at (zAll ctx x mods g w) (i 0) (i 1) (i 2)).trans (zAll_at ctx x mods g w (i 0) (i 1) (colA (i 2)))
  refine Eq.trans (congrArg _ ?_) e
  funext a; fin_cases a <;> rfl

theorem result_B : outB (zAll ctx x mods g w) = resultB ctx x mods g w := by
  funext i
  have hc : (i 2).1 < 4096 := (i 2).isLt
  have e := (outB_at (zAll ctx x mods g w) (i 0) (i 1) (i 2)).trans (zAll_at ctx x mods g w (i 0) (i 1) ⟨448 + (i 2).1, by omega⟩)
  refine Eq.trans (congrArg _ ?_) e
  funext a; fin_cases a <;> rfl

variable (m : (ℓ : Loc nD τ sig) → Buf (Elt Ideal) ℓ) (c : Dev nD)

/-- The arrays the program is given. -/
abbrev ctxA : CtxArr := m ((c.tc : Thread nD τ).loc main_arg0)
abbrev latA : LatArr := m ((c.tc : Thread nD τ).loc main_arg1)
abbrev modA : ModArr := m ((c.tc : Thread nD τ).loc main_arg2)
abbrev normA : NormArr := m ((c.tc : Thread nD τ).loc main_arg3)
abbrev wA : WArr := m ((c.tc : Thread nD τ).loc main_arg4)

/-- The arrays the reference leaves. -/
theorem array_A : Value.res_main_v57 (F := Ideal) m c = resultA (ctxA m c) (latA m c) (modA m c) (normA m c) (wA m c) :=
  Eq.trans (by unfold Value.res_main_v57; rfl) (result_A (ctxA m c) (latA m c) (modA m c) (normA m c) (wA m c))

end Cert.InProjReferenceIdeal.Prj

end
-- ==== Proof.Merged.lean ====
/-
  The value both merge programs compute. A position's two branches, attention and recurrence, each go through an output
  product; each is weighted by its gate, a logistic of the gate's columns plus a bias; their sum goes through a further
  product and is added, times the segment's modulation, to the position's row. That is the first result; the second is it
  normalised and modulated. The recurrence's branch is the sum of its two directions times the GELU of its own gate.
  Also here: the two ways of writing GELU and the logistic function agree on the extended reals.
-/
module

public import proofs.«01_k».proof.Proof.Project

@[expose] public section

set_option maxRecDepth 16384

noncomputable section

namespace Cert.Merged

open Idealize.ShloMosaic Cert.Project

abbrev RowsArr := (⟨3, ![2, 8448, 1024]⟩ : Shape).Idx → EReal
abbrev GatesArr := (⟨3, ![2, 8448, 4096]⟩ : Shape).Idx → EReal
abbrev BiasArr := (⟨1, ![2048]⟩ : Shape).Idx → EReal
abbrev SquareArr := (⟨2, ![1024, 1024]⟩ : Shape).Idx → EReal

/-- GELU by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The half of the argument first. -/
theorem gelu_halved (x : EReal) :
    Ideal.ofBits .f32 0x3F000000#32 * x * (Ideal.ofBits .f32 0x3F800000#32
      + Ideal.tanh (Ideal.ofBits .f32 0x3F4C422A#32 * (x + Ideal.ofBits .f32 0x3D372713#32 * (x * x * x)))) = gelu x := by
  unfold gelu
  rw [mul_comm (Ideal.ofBits .f32 0x3F000000#32) x, mul_assoc]

theorem half_eq : Ideal.ofBits .f32 0x3F000000#32 = ((1 / 2 : ℝ) : EReal) := by
  simp [Ideal.ofBits, Ideal.ieee]
  rw [← EReal.coe_mul]
  norm_num

theorem one_eq : Ideal.ofBits .f32 0x3F800000#32 = ((1 : ℝ) : EReal) := by
  simp [Ideal.ofBits, Ideal.ieee]
  rw [← EReal.coe_mul]
  norm_num

/-- The logistic function by the hyperbolic tangent of the half. -/
theorem logistic_tanh (x : EReal) :
    Ideal.ofBits .f32 0x3F000000#32 * Ideal.tanh (Ideal.ofBits .f32 0x3F000000#32 * x) + Ideal.ofBits .f32 0x3F000000#32
      = Ideal.logistic x := by
  rw [half_eq]
  induction x using EReal.rec with
  | bot =>
    rw [EReal.coe_mul_bot_of_pos (by norm_num), Ideal.logistic_bot]
    show ((1 / 2 : ℝ) : EReal) * ((-1 : ℝ) : EReal) + _ = ((0 : ℝ) : EReal)
    rw [← EReal.coe_mul, ← EReal.coe_add]
    norm_num
  | top =>
    rw [EReal.coe_mul_top_of_pos (by norm_num), Ideal.logistic_top]
    show ((1 / 2 : ℝ) : EReal) * ((1 : ℝ) : EReal) + _ = ((1 : ℝ) : EReal)
    rw [← EReal.coe_mul, ← EReal.coe_add]
    norm_num
  | coe r =>
    rw [Ideal.logistic_coe, ← EReal.coe_mul]
    show ((1 / 2 : ℝ) : EReal) * ((Real.tanh (1 / 2 * r) : ℝ) : EReal) + _ = _
    rw [← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have h3 : a = b⁻¹ := eq_inv_of_mul_eq_one_left h2
    subst h3
    field_simp
    ring

/-- The logistic function by its quotient. -/
theorem logistic_quotient (x : EReal) :
    Ideal.div (Ideal.ofBits .f32 0x3F800000#32) (Ideal.ofBits .f32 0x3F800000#32 + Ideal.exp (-x)) = Ideal.logistic x := by
  rw [one_eq]
  rfl

/-- One entry of the recurrence's branch. -/
def lruRow (hf hb gr : Fin 1024 → EReal) (k : Fin 1024) : EReal := (hf k + hb k) * gelu (gr k)

/-- One entry of the gated sum of the branches' products. -/
def mixRow (o l ga gl b0 b1 : Fin 1024 → EReal) (wo wl : SquareArr) (k : Fin 1024) : EReal :=
  Ideal.logistic (ga k + b0 k) * (∑ j : Fin 1024, o j * wo (ix2 j k))
    + Ideal.logistic (gl k + b1 k) * (∑ j : Fin 1024, l j * wl (ix2 j k))

/-- One entry of the row with the branches added. -/
def sumRow (x gate m : Fin 1024 → EReal) (w : SquareArr) (k : Fin 1024) : EReal :=
  x k + gate k * ∑ j : Fin 1024, m j * w (ix2 j k)

variable (o hf hb : RowsArr) (zb : GatesArr) (ctx : CtxArr) (x : LatArr) (mods : ModArr) (bg : BiasArr) (g : NormArr)
  (wo wl w : SquareArr)

/-- The gated sum at a position. -/
def mix (b : Fin 2) (t : Fin 8448) : Fin 1024 → EReal :=
  mixRow (fun k => o (ix3 b t k))
    (lruRow (fun k => hf (ix3 b t k)) (fun k => hb (ix3 b t k)) fun k => zb (ix3 b t ⟨1024 + k.1, by omega⟩))
    (fun k => zb (ix3 b t ⟨2048 + k.1, by omega⟩)) (fun k => zb (ix3 b t ⟨3072 + k.1, by omega⟩))
    (fun k => bg (ix1 ⟨k.1, by omega⟩)) (fun k => bg (ix1 ⟨1024 + k.1, by omega⟩)) wo wl

/-- A position's row with the branches added. -/
def added (b : Fin 2) (t : Fin 8448) : Fin 1024 → EReal :=
  sumRow (row ctx x b t) (fun k => mods (ix5 b (seg t) 2 0 k)) (mix o hf hb zb bg wo wl b t) w

/-- The same row normalised and modulated. -/
def normed (b : Fin 2) (t : Fin 8448) : Fin 1024 → EReal :=
  entry (added o hf hb zb ctx x mods bg wo wl w b t) (fun k => g (ix1 k)) (fun k => mods (ix5 b (seg t) 3 0 k))
    (fun k => mods (ix5 b (seg t) 4 0 k))

/-- The two results. -/
def resultX (i : (⟨3, ![2, 8448, 1024]⟩ : Shape).Idx) : EReal := added o hf hb zb ctx x mods bg wo wl w (i 0) (i 1) (i 2)

def resultH (i : (⟨3, ![2, 8448, 1024]⟩ : Shape).Idx) : EReal := normed o hf hb zb ctx x mods bg g wo wl w (i 0) (i 1) (i 2)

end Cert.Merged

end
-- ==== Proof.MergedKernel.lean ====
/-
  One grid point of the merge, entry by entry: the gated products, the row with the branches added, and that row normalised
  and modulated.
-/
module

public import proofs.«01_k».proof.Proof.Merged
public import proofs.«01_k».proof.Proof.Gen.MergeIdeal.Skeleton
public import Idealize.ShloMosaic.Lib.Claim
public import Idealize.ShloMosaic.Lib.Pipeline.ValueKit
public import Idealize.ShloMosaic.Lib.StableHlo.ReadAt

@[expose] public section

set_option maxRecDepth 16384

noncomputable section

namespace Cert.MergeIdeal.Mrg

open Cert.MergeIdeal Cert.MergeIdeal.Gen Idealize.ShloMosaic Idealize.ShloMosaic.TcCoe Cert.Project Cert.Merged

/-- The recurrence's branch. -/
theorem lru_at (Z : Vec Ideal S1x256x1024 .bf16) (A B : Vec Ideal S1x256x1024 .f32) (r : Fin 256) (k : Fin 1024) :
    @Eq EReal (k0_pay8 Z A B (ix2 r k))
      (lruRow (fun k => A (ix3 0 r k)) (fun k => B (ix3 0 r k)) (fun k => Z (ix3 0 r k)) k) := by
  unfold lruRow
  rw [← gelu_halved]
  pointwise [k0_pay8]

/-- The attention's gated product. -/
theorem att_at (O : Vec Ideal S1x256x1024 .bf16) (W : Vec Ideal S1024x1024 .bf16) (Z : Vec Ideal S1x256x1024 .bf16)
    (b : Vec Ideal S1x1x1024 .f32) (r : Fin 256) (k : Fin 1024) :
    @Eq EReal (k0_pay10 (k0_pay9 O) W Z b (ix2 r k))
      (Ideal.logistic (Z (ix3 0 r k) + b (ix3 0 0 k)) * ∑ j : Fin 1024, O (ix3 0 r j) * W (ix2 j k)) := by
  rw [← logistic_tanh]
  pointwise [k0_pay10, k0_pay9]

/-- The recurrence's gated product. -/
theorem rec_at (L : FVec Ideal S256x1024 .bf16) (W : Vec Ideal S1024x1024 .bf16) (Z : Vec Ideal S1x256x1024 .bf16)
    (b : Vec Ideal S1x1x1024 .f32) (r : Fin 256) (k : Fin 1024) :
    @Eq EReal (k0_pay11 L W Z b (ix2 r k))
      (Ideal.logistic (Z (ix3 0 r k) + b (ix3 0 0 k)) * ∑ j : Fin 1024, L (ix2 r j) * W (ix2 j k)) := by
  rw [← logistic_tanh]
  pointwise [k0_pay11]

/-- The row with the branches added. -/
theorem sum_at (P Q : FVec Ideal S256x1024 .f32) (W : Vec Ideal S1024x1024 .bf16) (X : Vec Ideal S1x256x1024 .f32)
    (M : Vec Ideal S1x1x1x1x1024 .f32) (r : Fin 256) (k : Fin 1024) :
    @Eq EReal (k0_pay12 P Q W X M (ix2 r k))
      (sumRow (fun k => X (ix3 0 r k)) (fun k => M (ix5 0 0 0 0 k)) (fun k => P (ix2 r k) + Q (ix2 r k)) W k) := by
  unfold sumRow
  pointwise [k0_pay12]

/-- The first result's store. -/
theorem first_at (P Q : FVec Ideal S256x1024 .f32) (W : Vec Ideal S1024x1024 .bf16) (X : Vec Ideal S1x256x1024 .f32)
    (M : Vec Ideal S1x1x1x1x1024 .f32) (y : S1x256x1024.Idx) :
    @Eq EReal (k0_pay13 P Q W X M y) (k0_pay12 P Q W X M (ix2 (y 1) (y 2))) := by
  pointwise [k0_pay13]

/-- The normalised row. -/
theorem norm_at (P Q : FVec Ideal S256x1024 .f32) (W : Vec Ideal S1024x1024 .bf16) (X : Vec Ideal S1x256x1024 .f32)
    (M : Vec Ideal S1x1x1x1x1024 .f32) (G : Vec Ideal S1x1024 .f32) (r : Fin 256) (k : Fin 1024) :
    @Eq EReal (k0_pay14 P Q W X M G (ix2 r k))
      (k0_pay12 P Q W X M (ix2 r k) * rms (fun k => k0_pay12 P Q W X M (ix2 r k)) * G (ix2 0 k)) := by
  unfold rms k0_pay14
  generalize k0_pay12 P Q W X M = R
  pointwise

/-- The modulation of any row. -/
theorem modulated_at (R : FVec Ideal S256x1024 .f32) (C S : Vec Ideal S1x1x1x1x1024 .f32) (y : S1x256x1024.Idx) :
    @Eq EReal (k0_pay18 R (k0_pay15 C) S y)
      (R (ix2 (y 1) (y 2)) * (Ideal.ofBits .f32 0x3F800000#32 + C (ix5 0 0 0 0 (y 2))) + S (ix5 0 0 0 0 (y 2))) := by
  pointwise [k0_pay18, k0_pay17, k0_pay16, k0_pay15]

/-- The second result's store. -/
theorem second_at (P Q : FVec Ideal S256x1024 .f32) (W : Vec Ideal S1024x1024 .bf16) (X : Vec Ideal S1x256x1024 .f32)
    (M C S : Vec Ideal S1x1x1x1x1024 .f32) (G : Vec Ideal S1x1024 .f32) (y : S1x256x1024.Idx) :
    @Eq EReal (k0_pay18 (k0_pay14 P Q W X M G) (k0_pay15 C) S y)
      (entry (fun k => k0_pay12 P Q W X M (ix2 (y 1) k)) (fun k => G (ix2 0 k)) (fun k => S (ix5 0 0 0 0 k))
        (fun k => C (ix5 0 0 0 0 k)) (y 2)) :=
  (modulated_at _ C S y).trans (congrArg₂ (· + ·) (congrArg₂ (· * ·) (norm_at P Q W X M G (y 1) (y 2)) rfl) rfl)

end Cert.MergeIdeal.Mrg

end
-- ==== Proof.MergedBlock.lean ====
/-
  The two blocks a grid point of the merge writes, from its staged blocks: the same formulas at the first point and at all
  others, which differ only in what they do with the routing's running counts.
-/
module

public import proofs.«01_k».proof.Proof.MergedKernel
public import proofs.«01_k».proof.Proof.Gen.MergeIdeal.Frame
public import Idealize.ShloMosaic.Lib.WholeRead

@[expose] public section

set_option maxRecDepth 16384

noncomputable section

namespace Cert.MergeIdeal.Mrg

open Cert.MergeIdeal Cert.MergeIdeal.Gen Idealize.ShloMosaic Idealize.ShloMosaic.TcCoe Cert.Project Cert.Merged

/-- The added rows from the values read. -/
def sumOf
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32) :
    FVec Ideal S256x1024 .f32 :=
  k0_pay12 (k0_pay10 (k0_pay9 v34) v36 v42 v45) (k0_pay11 (k0_pay8 v11 v27 v29) v39 v57 v60) v74 v77 v79

/-- The first store's value. -/
def firstOf
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32) :
    FVec Ideal S1x256x1024 .f32 :=
  k0_pay13 (k0_pay10 (k0_pay9 v34) v36 v42 v45) (k0_pay11 (k0_pay8 v11 v27 v29) v39 v57 v60) v74 v77 v79

/-- The second store's value. -/
def secondOf
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (v87 : Vec Ideal S1x1024 .f32) (v101 v107 : Vec Ideal S1x1x1x1x1024 .f32) : FVec Ideal S1x256x1024 .bf16 :=
  k0_pay18 (k0_pay14 (k0_pay10 (k0_pay9 v34) v36 v42 v45) (k0_pay11 (k0_pay8 v11 v27 v29) v39 v57 v60) v74 v77 v79 v87)
    (k0_pay15 v101) v107

/-- The added row of the values read. -/
def rowsOf
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (r : Fin 256) : Fin 1024 → EReal :=
  sumRow (fun k => v77 (ix3 0 r k)) (fun k => v79 (ix5 0 0 0 0 k))
    (mixRow (fun k => v34 (ix3 0 r k))
      (lruRow (fun k => v27 (ix3 0 r k)) (fun k => v29 (ix3 0 r k)) fun k => v11 (ix3 0 r k))
      (fun k => v42 (ix3 0 r k)) (fun k => v57 (ix3 0 r k)) (fun k => v45 (ix3 0 0 k)) (fun k => v60 (ix3 0 0 k)) v36 v39) v74

theorem sumOf_at
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (r : Fin 256) (k : Fin 1024) :
    @Eq EReal (sumOf v34 v36 v42 v45 v11 v27 v29 v39 v57 v60 v74 v77 v79 (ix2 r k))
      (rowsOf v34 v36 v42 v45 v11 v27 v29 v39 v57 v60 v74 v77 v79 r k) := by
  refine (sum_at _ _ v74 v77 v79 r k).trans ?_
  unfold rowsOf
  refine congrArg (fun f => sumRow (fun k => v77 (ix3 0 r k)) (fun k => v79 (ix5 0 0 0 0 k)) f v74 k) (funext fun k => ?_)
  unfold mixRow
  refine congrArg₂ (· + ·) (att_at v34 v36 v42 v45 r k) ((rec_at _ v39 v57 v60 r k).trans ?_)
  exact congrArg (_ * ·) (Finset.sum_congr rfl fun j _ => congrArg (· * _) (lru_at v11 v27 v29 r j))

theorem firstOf_at
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (y : S1x256x1024.Idx) :
    @Eq EReal (firstOf v34 v36 v42 v45 v11 v27 v29 v39 v57 v60 v74 v77 v79 y)
      (rowsOf v34 v36 v42 v45 v11 v27 v29 v39 v57 v60 v74 v77 v79 (y 1) (y 2)) :=
  (first_at _ _ v74 v77 v79 y).trans (sumOf_at v34 v36 v42 v45 v11 v27 v29 v39 v57 v60 v74 v77 v79 (y 1) (y 2))

theorem secondOf_at
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (v87 : Vec Ideal S1x1024 .f32) (v101 v107 : Vec Ideal S1x1x1x1x1024 .f32) (y : S1x256x1024.Idx) :
    @Eq EReal (secondOf v34 v36 v42 v45 v11 v27 v29 v39 v57 v60 v74 v77 v79 v87 v101 v107 y)
      (entry (rowsOf v34 v36 v42 v45 v11 v27 v29 v39 v57 v60 v74 v77 v79 (y 1))
        (fun k => v87 (ix2 0 k)) (fun k => v107 (ix5 0 0 0 0 k)) (fun k => v101 (ix5 0 0 0 0 k)) (y 2)) :=
  (second_at _ _ v74 v77 v79 v101 v107 v87 y).trans
    (congrArg (fun f => entry f _ _ _ (y 2)) (funext fun k => sumOf_at v34 v36 v42 v45 v11 v27 v29 v39 v57 v60 v74 v77 v79 (y 1) k))

/-- The added row of a point's staged blocks. -/
def blockSum (x0 : Vec Ideal S1x256x1024 .bf16) (x1 x2 : Vec Ideal S1x256x1024 .f32) (x3 x4 x5 : Vec Ideal S1x256x1024 .bf16)
    (x6 : Vec Ideal S1x256x1024 .f32) (x7 : Vec Ideal S1x1x6x1x1024 .f32) (x8 : Vec Ideal S2x1x1024 .f32)
    (x10 x11 x12 : Vec Ideal S1024x1024 .bf16) (r : Fin 256) : Fin 1024 → EReal :=
  sumRow (fun k => x6 (ix3 0 r k)) (fun k => x7 (ix5 0 0 2 0 k))
    (mixRow (fun k => x0 (ix3 0 r k))
      (lruRow (fun k => x1 (ix3 0 r k)) (fun k => x2 (ix3 0 r k)) fun k => x3 (ix3 0 r k))
      (fun k => x4 (ix3 0 r k)) (fun k => x5 (ix3 0 r k)) (fun k => x8 (ix3 0 0 k)) (fun k => x8 (ix3 1 0 k)) x10 x11) x12

/-- The same row normalised and modulated. -/
def blockNormed (x0 : Vec Ideal S1x256x1024 .bf16) (x1 x2 : Vec Ideal S1x256x1024 .f32)
    (x3 x4 x5 : Vec Ideal S1x256x1024 .bf16) (x6 : Vec Ideal S1x256x1024 .f32) (x7 : Vec Ideal S1x1x6x1x1024 .f32)
    (x8 : Vec Ideal S2x1x1024 .f32) (x9 : Vec Ideal S1x1024 .f32) (x10 x11 x12 : Vec Ideal S1024x1024 .bf16)
    (r : Fin 256) : Fin 1024 → EReal :=
  entry (blockSum x0 x1 x2 x3 x4 x5 x6 x7 x8 x10 x11 x12 r) (fun k => x9 (ix2 0 k)) (fun k => x7 (ix5 0 0 3 0 k))
    (fun k => x7 (ix5 0 0 4 0 k))

/-- The two agree where the values read are the staged blocks'. -/
theorem rowsOf_eq
    (v34 : Vec Ideal S1x256x1024 .bf16) (v36 : Vec Ideal S1024x1024 .bf16) (v42 : Vec Ideal S1x256x1024 .bf16) (v45 :
    Vec Ideal S1x1x1024 .f32) (v11 : Vec Ideal S1x256x1024 .bf16) (v27 : Vec Ideal S1x256x1024 .f32) (v29 : Vec Ideal
    S1x256x1024 .f32) (v39 : Vec Ideal S1024x1024 .bf16) (v57 : Vec Ideal S1x256x1024 .bf16) (v60 : Vec Ideal
    S1x1x1024 .f32) (v74 : Vec Ideal S1024x1024 .bf16) (v77 : Vec Ideal S1x256x1024 .f32) (v79 : Vec Ideal
    S1x1x1x1x1024 .f32)
    (x0 : Vec Ideal S1x256x1024 .bf16) (x1 x2 : Vec Ideal S1x256x1024 .f32) (x3 x4 x5 : Vec Ideal S1x256x1024 .bf16)
    (x6 : Vec Ideal S1x256x1024 .f32) (x7 : Vec Ideal S1x1x6x1x1024 .f32) (x8 : Vec Ideal S2x1x1024 .f32)
    (x10 x11 x12 : Vec Ideal S1024x1024 .bf16)
    (h34 : ∀ (r : Fin 256) (k : Fin 1024), v34 (ix3 0 r k) = x0 (ix3 0 r k)) (h36 : v36 = x10) (h42 : ∀ (r : Fin 256)
    (k : Fin 1024), v42 (ix3 0 r k) = x4 (ix3 0 r k)) (h45 : ∀ k : Fin 1024, v45 (ix3 0 0 k) = x8 (ix3 0 0 k)) (h11 :
    ∀ (r : Fin 256) (k : Fin 1024), v11 (ix3 0 r k) = x3 (ix3 0 r k)) (h27 : ∀ (r : Fin 256) (k : Fin 1024), v27 (ix3
    0 r k) = x1 (ix3 0 r k)) (h29 : ∀ (r : Fin 256) (k : Fin 1024), v29 (ix3 0 r k) = x2 (ix3 0 r k)) (h39 : v39 =
    x11) (h57 : ∀ (r : Fin 256) (k : Fin 1024), v57 (ix3 0 r k) = x5 (ix3 0 r k)) (h60 : ∀ k : Fin 1024, v60 (ix3 0 0
    k) = x8 (ix3 1 0 k)) (h74 : v74 = x12) (h77 : ∀ (r : Fin 256) (k : Fin 1024), v77 (ix3 0 r k) = x6 (ix3 0 r k))
    (h79 : ∀ k : Fin 1024, v79 (ix5 0 0 0 0 k) = x7 (ix5 0 0 2 0 k))
    (r : Fin 256) :
    rowsOf v34 v36 v42 v45 v11 v27 v29 v39 v57 v60 v74 v77 v79 r
      = blockSum x0 x1 x2 x3 x4 x5 x6 x7 x8 x10 x11 x12 r := by
  subst h36 h39 h74
  unfold rowsOf blockSum
  simp only [h34, h42, h45, h11, h27, h29, h57, h60, h77, h79]

theorem entry_congr {a a' g g' s s' c c' : Fin 1024 → EReal} (ha : a = a') (hg : g = g') (hs : s = s') (hc : c = c')
    (k : Fin 1024) : entry a g s c k = entry a' g' s' c' k := by rw [ha, hg, hs, hc]

/-- The values read, by the staged blocks they are read from. -/
theorem rd_rows {e : EltTy} (X : Memref sig .tc .vmem S1x256x1024 e) (hX : X.IsWhole) (x : Vec Ideal S1x256x1024 e) (inb)
    (r : Fin 256) (k : Fin 1024) :
    View.readAt (Elt Ideal) X.view (Rect.unit (s := S1x256x1024) ![0, 0, 0] S1x256x1024.size inb).toLoadRect (hX.unread x) (ix3 0 r k)
      = x (ix3 0 r k) := by
  rw [Memref.IsWhole.readAt_unread hX]
  congr 1
  funext a
  refine Fin.ext ((Rect.idx_unit_val _ _ _ _ a).trans ?_)
  fin_cases a <;> simp

theorem rd_gate0 {e : EltTy} (X : Memref sig .tc .vmem S2x1x1024 e) (hX : X.IsWhole) (x : Vec Ideal S2x1x1024 e) (inb)
    (k : Fin 1024) :
    View.readAt (Elt Ideal) X.view (Rect.unit (s := S2x1x1024) ![0, 0, 0] S1x1x1024.size inb).toLoadRect (hX.unread x) (ix3 0 0 k)
      = x (ix3 0 0 k) := by
  rw [Memref.IsWhole.readAt_unread hX]
  congr 1
  funext a
  refine Fin.ext ((Rect.idx_unit_val _ _ _ _ a).trans ?_)
  fin_cases a <;> simp

theorem rd_gate1 {e : EltTy} (X : Memref sig .tc .vmem S2x1x1024 e) (hX : X.IsWhole) (x : Vec Ideal S2x1x1024 e) (inb)
    (k : Fin 1024) :
    View.readAt (Elt Ideal) X.view (Rect.unit (s := S2x1x1024) ![1, 0, 0] S1x1x1024.size inb).toLoadRect (hX.unread x) (ix3 0 0 k)
      = x (ix3 1 0 k) := by
  rw [Memref.IsWhole.readAt_unread hX]
  congr 1
  funext a
  refine Fin.ext ((Rect.idx_unit_val _ _ _ _ a).trans ?_)
  fin_cases a <;> simp

theorem rd_norm {e : EltTy} (X : Memref sig .tc .vmem S1x1024 e) (hX : X.IsWhole) (x : Vec Ideal S1x1024 e) (inb)
    (k : Fin 1024) :
    View.readAt (Elt Ideal) X.view (Rect.unit (s := S1x1024) ![0, 0] S1x1024.size inb).toLoadRect (hX.unread x) (ix2 0 k)
      = x (ix2 0 k) := by
  rw [Memref.IsWhole.readAt_unread hX]
  congr 1
  funext a
  refine Fin.ext ((Rect.idx_unit_val _ _ _ _ a).trans ?_)
  fin_cases a <;> simp

theorem rd_mod2 {e : EltTy} (X : Memref sig .tc .vmem S1x1x6x1x1024 e) (hX : X.IsWhole) (x : Vec Ideal S1x1x6x1x1024 e) (inb)
    (k : Fin 1024) :
    View.readAt (Elt Ideal) X.view (Rect.unit (s := S1x1x6x1x1024) ![0, 0, 2, 0, 0] S1x1x1x1x1024.size inb).toLoadRect (hX.unread x) (ix5 0 0 0 0 k)
      = x (ix5 0 0 2 0 k) := by
  rw [Memref.IsWhole.readAt_unread hX]
  congr 1
  funext a
  refine Fin.ext ((Rect.idx_unit_val _ _ _ _ a).trans ?_)
  fin_cases a <;> simp

theorem rd_mod3 {e : EltTy} (X : Memref sig .tc .vmem S1x1x6x1x1024 e) (hX : X.IsWhole) (x : Vec Ideal S1x1x6x1x1024 e) (inb)
    (k : Fin 1024) :
    View.readAt (Elt Ideal) X.view (Rect.unit (s := S1x1x6x1x1024) ![0, 0, 3, 0, 0] S1x1x1x1x1024.size inb).toLoadRect (hX.unread x) (ix5 0 0 0 0 k)
      = x (ix5 0 0 3 0 k) := by
  rw [Memref.IsWhole.readAt_unread hX]
  congr 1
  funext a
  refine Fin.ext ((Rect.idx_unit_val _ _ _ _ a).trans ?_)
  fin_cases a <;> simp

theorem rd_mod4 {e : EltTy} (X : Memref sig .tc .vmem S1x1x6x1x1024 e) (hX : X.IsWhole) (x : Vec Ideal S1x1x6x1x1024 e) (inb)
    (k : Fin 1024) :
    View.readAt (Elt Ideal) X.view (Rect.unit (s := S1x1x6x1x1024) ![0, 0, 4, 0, 0] S1x1x1x1x1024.size inb).toLoadRect (hX.unread x) (ix5 0 0 0 0 k)
      = x (ix5 0 0 4 0 k) := by
  rw [Memref.IsWhole.readAt_unread hX]
  congr 1
  funext a
  refine Fin.ext ((Rect.idx_unit_val _ _ _ _ a).trans ?_)
  fin_cases a <;> simp

theorem rd_square {e : EltTy} (X : Memref sig .tc .vmem S1024x1024 e) (hX : X.IsWhole) (x : Vec Ideal S1024x1024 e) (inb) :
    View.readAt (Elt Ideal) X.view (Rect.unit (s := S1024x1024) ![0, 0] S1024x1024.size inb).toLoadRect (hX.unread x) = x := by
  funext y
  rw [Memref.IsWhole.readAt_unread hX]
  congr 1
  funext a
  refine Fin.ext ((Rect.idx_unit_val _ _ _ _ a).trans ?_)
  fin_cases a <;> simp

/-- A block written whole by one store. -/
theorem whole_canon {e : EltTy} (v : Vec Ideal S1x256x1024 e) (y : S1x256x1024.Idx) :
    View.canon [(⟨Rect.unit (s := S1x256x1024) ![0, 0, 0] S1x256x1024.size inb_S1x256x1024_S1x256x1024_0_0_0, v⟩ :
      View.Piece (Elt Ideal) S1x256x1024 e)] y = v y := by
  canon_tiles y h
  rename_i x
  congr 1
  funext a
  refine Fin.ext ?_
  fin_cases a
  · exact (Nat.lt_one_iff.mp (y 0).isLt).trans (Nat.lt_one_iff.mp (x 0).isLt).symm
  · exact h1.symm
  · exact h2.symm

/-- The first result's block at the grid's first point. -/
theorem first_A
    (c : Dev nD) (i : grid0.Coords) (arg2 : Memref sig .tc .vmem S1x256x1024 .bf16) (harg2 : arg2.IsWhole) (arg3 :
    Memref sig .tc .vmem S1x256x1024 .f32) (harg3 : arg3.IsWhole) (arg4 : Memref sig .tc .vmem S1x256x1024 .f32)
    (harg4 : arg4.IsWhole) (arg5 : Memref sig .tc .vmem S1x256x1024 .bf16) (harg5 : arg5.IsWhole) (arg6 : Memref sig
    .tc .vmem S1x256x1024 .bf16) (harg6 : arg6.IsWhole) (arg7 : Memref sig .tc .vmem S1x256x1024 .bf16) (harg7 :
    arg7.IsWhole) (arg8 : Memref sig .tc .vmem S1x256x1024 .f32) (harg8 : arg8.IsWhole) (arg9 : Memref sig .tc .vmem
    S1x1x6x1x1024 .f32) (harg9 : arg9.IsWhole) (arg10 : Memref sig .tc .vmem S2x1x1024 .f32) (harg10 : arg10.IsWhole)
    (arg11 : Memref sig .tc .vmem S1x1024 .f32) (harg11 : arg11.IsWhole) (arg12 : Memref sig .tc .vmem S1024x1024
    .bf16) (harg12 : arg12.IsWhole) (arg13 : Memref sig .tc .vmem S1024x1024 .bf16) (harg13 : arg13.IsWhole) (arg14 :
    Memref sig .tc .vmem S1024x1024 .bf16) (harg14 : arg14.IsWhole) (arg15 : Memref sig .tc .vmem S1024x128 .f32)
    (harg15 : arg15.IsWhole) (arg16 : Memref sig .tc .vmem S1x128 .f32) (harg16 : arg16.IsWhole) (arg17 : Memref sig
    .tc .vmem S1x256x1024 .f32) (harg17 : arg17.IsWhole) (arg18 : Memref sig .tc .vmem S1x256x1024 .bf16) (harg18 :
    arg18.IsWhole) (arg19 : Memref sig .tc .vmem S1x256x128 .f32) (harg19 : arg19.IsWhole) (arg20 : Memref sig .tc
    .vmem S1x1x8x256 .f32) (harg20 : arg20.IsWhole) (arg21 : Memref sig .tc .vmem S1x1x8x128 .i32) (harg21 :
    arg21.IsWhole) (arg22 : Memref sig .tc .vmem S8x128 .i32) (harg22 : arg22.IsWhole) (arg23 : Memref sig .tc .vmem
    S1x128 .f32) (harg23 : arg23.IsWhole) (hc0 : cond0_0 i)
    (x0 : Vec Ideal S1x256x1024 .bf16) (x1 : Vec Ideal S1x256x1024 .f32) (x2 : Vec Ideal S1x256x1024 .f32) (x3 : Vec
    Ideal S1x256x1024 .bf16) (x4 : Vec Ideal S1x256x1024 .bf16) (x5 : Vec Ideal S1x256x1024 .bf16) (x6 : Vec Ideal
    S1x256x1024 .f32) (x7 : Vec Ideal S1x1x6x1x1024 .f32) (x8 : Vec Ideal S2x1x1024 .f32) (x9 : Vec Ideal S1x1024
    .f32) (x10 : Vec Ideal S1024x1024 .bf16) (x11 : Vec Ideal S1024x1024 .bf16) (x12 : Vec Ideal S1024x1024 .bf16)
    (x13 : Vec Ideal S1024x128 .f32) (x14 : Vec Ideal S1x128 .f32)
    (y : S1x256x1024.Idx) :
    @Eq EReal
      (out0_A_15 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 y)
      (blockSum x0 x1 x2 x3 x4 x5 x6 x7 x8 x10 x11 x12 (y 1) (y 2)) := by
  have e :
      out0_A_15 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 = View.canon [⟨Rect.unit (s := S1x256x1024) ![0, 0, 0] S1x256x1024.size
      inb_S1x256x1024_S1x256x1024_0_0_0,
        firstOf (View.readAt (Elt Ideal) arg2.view (Rect.unit (s := S1x256x1024) ![0, 0, 0] S1x256x1024.size
        inb_S1x256x1024_S1x256x1024_0_0_0).toLoadRect (harg2.unread x0)) (View.readAt (Elt Ideal) arg12.view
        (Rect.unit (s := S1024x1024) ![0, 0] S1024x1024.size inb_S1024x1024_S1024x1024_0_0).toLoadRect (harg12.unread
        x10)) (View.readAt (Elt Ideal) arg6.view (Rect.unit (s := S1x256x1024) ![0, 0, 0] S1x256x1024.size
        inb_S1x256x1024_S1x256x1024_0_0_0).toLoadRect (harg6.unread x4)) (View.readAt (Elt Ideal) arg10.view
        (Rect.unit (s := S2x1x1024) ![0, 0, 0] S1x1x1024.size inb_S2x1x1024_S1x1x1024_0_0_0).toLoadRect (harg10.unread
        x8)) (View.readAt (Elt Ideal) arg5.view (Rect.unit (s := S1x256x1024) ![0, 0, 0] S1x256x1024.size
        inb_S1x256x1024_S1x256x1024_0_0_0).toLoadRect (harg5.unread x3)) (View.readAt (Elt Ideal) arg3.view (Rect.unit
        (s := S1x256x1024) ![0, 0, 0] S1x256x1024.size inb_S1x256x1024_S1x256x1024_0_0_0).toLoadRect (harg3.unread
        x1)) (View.readAt (Elt Ideal) arg4.view (Rect.unit (s := S1x256x1024) ![0, 0, 0] S1x256x1024.size
        inb_S1x256x1024_S1x256x1024_0_0_0).toLoadRect (harg4.unread x2)) (View.readAt (Elt Ideal) arg13.view
        (Rect.unit (s := S1024x1024) ![0, 0] S1024x1024.size inb_S1024x1024_S1024x1024_0_0).toLoadRect (harg13.unread
        x11)) (View.readAt (Elt Ideal) arg7.view (Rect.unit (s := S1x256x1024) ![0, 0, 0] S1x256x1024.size
        inb_S1x256x1024_S1x256x1024_0_0_0).toLoadRect (harg7.unread x5)) (View.readAt (Elt Ideal) arg10.view
        (Rect.unit (s := S2x1x1024) ![1, 0, 0] S1x1x1024.size inb_S2x1x1024_S1x1x1024_1_0_0).toLoadRect (harg10.unread
        x8)) (View.readAt (Elt Ideal) arg14.view (Rect.unit (s := S1024x1024) ![0, 0] S1024x1024.size
        inb_S1024x1024_S1024x1024_0_0).toLoadRect (harg14.unread x12)) (View.readAt (Elt Ideal) arg8.view (Rect.unit
        (s := S1x256x1024) ![0, 0, 0] S1x256x1024.size inb_S1x256x1024_S1x256x1024_0_0_0).toLoadRect (harg8.unread
        x6)) (View.readAt (Elt Ideal) arg9.view (Rect.unit (s := S1x1x6x1x1024) ![0, 0, 2, 0, 0] S1x1x1x1x1024.size
        inb_S1x1x6x1x1024_S1x1x1x1x1024_0_0_2_0_0).toLoadRect (harg9.unread x7))⟩] :=
    (View.read_writes_junk_eq_canon _ _).trans (congrArg View.canon rfl)
  rw [e]
  refine (whole_canon _ y).trans ?_
  refine (firstOf_at _ _ _ _ _ _ _ _ _ _ _ _ _ y).trans ?_
  refine congrFun (rowsOf_eq _ _ _ _ _ _ _ _ _ _ _ _ _ x0 x1 x2 x3 x4 x5 x6 x7 x8 x10 x11 x12 ?_ ?_ ?_ ?_ ?_ ?_ ?_ ?_ ?_ ?_ ?_ ?_ ?_ (y 1)) (y 2)
  · exact rd_rows arg2 harg2 x0 _
  · exact rd_square arg12 harg12 x10 _
  · exact rd_rows arg6 harg6 x4 _
  · exact rd_gate0 arg10 harg10 x8 _
  · exact rd_rows arg5 harg5 x3 _
  · exact rd_rows arg3 harg3 x1 _
  · exact rd_rows arg4 harg4 x2 _
  · exact rd_square arg13 harg13 x11 _
  · exact rd_rows arg7 harg7 x5 _
  · exact rd_gate1 arg10 harg10 x8 _
  · exact rd_square arg14 harg14 x12 _
  · exact rd_rows arg8 harg8 x6 _
  · exact rd_mod2 arg9 harg9 x7 _

/-- The second result's block at the grid's first point. -/
theorem second_A
    (c : Dev nD) (i : grid0.Coords) (arg2 : Memref sig .tc .vmem S1x256x1024 .bf16) (harg2 : arg2.IsWhole) (arg3 :
    Memref sig .tc .vmem S1x256x1024 .f32) (harg3 : arg3.IsWhole) (arg4 : Memref sig .tc .vmem S1x256x1024 .f32)
    (harg4 : arg4.IsWhole) (arg5 : Memref sig .tc .vmem S1x256x1024 .bf16) (harg5 : arg5.IsWhole) (arg6 : Memref sig
    .tc .vmem S1x256x1024 .bf16) (harg6 : arg6.IsWhole) (arg7 : Memref sig .tc .vmem S1x256x1024 .bf16) (harg7 :
    arg7.IsWhole) (arg8 : Memref sig .tc .vmem S1x256x1024 .f32) (harg8 : arg8.IsWhole) (arg9 : Memref sig .tc .vmem
    S1x1x6x1x1024 .f32) (harg9 : arg9.IsWhole) (arg10 : Memref sig .tc .vmem S2x1x1024 .f32) (harg10 : arg10.IsWhole)
    (arg11 : Memref sig .tc .vmem S1x1024 .f32) (harg11 : arg11.IsWhole) (arg12 : Memref sig .tc .vmem S1024x1024
    .bf16) (harg12 : arg12.IsWhole) (arg13 : Memref sig .tc .vmem S1024x1024 .bf16) (harg13 : arg13.IsWhole) (arg14 :
    Memref sig .tc .vmem S1024x1024 .bf16) (harg14 : arg14.IsWhole) (arg15 : Memref sig .tc .vmem S1024x128 .f32)
    (harg15 : arg15.IsWhole) (arg16 : Memref sig .tc .vmem S1x128 .f32) (harg16 : arg16.IsWhole) (arg17 : Memref sig
    .tc .vmem S1x256x1024 .f32) (harg17 : arg17.IsWhole) (arg18 : Memref sig .tc .vmem S1x256x1024 .bf16) (harg18 :
    arg18.IsWhole) (arg19 : Memref sig .tc .vmem S1x256x128 .f32) (harg19 : arg19.IsWhole) (arg20 : Memref sig .tc
    .vmem S1x1x8x256 .f32) (harg20 : arg20.IsWhole) (arg21 : Memref sig .tc .vmem S1x1x8x128 .i32) (harg21 :
    arg21.IsWhole) (arg22 : Memref sig .tc .vmem S8x128 .i32) (harg22 : arg22.IsWhole) (arg23 : Memref sig .tc .vmem
    S1x128 .f32) (harg23 : arg23.IsWhole) (hc0 : cond0_0 i)
    (x0 : Vec Ideal S1x256x1024 .bf16) (x1 : Vec Ideal S1x256x1024 .f32) (x2 : Vec Ideal S1x256x1024 .f32) (x3 : Vec
    Ideal S1x256x1024 .bf16) (x4 : Vec Ideal S1x256x1024 .bf16) (x5 : Vec Ideal S1x256x1024 .bf16) (x6 : Vec Ideal
    S1x256x1024 .f32) (x7 : Vec Ideal S1x1x6x1x1024 .f32) (x8 : Vec Ideal S2x1x1024 .f32) (x9 : Vec Ideal S1x1024
    .f32) (x10 : Vec Ideal S1024x1024 .bf16) (x11 : Vec Ideal S1024x1024 .bf16) (x12 : Vec Ideal S1024x1024 .bf16)
    (x13 : Vec Ideal S1024x128 .f32) (x14 : Vec Ideal S1x128 .f32)
    (y : S1x256x1024.Idx) :
    @Eq EReal
      (out0_A_16 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 y)
      (blockNormed x0 x1 x2 x3 x4 x5 x6 x7 x8 x9 x10 x11 x12 (y 1) (y 2)) := by
  have e :
      out0_A_16 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 = View.canon [⟨Rect.unit (s := S1x256x1024) ![0, 0, 0] S1x256x1024.size
      inb_S1x256x1024_S1x256x1024_0_0_0,
        secondOf (View.readAt (Elt Ideal) arg2.view (Rect.unit (s := S1x256x1024) ![0, 0, 0] S1x256x1024.size
        inb_S1x256x1024_S1x256x1024_0_0_0).toLoadRect (harg2.unread x0)) (View.readAt (Elt Ideal) arg12.view
        (Rect.unit (s := S1024x1024) ![0, 0] S1024x1024.size inb_S1024x1024_S1024x1024_0_0).toLoadRect (harg12.unread
        x10)) (View.readAt (Elt Ideal) arg6.view (Rect.unit (s := S1x256x1024) ![0, 0, 0] S1x256x1024.size
        inb_S1x256x1024_S1x256x1024_0_0_0).toLoadRect (harg6.unread x4)) (View.readAt (Elt Ideal) arg10.view
        (Rect.unit (s := S2x1x1024) ![0, 0, 0] S1x1x1024.size inb_S2x1x1024_S1x1x1024_0_0_0).toLoadRect (harg10.unread
        x8)) (View.readAt (Elt Ideal) arg5.view (Rect.unit (s := S1x256x1024) ![0, 0, 0] S1x256x1024.size
        inb_S1x256x1024_S1x256x1024_0_0_0).toLoadRect (harg5.unread x3)) (View.readAt (Elt Ideal) arg3.view (Rect.unit
        (s := S1x256x1024) ![0, 0, 0] S1x256x1024.size inb_S1x256x1024_S1x256x1024_0_0_0).toLoadRect (harg3.unread
        x1)) (View.readAt (Elt Ideal) arg4.view (Rect.unit (s := S1x256x1024) ![0, 0, 0] S1x256x1024.size
        inb_S1x256x1024_S1x256x1024_0_0_0).toLoadRect (harg4.unread x2)) (View.readAt (Elt Ideal) arg13.view
        (Rect.unit (s := S1024x1024) ![0, 0] S1024x1024.size inb_S1024x1024_S1024x1024_0_0).toLoadRect (harg13.unread
        x11)) (View.readAt (Elt Ideal) arg7.view (Rect.unit (s := S1x256x1024) ![0, 0, 0] S1x256x1024.size
        inb_S1x256x1024_S1x256x1024_0_0_0).toLoadRect (harg7.unread x5)) (View.readAt (Elt Ideal) arg10.view
        (Rect.unit (s := S2x1x1024) ![1, 0, 0] S1x1x1024.size inb_S2x1x1024_S1x1x1024_1_0_0).toLoadRect (harg10.unread
        x8)) (View.readAt (Elt Ideal) arg14.view (Rect.unit (s := S1024x1024) ![0, 0] S1024x1024.size
        inb_S1024x1024_S1024x1024_0_0).toLoadRect (harg14.unread x12)) (View.readAt (Elt Ideal) arg8.view (Rect.unit
        (s := S1x256x1024) ![0, 0, 0] S1x256x1024.size inb_S1x256x1024_S1x256x1024_0_0_0).toLoadRect (harg8.unread
        x6)) (View.readAt (Elt Ideal) arg9.view (Rect.unit (s := S1x1x6x1x1024) ![0, 0, 2, 0, 0] S1x1x1x1x1024.size
        inb_S1x1x6x1x1024_S1x1x1x1x1024_0_0_2_0_0).toLoadRect (harg9.unread x7)) (View.readAt (Elt Ideal) arg11.view
        (Rect.unit (s := S1x1024) ![0, 0] S1x1024.size inb_S1x1024_S1x1024_0_0).toLoadRect (harg11.unread x9))
        (View.readAt (Elt Ideal) arg9.view (Rect.unit (s := S1x1x6x1x1024) ![0, 0, 4, 0, 0] S1x1x1x1x1024.size
        inb_S1x1x6x1x1024_S1x1x1x1x1024_0_0_4_0_0).toLoadRect (harg9.unread x7)) (View.readAt (Elt Ideal) arg9.view
        (Rect.unit (s := S1x1x6x1x1024) ![0, 0, 3, 0, 0] S1x1x1x1x1024.size
        inb_S1x1x6x1x1024_S1x1x1x1x1024_0_0_3_0_0).toLoadRect (harg9.unread x7))⟩] :=
    (View.read_writes_junk_eq_canon _ _).trans (congrArg View.canon rfl)
  rw [e]
  refine (whole_canon _ y).trans ?_
  refine (secondOf_at _ _ _ _ _ _ _ _ _ _ _ _ _ _ _ _ y).trans ?_
  refine entry_congr
    (rowsOf_eq _ _ _ _ _ _ _ _ _ _ _ _ _ x0 x1 x2 x3 x4 x5 x6 x7 x8 x10 x11 x12 ?_ ?_ ?_ ?_ ?_ ?_ ?_ ?_ ?_ ?_ ?_ ?_ ?_ (y 1))
    ?_ ?_ ?_ (y 2)
  · exact rd_rows arg2 harg2 x0 _
  · exact rd_square arg12 harg12 x10 _
  · exact rd_rows arg6 harg6 x4 _
  · exact rd_gate0 arg10 harg10 x8 _
  · exact rd_rows arg5 harg5 x3 _
  · exact rd_rows arg3 harg3 x1 _
  · exact rd_rows arg4 harg4 x2 _
  · exact rd_square arg13 harg13 x11 _
  · exact rd_rows arg7 harg7 x5 _
  · exact rd_gate1 arg10 harg10 x8 _
  · exact rd_square arg14 harg14 x12 _
  · exact rd_rows arg8 harg8 x6 _
  · exact rd_mod2 arg9 harg9 x7 _
  · exact funext (rd_norm arg11 harg11 x9 _)
  · exact funext (rd_mod3 arg9 harg9 x7 _)
  · exact funext (rd_mod4 arg9 harg9 x7 _)

/-- The first result's block at any other point. -/
theorem first_B
    (c : Dev nD) (i : grid0.Coords) (arg2 : Memref sig .tc .vmem S1x256x1024 .bf16) (harg2 : arg2.IsWhole) (arg3 :
    Memref sig .tc .vmem S1x256x1024 .f32) (harg3 : arg3.IsWhole) (arg4 : Memref sig .tc .vmem S1x256x1024 .f32)
    (harg4 : arg4.IsWhole) (arg5 : Memref sig .tc .vmem S1x256x1024 .bf16) (harg5 : arg5.IsWhole) (arg6 : Memref sig
    .tc .vmem S1x256x1024 .bf16) (harg6 : arg6.IsWhole) (arg7 : Memref sig .tc .vmem S1x256x1024 .bf16) (harg7 :
    arg7.IsWhole) (arg8 : Memref sig .tc .vmem S1x256x1024 .f32) (harg8 : arg8.IsWhole) (arg9 : Memref sig .tc .vmem
    S1x1x6x1x1024 .f32) (harg9 : arg9.IsWhole) (arg10 : Memref sig .tc .vmem S2x1x1024 .f32) (harg10 : arg10.IsWhole)
    (arg11 : Memref sig .tc .vmem S1x1024 .f32) (harg11 : arg11.IsWhole) (arg12 : Memref sig .tc .vmem S1024x1024
    .bf16) (harg12 : arg12.IsWhole) (arg13 : Memref sig .tc .vmem S1024x1024 .bf16) (harg13 : arg13.IsWhole) (arg14 :
    Memref sig .tc .vmem S1024x1024 .bf16) (harg14 : arg14.IsWhole) (arg15 : Memref sig .tc .vmem S1024x128 .f32)
    (harg15 : arg15.IsWhole) (arg16 : Memref sig .tc .vmem S1x128 .f32) (harg16 : arg16.IsWhole) (arg17 : Memref sig
    .tc .vmem S1x256x1024 .f32) (harg17 : arg17.IsWhole) (arg18 : Memref sig .tc .vmem S1x256x1024 .bf16) (harg18 :
    arg18.IsWhole) (arg19 : Memref sig .tc .vmem S1x256x128 .f32) (harg19 : arg19.IsWhole) (arg20 : Memref sig .tc
    .vmem S1x1x8x256 .f32) (harg20 : arg20.IsWhole) (arg21 : Memref sig .tc .vmem S1x1x8x128 .i32) (harg21 :
    arg21.IsWhole) (arg22 : Memref sig .tc .vmem S8x128 .i32) (harg22 : arg22.IsWhole) (arg23 : Memref sig .tc .vmem
    S1x128 .f32) (harg23 : arg23.IsWhole) (hc0 : ¬cond0_0 i)
    (x0 : Vec Ideal S1x256x1024 .bf16) (x1 : Vec Ideal S1x256x1024 .f32) (x2 : Vec Ideal S1x256x1024 .f32) (x3 : Vec
    Ideal S1x256x1024 .bf16) (x4 : Vec Ideal S1x256x1024 .bf16) (x5 : Vec Ideal S1x256x1024 .bf16) (x6 : Vec Ideal
    S1x256x1024 .f32) (x7 : Vec Ideal S1x1x6x1x1024 .f32) (x8 : Vec Ideal S2x1x1024 .f32) (x9 : Vec Ideal S1x1024
    .f32) (x10 : Vec Ideal S1024x1024 .bf16) (x11 : Vec Ideal S1024x1024 .bf16) (x12 : Vec Ideal S1024x1024 .bf16)
    (x13 : Vec Ideal S1024x128 .f32) (x14 : Vec Ideal S1x128 .f32) (xs : Vec Ideal S1x128 .f32)
    (y : S1x256x1024.Idx) :
    @Eq EReal
      (out0_B_15 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 xs y)
      (blockSum x0 x1 x2 x3 x4 x5 x6 x7 x8 x10 x11 x12 (y 1) (y 2)) := by
  have e :
      out0_B_15 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 xs = View.canon [⟨Rect.unit (s := S1x256x1024) ![0, 0, 0] S1x256x1024.size
      inb_S1x256x1024_S1x256x1024_0_0_0,
        firstOf (View.readAt (Elt Ideal) arg2.view (Rect.unit (s := S1x256x1024) ![0, 0, 0] S1x256x1024.size
        inb_S1x256x1024_S1x256x1024_0_0_0).toLoadRect (harg2.unread x0)) (View.readAt (Elt Ideal) arg12.view
        (Rect.unit (s := S1024x1024) ![0, 0] S1024x1024.size inb_S1024x1024_S1024x1024_0_0).toLoadRect (harg12.unread
        x10)) (View.readAt (Elt Ideal) arg6.view (Rect.unit (s := S1x256x1024) ![0, 0, 0] S1x256x1024.size
        inb_S1x256x1024_S1x256x1024_0_0_0).toLoadRect (harg6.unread x4)) (View.readAt (Elt Ideal) arg10.view
        (Rect.unit (s := S2x1x1024) ![0, 0, 0] S1x1x1024.size inb_S2x1x1024_S1x1x1024_0_0_0).toLoadRect (harg10.unread
        x8)) (View.readAt (Elt Ideal) arg5.view (Rect.unit (s := S1x256x1024) ![0, 0, 0] S1x256x1024.size
        inb_S1x256x1024_S1x256x1024_0_0_0).toLoadRect (harg5.unread x3)) (View.readAt (Elt Ideal) arg3.view (Rect.unit
        (s := S1x256x1024) ![0, 0, 0] S1x256x1024.size inb_S1x256x1024_S1x256x1024_0_0_0).toLoadRect (harg3.unread
        x1)) (View.readAt (Elt Ideal) arg4.view (Rect.unit (s := S1x256x1024) ![0, 0, 0] S1x256x1024.size
        inb_S1x256x1024_S1x256x1024_0_0_0).toLoadRect (harg4.unread x2)) (View.readAt (Elt Ideal) arg13.view
        (Rect.unit (s := S1024x1024) ![0, 0] S1024x1024.size inb_S1024x1024_S1024x1024_0_0).toLoadRect (harg13.unread
        x11)) (View.readAt (Elt Ideal) arg7.view (Rect.unit (s := S1x256x1024) ![0, 0, 0] S1x256x1024.size
        inb_S1x256x1024_S1x256x1024_0_0_0).toLoadRect (harg7.unread x5)) (View.readAt (Elt Ideal) arg10.view
        (Rect.unit (s := S2x1x1024) ![1, 0, 0] S1x1x1024.size inb_S2x1x1024_S1x1x1024_1_0_0).toLoadRect (harg10.unread
        x8)) (View.readAt (Elt Ideal) arg14.view (Rect.unit (s := S1024x1024) ![0, 0] S1024x1024.size
        inb_S1024x1024_S1024x1024_0_0).toLoadRect (harg14.unread x12)) (View.readAt (Elt Ideal) arg8.view (Rect.unit
        (s := S1x256x1024) ![0, 0, 0] S1x256x1024.size inb_S1x256x1024_S1x256x1024_0_0_0).toLoadRect (harg8.unread
        x6)) (View.readAt (Elt Ideal) arg9.view (Rect.unit (s := S1x1x6x1x1024) ![0, 0, 2, 0, 0] S1x1x1x1x1024.size
        inb_S1x1x6x1x1024_S1x1x1x1x1024_0_0_2_0_0).toLoadRect (harg9.unread x7))⟩] :=
    (View.read_writes_junk_eq_canon _ _).trans (congrArg View.canon rfl)
  rw [e]
  refine (whole_canon _ y).trans ?_
  refine (firstOf_at _ _ _ _ _ _ _ _ _ _ _ _ _ y).trans ?_
  refine congrFun (rowsOf_eq _ _ _ _ _ _ _ _ _ _ _ _ _ x0 x1 x2 x3 x4 x5 x6 x7 x8 x10 x11 x12 ?_ ?_ ?_ ?_ ?_ ?_ ?_ ?_ ?_ ?_ ?_ ?_ ?_ (y 1)) (y 2)
  · exact rd_rows arg2 harg2 x0 _
  · exact rd_square arg12 harg12 x10 _
  · exact rd_rows arg6 harg6 x4 _
  · exact rd_gate0 arg10 harg10 x8 _
  · exact rd_rows arg5 harg5 x3 _
  · exact rd_rows arg3 harg3 x1 _
  · exact rd_rows arg4 harg4 x2 _
  · exact rd_square arg13 harg13 x11 _
  · exact rd_rows arg7 harg7 x5 _
  · exact rd_gate1 arg10 harg10 x8 _
  · exact rd_square arg14 harg14 x12 _
  · exact rd_rows arg8 harg8 x6 _
  · exact rd_mod2 arg9 harg9 x7 _

/-- The second result's block at any other point. -/
theorem second_B
    (c : Dev nD) (i : grid0.Coords) (arg2 : Memref sig .tc .vmem S1x256x1024 .bf16) (harg2 : arg2.IsWhole) (arg3 :
    Memref sig .tc .vmem S1x256x1024 .f32) (harg3 : arg3.IsWhole) (arg4 : Memref sig .tc .vmem S1x256x1024 .f32)
    (harg4 : arg4.IsWhole) (arg5 : Memref sig .tc .vmem S1x256x1024 .bf16) (harg5 : arg5.IsWhole) (arg6 : Memref sig
    .tc .vmem S1x256x1024 .bf16) (harg6 : arg6.IsWhole) (arg7 : Memref sig .tc .vmem S1x256x1024 .bf16) (harg7 :
    arg7.IsWhole) (arg8 : Memref sig .tc .vmem S1x256x1024 .f32) (harg8 : arg8.IsWhole) (arg9 : Memref sig .tc .vmem
    S1x1x6x1x1024 .f32) (harg9 : arg9.IsWhole) (arg10 : Memref sig .tc .vmem S2x1x1024 .f32) (harg10 : arg10.IsWhole)
    (arg11 : Memref sig .tc .vmem S1x1024 .f32) (harg11 : arg11.IsWhole) (arg12 : Memref sig .tc .vmem S1024x1024
    .bf16) (harg12 : arg12.IsWhole) (arg13 : Memref sig .tc .vmem S1024x1024 .bf16) (harg13 : arg13.IsWhole) (arg14 :
    Memref sig .tc .vmem S1024x1024 .bf16) (harg14 : arg14.IsWhole) (arg15 : Memref sig .tc .vmem S1024x128 .f32)
    (harg15 : arg15.IsWhole) (arg16 : Memref sig .tc .vmem S1x128 .f32) (harg16 : arg16.IsWhole) (arg17 : Memref sig
    .tc .vmem S1x256x1024 .f32) (harg17 : arg17.IsWhole) (arg18 : Memref sig .tc .vmem S1x256x1024 .bf16) (harg18 :
    arg18.IsWhole) (arg19 : Memref sig .tc .vmem S1x256x128 .f32) (harg19 : arg19.IsWhole) (arg20 : Memref sig .tc
    .vmem S1x1x8x256 .f32) (harg20 : arg20.IsWhole) (arg21 : Memref sig .tc .vmem S1x1x8x128 .i32) (harg21 :
    arg21.IsWhole) (arg22 : Memref sig .tc .vmem S8x128 .i32) (harg22 : arg22.IsWhole) (arg23 : Memref sig .tc .vmem
    S1x128 .f32) (harg23 : arg23.IsWhole) (hc0 : ¬cond0_0 i)
    (x0 : Vec Ideal S1x256x1024 .bf16) (x1 : Vec Ideal S1x256x1024 .f32) (x2 : Vec Ideal S1x256x1024 .f32) (x3 : Vec
    Ideal S1x256x1024 .bf16) (x4 : Vec Ideal S1x256x1024 .bf16) (x5 : Vec Ideal S1x256x1024 .bf16) (x6 : Vec Ideal
    S1x256x1024 .f32) (x7 : Vec Ideal S1x1x6x1x1024 .f32) (x8 : Vec Ideal S2x1x1024 .f32) (x9 : Vec Ideal S1x1024
    .f32) (x10 : Vec Ideal S1024x1024 .bf16) (x11 : Vec Ideal S1024x1024 .bf16) (x12 : Vec Ideal S1024x1024 .bf16)
    (x13 : Vec Ideal S1024x128 .f32) (x14 : Vec Ideal S1x128 .f32) (xs : Vec Ideal S1x128 .f32)
    (y : S1x256x1024.Idx) :
    @Eq EReal
      (out0_B_16 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 xs y)
      (blockNormed x0 x1 x2 x3 x4 x5 x6 x7 x8 x9 x10 x11 x12 (y 1) (y 2)) := by
  have e :
      out0_B_16 (F := Ideal) c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 hc0 x0 x1 x2 x3 x4 x5 x6 x7 x8 x9
      x10 x11 x12 x13 x14 xs = View.canon [⟨Rect.unit (s := S1x256x1024) ![0, 0, 0] S1x256x1024.size
      inb_S1x256x1024_S1x256x1024_0_0_0,
        secondOf (View.readAt (Elt Ideal) arg2.view (Rect.unit (s := S1x256x1024) ![0, 0, 0] S1x256x1024.size
        inb_S1x256x1024_S1x256x1024_0_0_0).toLoadRect (harg2.unread x0)) (View.readAt (Elt Ideal) arg12.view
        (Rect.unit (s := S1024x1024) ![0, 0] S1024x1024.size inb_S1024x1024_S1024x1024_0_0).toLoadRect (harg12.unread
        x10)) (View.readAt (Elt Ideal) arg6.view (Rect.unit (s := S1x256x1024) ![0, 0, 0] S1x256x1024.size
        inb_S1x256x1024_S1x256x1024_0_0_0).toLoadRect (harg6.unread x4)) (View.readAt (Elt Ideal) arg10.view
        (Rect.unit (s := S2x1x1024) ![0, 0, 0] S1x1x1024.size inb_S2x1x1024_S1x1x1024_0_0_0).toLoadRect (harg10.unread
        x8)) (View.readAt (Elt Ideal) arg5.view (Rect.unit (s := S1x256x1024) ![0, 0, 0] S1x256x1024.size
        inb_S1x256x1024_S1x256x1024_0_0_0).toLoadRect (harg5.unread x3)) (View.readAt (Elt Ideal) arg3.view (Rect.unit
        (s := S1x256x1024) ![0, 0, 0] S1x256x1024.size inb_S1x256x1024_S1x256x1024_0_0_0).toLoadRect (harg3.unread
        x1)) (View.readAt (Elt Ideal) arg4.view (Rect.unit (s := S1x256x1024) ![0, 0, 0] S1x256x1024.size
        inb_S1x256x1024_S1x256x1024_0_0_0).toLoadRect (harg4.unread x2)) (View.readAt (Elt Ideal) arg13.view
        (Rect.unit (s := S1024x1024) ![0, 0] S1024x1024.size inb_S1024x1024_S1024x1024_0_0).toLoadRect (harg13.unread
        x11)) (View.readAt (Elt Ideal) arg7.view (Rect.unit (s := S1x256x1024) ![0, 0, 0] S1x256x1024.size
        inb_S1x256x1024_S1x256x1024_0_0_0).toLoadRect (harg7.unread x5)) (View.readAt (Elt Ideal) arg10.view
        (Rect.unit (s := S2x1x1024) ![1, 0, 0] S1x1x1024.size inb_S2x1x1024_S1x1x1024_1_0_0).toLoadRect (harg10.unread
        x8)) (View.readAt (Elt Ideal) arg14.view (Rect.unit (s := S1024x1024) ![0, 0] S1024x1024.size
        inb_S1024x1024_S1024x1024_0_0).toLoadRect (harg14.unread x12)) (View.readAt (Elt Ideal) arg8.view (Rect.unit
        (s := S1x256x1024) ![0, 0, 0] S1x256x1024.size inb_S1x256x1024_S1x256x1024_0_0_0).toLoadRect (harg8.unread
        x6)) (View.readAt (Elt Ideal) arg9.view (Rect.unit (s := S1x1x6x1x1024) ![0, 0, 2, 0, 0] S1x1x1x1x1024.size
        inb_S1x1x6x1x1024_S1x1x1x1x1024_0_0_2_0_0).toLoadRect (harg9.unread x7)) (View.readAt (Elt Ideal) arg11.view
        (Rect.unit (s := S1x1024) ![0, 0] S1x1024.size inb_S1x1024_S1x1024_0_0).toLoadRect (harg11.unread x9))
        (View.readAt (Elt Ideal) arg9.view (Rect.unit (s := S1x1x6x1x1024) ![0, 0, 4, 0, 0] S1x1x1x1x1024.size
        inb_S1x1x6x1x1024_S1x1x1x1x1024_0_0_4_0_0).toLoadRect (harg9.unread x7)) (View.readAt (Elt Ideal) arg9.view
        (Rect.unit (s := S1x1x6x1x1024) ![0, 0, 3, 0, 0] S1x1x1x1x1024.size
        inb_S1x1x6x1x1024_S1x1x1x1x1024_0_0_3_0_0).toLoadRect (harg9.unread x7))⟩] :=
    (View.read_writes_junk_eq_canon _ _).trans (congrArg View.canon rfl)
  rw [e]
  refine (whole_canon _ y).trans ?_
  refine (secondOf_at _ _ _ _ _ _ _ _ _ _ _ _ _ _ _ _ y).trans ?_
  refine entry_congr
    (rowsOf_eq _ _ _ _ _ _ _ _ _ _ _ _ _ x0 x1 x2 x3 x4 x5 x6 x7 x8 x10 x11 x12 ?_ ?_ ?_ ?_ ?_ ?_ ?_ ?_ ?_ ?_ ?_ ?_ ?_ (y 1))
    ?_ ?_ ?_ (y 2)
  · exact rd_rows arg2 harg2 x0 _
  · exact rd_square arg12 harg12 x10 _
  · exact rd_rows arg6 harg6 x4 _
  · exact rd_gate0 arg10 harg10 x8 _
  · exact rd_rows arg5 harg5 x3 _
  · exact rd_rows arg3 harg3 x1 _
  · exact rd_rows arg4 harg4 x2 _
  · exact rd_square arg13 harg13 x11 _
  · exact rd_rows arg7 harg7 x5 _
  · exact rd_gate1 arg10 harg10 x8 _
  · exact rd_square arg14 harg14 x12 _
  · exact rd_rows arg8 harg8 x6 _
  · exact rd_mod2 arg9 harg9 x7 _
  · exact funext (rd_norm arg11 harg11 x9 _)
  · exact funext (rd_mod3 arg9 harg9 x7 _)
  · exact funext (rd_mod4 arg9 harg9 x7 _)

end Cert.MergeIdeal.Mrg

end
-- ==== Proof.MergedArray.lean ====
/-
  The arrays the merge leaves: point `t` of the grid stages rows `256·(t mod 33) …` of batch entry `t / 33` of every
  activation, the three column blocks of the gates apart, that entry's modulation of the rows' segment and all of the
  weights; so the blocks it writes are the two results of `Proof/Merged.lean`.
-/
module

public import proofs.«01_k».proof.Proof.MergedBlock
public import proofs.«01_k».proof.Proof.Gen.MergeIdeal.Value

@[expose] public section

set_option maxRecDepth 16384

noncomputable section

namespace Cert.MergeIdeal.Mrg

open Cert.MergeIdeal Cert.MergeIdeal.Gen Idealize.ShloMosaic Idealize.ShloMosaic.TcCoe Cert.Project Cert.Merged

variable (m : (ℓ : Loc nD τ sig) → Buf (Elt Ideal) ℓ) (c : Dev nD)

abbrev oA : RowsArr := m ((c : Thread nD τ).loc main_arg0)
abbrev hfA : RowsArr := m ((c : Thread nD τ).loc main_arg1)
abbrev hbA : RowsArr := m ((c : Thread nD τ).loc main_arg2)
abbrev zbA : GatesArr := m ((c : Thread nD τ).loc main_arg3)
abbrev ctxA : CtxArr := m ((c : Thread nD τ).loc main_arg4)
abbrev latA : LatArr := m ((c : Thread nD τ).loc main_arg5)
abbrev modA : ModArr := m ((c : Thread nD τ).loc main_arg6)
abbrev bgA : BiasArr := m ((c : Thread nD τ).loc main_arg7)
abbrev normA : NormArr := m ((c : Thread nD τ).loc main_arg8)
abbrev woA : SquareArr := m ((c : Thread nD τ).loc main_arg9)
abbrev wlA : SquareArr := m ((c : Thread nD τ).loc main_arg10)
abbrev wA : SquareArr := m ((c : Thread nD τ).loc main_arg11)

/-- The windows' block indices at a grid point. -/
theorem index0 : ∀ t : Fin cfg0.N, win0_0.index t 0 = t.1 / 33 ∧ win0_0.index t 1 = t.1 % 33 ∧ win0_0.index t 2 = 0 :=
  (by decide +kernel : ∀ t : Fin grid0.N, win0_0.index t 0 = t.1 / 33 ∧ win0_0.index t 1 = t.1 % 33 ∧ win0_0.index t 2 = 0)

theorem index1 : ∀ t : Fin cfg0.N, win0_1.index t 0 = t.1 / 33 ∧ win0_1.index t 1 = t.1 % 33 ∧ win0_1.index t 2 = 0 :=
  (by decide +kernel : ∀ t : Fin grid0.N, win0_1.index t 0 = t.1 / 33 ∧ win0_1.index t 1 = t.1 % 33 ∧ win0_1.index t 2 = 0)

theorem index2 : ∀ t : Fin cfg0.N, win0_2.index t 0 = t.1 / 33 ∧ win0_2.index t 1 = t.1 % 33 ∧ win0_2.index t 2 = 0 :=
  (by decide +kernel : ∀ t : Fin grid0.N, win0_2.index t 0 = t.1 / 33 ∧ win0_2.index t 1 = t.1 % 33 ∧ win0_2.index t 2 = 0)

theorem index6 : ∀ t : Fin cfg0.N, win0_6.index t 0 = t.1 / 33 ∧ win0_6.index t 1 = t.1 % 33 ∧ win0_6.index t 2 = 0 :=
  (by decide +kernel : ∀ t : Fin grid0.N, win0_6.index t 0 = t.1 / 33 ∧ win0_6.index t 1 = t.1 % 33 ∧ win0_6.index t 2 = 0)

theorem index15 : ∀ t : Fin cfg0.N, win0_15.index t 0 = t.1 / 33 ∧ win0_15.index t 1 = t.1 % 33 ∧ win0_15.index t 2 = 0 :=
  (by decide +kernel : ∀ t : Fin grid0.N, win0_15.index t 0 = t.1 / 33 ∧ win0_15.index t 1 = t.1 % 33 ∧ win0_15.index t 2 = 0)

theorem index16 : ∀ t : Fin cfg0.N, win0_16.index t 0 = t.1 / 33 ∧ win0_16.index t 1 = t.1 % 33 ∧ win0_16.index t 2 = 0 :=
  (by decide +kernel : ∀ t : Fin grid0.N, win0_16.index t 0 = t.1 / 33 ∧ win0_16.index t 1 = t.1 % 33 ∧ win0_16.index t 2 = 0)

theorem index3 : ∀ t : Fin cfg0.N, win0_3.index t 0 = t.1 / 33 ∧ win0_3.index t 1 = t.1 % 33 ∧ win0_3.index t 2 = 1 :=
  (by decide +kernel : ∀ t : Fin grid0.N, win0_3.index t 0 = t.1 / 33 ∧ win0_3.index t 1 = t.1 % 33 ∧ win0_3.index t 2 = 1)

theorem index4 : ∀ t : Fin cfg0.N, win0_4.index t 0 = t.1 / 33 ∧ win0_4.index t 1 = t.1 % 33 ∧ win0_4.index t 2 = 2 :=
  (by decide +kernel : ∀ t : Fin grid0.N, win0_4.index t 0 = t.1 / 33 ∧ win0_4.index t 1 = t.1 % 33 ∧ win0_4.index t 2 = 2)

theorem index5 : ∀ t : Fin cfg0.N, win0_5.index t 0 = t.1 / 33 ∧ win0_5.index t 1 = t.1 % 33 ∧ win0_5.index t 2 = 3 :=
  (by decide +kernel : ∀ t : Fin grid0.N, win0_5.index t 0 = t.1 / 33 ∧ win0_5.index t 1 = t.1 % 33 ∧ win0_5.index t 2 = 3)

theorem index7 : ∀ t : Fin cfg0.N, win0_7.index t 0 = t.1 / 33 ∧ win0_7.index t 1 = (if t.1 % 33 < 1 then 0 else 1) ∧ win0_7.index t 2 = 0 ∧ win0_7.index t 3 = 0 ∧ win0_7.index t 4 = 0 :=
  (by decide +kernel : ∀ t : Fin grid0.N, win0_7.index t 0 = t.1 / 33 ∧ win0_7.index t 1 = (if t.1 % 33 < 1 then 0 else 1) ∧ win0_7.index t 2 = 0 ∧ win0_7.index t 3 = 0 ∧ win0_7.index t 4 = 0)

theorem index8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem index9 : ∀ t : Fin cfg0.N, win0_9.index t 0 = 0 ∧ win0_9.index t 1 = 0 :=
  (by decide +kernel : ∀ t : Fin grid0.N, win0_9.index t 0 = 0 ∧ win0_9.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

theorem index11 : ∀ t : Fin cfg0.N, win0_11.index t 0 = 0 ∧ win0_11.index t 1 = 0 :=
  (by decide +kernel : ∀ t : Fin grid0.N, win0_11.index t 0 = 0 ∧ win0_11.index t 1 = 0)

theorem index12 : ∀ t : Fin cfg0.N, win0_12.index t 0 = 0 ∧ win0_12.index t 1 = 0 :=
  (by decide +kernel : ∀ t : Fin grid0.N, win0_12.index t 0 = 0 ∧ win0_12.index t 1 = 0)

/-- The two segments end to end. -/
theorem rows_entry (b : Fin 2) (t : Fin 8448) (k : Fin 1024) :
    @Eq EReal (V m c main_v0 (ix3 b t k)) (row (ctxA m c) (latA m c) b t k) := by
  unfold V row
  after_reads_at

/-- The gates' biases, in two rows. -/
theorem bias_entry0 (k : Fin 1024) : @Eq EReal (V m c main_v9 (ix3 0 0 k)) (bgA m c (ix1 ⟨k.1, by omega⟩)) := by
  unfold V
  after_reads_at

theorem bias_entry1 (k : Fin 1024) : @Eq EReal (V m c main_v9 (ix3 1 0 k)) (bgA m c (ix1 ⟨1024 + k.1, by omega⟩)) := by
  unfold V
  after_reads_at

/-- The norm's weights as a row. -/
theorem norm_entry (k : Fin 1024) : @Eq EReal (V m c main_v10 (ix2 0 k)) (normA m c (ix1 k)) := by
  unfold V
  after_reads_at

/-- The three weights. -/
theorem wo_entry (j k : Fin 1024) : @Eq EReal (V m c main_v11 (ix2 j k)) (woA m c (ix2 j k)) := by
  unfold V
  after_reads_at

theorem wl_entry (j k : Fin 1024) : @Eq EReal (V m c main_v12 (ix2 j k)) (wlA m c (ix2 j k)) := by
  unfold V
  after_reads_at

theorem w_entry (j k : Fin 1024) : @Eq EReal (V m c main_v13 (ix2 j k)) (wA m c (ix2 j k)) := by
  unfold V
  after_reads_at

/-- The blocks of rows a point stages. -/
theorem o_block (t : Fin cfg0.N) (r : Fin 256) (k : Fin 1024) (h1 : t.1 / 33 < 2) (h2 : t.1 % 33 * 256 + r.1 < 8448) :
    @Eq EReal (iblk m c 0 t (ix3 0 r k)) (oA m c (ix3 ⟨t.1 / 33, h1⟩ ⟨t.1 % 33 * 256 + r.1, h2⟩ k)) := by
  obtain ⟨e0, e1, e2⟩ := index0 t
  unfold iblk
  blk_ext [V, e0, e1, e2]

theorem hf_block (t : Fin cfg0.N) (r : Fin 256) (k : Fin 1024) (h1 : t.1 / 33 < 2) (h2 : t.1 % 33 * 256 + r.1 < 8448) :
    @Eq EReal (iblk m c 1 t (ix3 0 r k)) (hfA m c (ix3 ⟨t.1 / 33, h1⟩ ⟨t.1 % 33 * 256 + r.1, h2⟩ k)) := by
  obtain ⟨e0, e1, e2⟩ := index1 t
  unfold iblk
  blk_ext [V, e0, e1, e2]

theorem hb_block (t : Fin cfg0.N) (r : Fin 256) (k : Fin 1024) (h1 : t.1 / 33 < 2) (h2 : t.1 % 33 * 256 + r.1 < 8448) :
    @Eq EReal (iblk m c 2 t (ix3 0 r k)) (hbA m c (ix3 ⟨t.1 / 33, h1⟩ ⟨t.1 % 33 * 256 + r.1, h2⟩ k)) := by
  obtain ⟨e0, e1, e2⟩ := index2 t
  unfold iblk
  blk_ext [V, e0, e1, e2]

theorem gr_block (t : Fin cfg0.N) (r : Fin 256) (k : Fin 1024) (h1 : t.1 / 33 < 2) (h2 : t.1 % 33 * 256 + r.1 < 8448) :
    @Eq EReal (iblk m c 3 t (ix3 0 r k)) (zbA m c (ix3 ⟨t.1 / 33, h1⟩ ⟨t.1 % 33 * 256 + r.1, h2⟩ ⟨1024 + k.1, by omega⟩)) := by
  obtain ⟨e0, e1, e2⟩ := index3 t
  unfold iblk
  blk_ext [V, e0, e1, e2]

theorem ga_block (t : Fin cfg0.N) (r : Fin 256) (k : Fin 1024) (h1 : t.1 / 33 < 2) (h2 : t.1 % 33 * 256 + r.1 < 8448) :
    @Eq EReal (iblk m c 4 t (ix3 0 r k)) (zbA m c (ix3 ⟨t.1 / 33, h1⟩ ⟨t.1 % 33 * 256 + r.1, h2⟩ ⟨2048 + k.1, by omega⟩)) := by
  obtain ⟨e0, e1, e2⟩ := index4 t
  unfold iblk
  blk_ext [V, e0, e1, e2]

theorem gl_block (t : Fin cfg0.N) (r : Fin 256) (k : Fin 1024) (h1 : t.1 / 33 < 2) (h2 : t.1 % 33 * 256 + r.1 < 8448) :
    @Eq EReal (iblk m c 5 t (ix3 0 r k)) (zbA m c (ix3 ⟨t.1 / 33, h1⟩ ⟨t.1 % 33 * 256 + r.1, h2⟩ ⟨3072 + k.1, by omega⟩)) := by
  obtain ⟨e0, e1, e2⟩ := index5 t
  unfold iblk
  blk_ext [V, e0, e1, e2]

theorem rows_block (t : Fin cfg0.N) (r : Fin 256) (k : Fin 1024) (h1 : t.1 / 33 < 2) (h2 : t.1 % 33 * 256 + r.1 < 8448) :
    iblk m c 6 t (ix3 0 r k) = V m c main_v0 (ix3 ⟨t.1 / 33, h1⟩ ⟨t.1 % 33 * 256 + r.1, h2⟩ k) := by
  obtain ⟨e0, e1, e2⟩ := index6 t
  unfold iblk
  generalize hV : V m c = W
  blk_ext [e0, e1, e2]

/-- The modulation of the rows' segment. -/
theorem mods_block (t : Fin cfg0.N) (a : Fin 6) (k : Fin 1024) (h1 : t.1 / 33 < 2) (r : Fin 256) (h2 : t.1 % 33 * 256 + r.1 < 8448) :
    @Eq EReal (iblk m c 7 t (ix5 0 0 a 0 k)) (modA m c (ix5 ⟨t.1 / 33, h1⟩ (seg ⟨t.1 % 33 * 256 + r.1, h2⟩) a 0 k)) := by
  obtain ⟨e0, e1, e2, e3, e4⟩ := index7 t
  have es : (seg ⟨t.1 % 33 * 256 + r.1, h2⟩).1 = if t.1 % 33 < 1 then 0 else 1 := by
    unfold seg
    by_cases h : t.1 % 33 < 1
    · rw [if_pos h, if_pos (by simp only [Fin.val_mk]; omega)]; rfl
    · rw [if_neg h, if_neg (by simp only [Fin.val_mk]; omega)]; rfl
  unfold iblk
  blk_ext [V, e0, e1, e2, e3, e4, es]

theorem bias_block (t : Fin cfg0.N) (a : Fin 2) (k : Fin 1024) : iblk m c 8 t (ix3 a 0 k) = V m c main_v9 (ix3 a 0 k) := by
  obtain ⟨e0, e1, e2⟩ := index8 t
  unfold iblk
  generalize hV : V m c = W
  blk_ext [e0, e1, e2]

theorem norm_block (t : Fin cfg0.N) (k : Fin 1024) : iblk m c 9 t (ix2 0 k) = V m c main_v10 (ix2 0 k) := by
  obtain ⟨e0, e1⟩ := index9 t
  unfold iblk
  generalize hV : V m c = W
  blk_ext [e0, e1]

theorem wo_block (t : Fin cfg0.N) (j k : Fin 1024) : iblk m c 10 t (ix2 j k) = V m c main_v11 (ix2 j k) := by
  obtain ⟨e0, e1⟩ := index10 t
  unfold iblk
  generalize hV : V m c = W
  blk_ext [e0, e1]

theorem wl_block (t : Fin cfg0.N) (j k : Fin 1024) : iblk m c 11 t (ix2 j k) = V m c main_v12 (ix2 j k) := by
  obtain ⟨e0, e1⟩ := index11 t
  unfold iblk
  generalize hV : V m c = W
  blk_ext [e0, e1]

theorem w_block (t : Fin cfg0.N) (j k : Fin 1024) : iblk m c 12 t (ix2 j k) = V m c main_v13 (ix2 j k) := by
  obtain ⟨e0, e1⟩ := index12 t
  unfold iblk
  generalize hV : V m c = W
  blk_ext [e0, e1]

theorem square_ext (a b : SquareArr) (h : ∀ j k : Fin 1024, a (ix2 j k) = b (ix2 j k)) : a = b := by
  funext i
  have e : i = ix2 (i 0) (i 1) := by
    funext x; fin_cases x <;> rfl
  rw [e]
  exact h (i 0) (i 1)

theorem rows_congr {x x' gt gt' o o' hf hf' hb hb' gr gr' ga ga' gl gl' b0 b0' b1 b1' : Fin 1024 → EReal}
    {wo wo' wl wl' w w' : SquareArr} (e6 : x = x') (e7 : gt = gt') (e0 : o = o') (e1 : hf = hf') (e2 : hb = hb')
    (e3 : gr = gr') (e4 : ga = ga') (e5 : gl = gl') (e8 : b0 = b0') (e9 : b1 = b1') (e10 : wo = wo') (e11 : wl = wl')
    (e12 : w = w') :
    sumRow x gt (mixRow o (lruRow hf hb gr) ga gl b0 b1 wo wl) w
      = sumRow x' gt' (mixRow o' (lruRow hf' hb' gr') ga' gl' b0' b1' wo' wl') w' := by
  subst e0 e1 e2 e3 e4 e5 e6 e7 e8 e9 e10 e11 e12
  rfl

/-- The row a point computes. -/
theorem sum_block (t : Fin cfg0.N) (r : Fin 256) (h1 : t.1 / 33 < 2) (h2 : t.1 % 33 * 256 + r.1 < 8448) :
    blockSum (iblk m c 0 t) (iblk m c 1 t) (iblk m c 2 t) (iblk m c 3 t) (iblk m c 4 t) (iblk m c 5 t) (iblk m c 6 t) (iblk m c 7 t) (iblk m c 8 t)
      (iblk m c 10 t) (iblk m c 11 t) (iblk m c 12 t) r
      = added (oA m c) (hfA m c) (hbA m c) (zbA m c) (ctxA m c) (latA m c) (modA m c) (bgA m c)
        (woA m c) (wlA m c) (wA m c) ⟨t.1 / 33, h1⟩ ⟨t.1 % 33 * 256 + r.1, h2⟩ := by
  have e0 := funext fun k => o_block m c t r k h1 h2
  have e1 := funext fun k => hf_block m c t r k h1 h2
  have e2 := funext fun k => hb_block m c t r k h1 h2
  have e3 := funext fun k => gr_block m c t r k h1 h2
  have e4 := funext fun k => ga_block m c t r k h1 h2
  have e5 := funext fun k => gl_block m c t r k h1 h2
  have e6 : (fun k : Fin 1024 => (iblk m c 6 t (ix3 0 r k) : EReal)) = row (ctxA m c) (latA m c) ⟨t.1 / 33, h1⟩ ⟨t.1 % 33 * 256 + r.1, h2⟩ :=
    funext fun k => (rows_block m c t r k h1 h2).trans (rows_entry m c _ _ k)
  have e7 := funext fun k => mods_block m c t 2 k h1 r h2
  have e8 : (fun k : Fin 1024 => (iblk m c 8 t (ix3 0 0 k) : EReal)) = fun k => bgA m c (ix1 ⟨k.1, by omega⟩) :=
    funext fun k => (bias_block m c t 0 k).trans (bias_entry0 m c k)
  have e9 : (fun k : Fin 1024 => (iblk m c 8 t (ix3 1 0 k) : EReal)) = fun k => bgA m c (ix1 ⟨1024 + k.1, by omega⟩) :=
    funext fun k => (bias_block m c t 1 k).trans (bias_entry1 m c k)
  have e10 : (iblk m c 10 t : SquareArr) = woA m c := square_ext _ _ fun j k => (wo_block m c t j k).trans (wo_entry m c j k)
  have e11 : (iblk m c 11 t : SquareArr) = wlA m c := square_ext _ _ fun j k => (wl_block m c t j k).trans (wl_entry m c j k)
  have e12 : (iblk m c 12 t : SquareArr) = wA m c := square_ext _ _ fun j k => (w_block m c t j k).trans (w_entry m c j k)
  exact rows_congr e6 e7 e0 e1 e2 e3 e4 e5 e8 e9 e10 e11 e12

theorem normed_block (t : Fin cfg0.N) (r : Fin 256) (h1 : t.1 / 33 < 2) (h2 : t.1 % 33 * 256 + r.1 < 8448) :
    blockNormed (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) r
      = normed (oA m c) (hfA m c) (hbA m c) (zbA m c) (ctxA m c) (latA m c) (modA m c) (bgA m c) (normA m c)
        (woA m c) (wlA m c) (wA m c) ⟨t.1 / 33, h1⟩ ⟨t.1 % 33 * 256 + r.1, h2⟩ := by
  have e9 : (fun k : Fin 1024 => (iblk m c 9 t (ix2 0 k) : EReal)) = fun k => normA m c (ix1 k) :=
    funext fun k => (norm_block m c t k).trans (norm_entry m c k)
  have e3 := funext fun k => mods_block m c t 3 k h1 r h2
  have e4 := funext fun k => mods_block m c t 4 k h1 r h2
  exact funext (entry_congr (sum_block m c t r h1 h2) e9 e3 e4)

/-- What a point leaves in the two results' staging blocks. -/
theorem after_first (t : Fin cfg0.N) (y : S1x256x1024.Idx) :
    @Eq EReal ((outsAt0 m c t.val t.isLt).1 y)
      (blockSum (iblk m c 0 t) (iblk m c 1 t) (iblk m c 2 t) (iblk m c 3 t) (iblk m c 4 t) (iblk m c 5 t) (iblk m c 6 t) (iblk m c 7 t) (iblk m c 8 t)
        (iblk m c 10 t) (iblk m c 11 t) (iblk m c 12 t) (y 1) (y 2)) := by
  by_cases h0 : t.val % 66 = 0
  · have f := first_A c (grid0.coords t) (ms0_0 t) (hs0_0
      t) (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) (ms0_10 t) (hs0_10 t) (ms0_11 t) (hs0_11
      t) (ms0_12 t) (hs0_12 t) (ms0_13 t) (hs0_13 t) (ms0_14 t) (hs0_14 t) (ms0_15 t) (hs0_15 t) (ms0_16 t) (hs0_16 t)
      (ms0_17 t) (hs0_17 t) (ms0_18 t) (hs0_18 t) (ms0_19 t) (hs0_19 t) (ms0_20 t) (hs0_20 t) scM0_0
      (Memref.isWhole_whole _) ((hcond0_0 t).mpr h0) (iblk m c 0 t) (iblk m c 1 t) (iblk m c 2 t) (iblk m c 3 t) (iblk
      m c 4 t) (iblk m c 5 t) (iblk m c 6 t) (iblk m c 7 t) (iblk m c 8 t) (iblk m c 9 t) (iblk m c 10 t) (iblk m c 11
      t) (iblk m c 12 t) (iblk m c 13 t) (iblk m c 14 t) y
    rw [outsAt0_A m c t h0]
    dsimp only
    exact f
  · have e := outsAt0_B m c t h0
    generalize (outsAt0 m c (t.val - 1) (Nat.lt_of_le_of_lt (Nat.sub_le _ _) t.isLt)).2.2.2.2.2.2 = xs at e
    have f := first_B
      c (grid0.coords t) (ms0_0 t) (hs0_0
      t) (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) (ms0_10 t) (hs0_10 t) (ms0_11 t) (hs0_11
      t) (ms0_12 t) (hs0_12 t) (ms0_13 t) (hs0_13 t) (ms0_14 t) (hs0_14 t) (ms0_15 t) (hs0_15 t) (ms0_16 t) (hs0_16 t)
      (ms0_17 t) (hs0_17 t) (ms0_18 t) (hs0_18 t) (ms0_19 t) (hs0_19 t) (ms0_20 t) (hs0_20 t) scM0_0
      (Memref.isWhole_whole _) (fun h => h0 ((hcond0_0 t).mp h)) (iblk m c 0 t) (iblk m c 1 t) (iblk m c 2 t) (iblk m
      c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) xs y
    rw [e]
    dsimp only
    exact f

theorem after_second (t : Fin cfg0.N) (y : S1x256x1024.Idx) :
    @Eq EReal ((outsAt0 m c t.val t.isLt).2.1 y)
      (blockNormed (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (y 1) (y 2)) := by
  by_cases h0 : t.val % 66 = 0
  · have f := second_A c (grid0.coords t) (ms0_0 t)
      (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t)
      (hs0_16 t) (ms0_17 t) (hs0_17 t) (ms0_18 t) (hs0_18 t) (ms0_19 t) (hs0_19 t) (ms0_20 t) (hs0_20 t) scM0_0
      (Memref.isWhole_whole _) ((hcond0_0 t).mpr h0) (iblk m c 0 t) (iblk m c 1 t) (iblk m c 2 t) (iblk m c 3 t) (iblk
      m c 4 t) (iblk m c 5 t) (iblk m c 6 t) (iblk m c 7 t) (iblk m c 8 t) (iblk m c 9 t) (iblk m c 10 t) (iblk m c 11
      t) (iblk m c 12 t) (iblk m c 13 t) (iblk m c 14 t) y
    rw [outsAt0_A m c t h0]
    dsimp only
    exact f
  · have e := outsAt0_B m c t h0
    generalize (outsAt0 m c (t.val - 1) (Nat.lt_of_le_of_lt (Nat.sub_le _ _) t.isLt)).2.2.2.2.2.2 = xs at e
    have f := second_B
      c (grid0.coords t) (ms0_0 t)
      (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t)
      (hs0_16 t) (ms0_17 t) (hs0_17 t) (ms0_18 t) (hs0_18 t) (ms0_19 t) (hs0_19 t) (ms0_20 t) (hs0_20 t) scM0_0
      (Memref.isWhole_whole _) (fun h => h0 ((hcond0_0 t).mp h)) (iblk m c 0 t) (iblk m c 1 t) (iblk m c 2 t) (iblk m
      c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) xs y
    rw [e]
    dsimp only
    exact f

/-- The first array. -/
theorem array_X : (dats m 0 c).arrAt 15 cfg0.N = resultX (oA m c) (hfA m c) (hbA m c) (zbA m c) (ctxA m c) (latA m c) (modA m c) (bgA m c)
    (woA m c) (wlA m c) (wA m c) := by
  refine (dats m 0 c).arrAt_eq_of_covers 15 _ (by decide +kernel) fun t hf y => ?_
  blk_simp
  rw [after0_15]
  have ht : t.1 < 66 := t.isLt
  have hy1 : (y 1).1 < 256 := (y 1).isLt
  have hy2 : (y 2).1 < 1024 := (y 2).isLt
  obtain ⟨e0, e1, e2⟩ := index15 t
  have e : resultX (oA m c) (hfA m c) (hbA m c) (zbA m c) (ctxA m c) (latA m c) (modA m c) (bgA m c) (woA m c) (wlA m c) (wA m c)
      ((win0_15.blk t).view.emb y)
      = resultX (oA m c) (hfA m c) (hbA m c) (zbA m c) (ctxA m c) (latA m c) (modA m c) (bgA m c) (woA m c) (wlA m c) (wA m c)
        (ix3 ⟨t.1 / 33, by omega⟩ ⟨t.1 % 33 * 256 + (y 1).1, by omega⟩ (y 2)) := by
    blk_ext [e0, e1, e2]
  refine (after_first m c t y).trans (Eq.trans ?_ e.symm)
  unfold resultX
  exact congrFun (sum_block m c t (y 1) _ _) (y 2)

/-- The second array. -/
theorem array_H : (dats m 0 c).arrAt 16 cfg0.N = resultH (oA m c) (hfA m c) (hbA m c) (zbA m c) (ctxA m c) (latA m c) (modA m c) (bgA m c) (normA m c)
    (woA m c) (wlA m c) (wA m c) := by
  refine (dats m 0 c).arrAt_eq_of_covers 16 _ (by decide +kernel) fun t hf y => ?_
  blk_simp
  rw [after0_16]
  have ht : t.1 < 66 := t.isLt
  have hy1 : (y 1).1 < 256 := (y 1).isLt
  have hy2 : (y 2).1 < 1024 := (y 2).isLt
  obtain ⟨e0, e1, e2⟩ := index16 t
  have e : resultH (oA m c) (hfA m c) (hbA m c) (zbA m c) (ctxA m c) (latA m c) (modA m c) (bgA m c) (normA m c) (woA m c) (wlA m c) (wA m c)
      ((win0_16.blk t).view.emb y)
      = resultH (oA m c) (hfA m c) (hbA m c) (zbA m c) (ctxA m c) (latA m c) (modA m c) (bgA m c) (normA m c) (woA m c) (wlA m c) (wA m c)
        (ix3 ⟨t.1 / 33, by omega⟩ ⟨t.1 % 33 * 256 + (y 1).1, by omega⟩ (y 2)) := by
    blk_ext [e0, e1, e2]
  refine (after_second m c t y).trans (Eq.trans ?_ e.symm)
  unfold resultH
  exact congrFun (normed_block m c t (y 1) _ _) (y 2)

end Cert.MergeIdeal.Mrg

end
-- ==== Proof.MergedReference.lean ====
/-
  The merge's reference at one entry: GELU and the gates written plainly, the two branches' products gated and summed,
  multiplied and added to context and latents apart, each then normalised and modulated, and laid end to end.
-/
module

public import proofs.«01_k».proof.Proof.Merged
public import proofs.«01_k».proof.Proof.Gen.MergeReferenceIdeal.Run
public import proofs.«01_k».proof.MergeReferenceIdeal
public import Idealize.ShloMosaic.Lib.Pointwise

@[expose] public section

set_option maxRecDepth 16384

noncomputable section

namespace Cert.MergeReferenceIdeal.Mrg

open Cert.MergeReferenceIdeal Cert.MergeReferenceIdeal.Gen Idealize.ShloMosaic Cert.Project Cert.Merged
open Cert.MergeReferenceIdeal.Facts

variable (o : FVec Ideal S2x8448x1024 .bf16) (hf hb : FVec Ideal S2x8448x1024 .f32) (zb : FVec Ideal S2x8448x4096 .bf16)
  (ctx : FVec Ideal S2x256x1024 .f32) (x : FVec Ideal S2x8192x1024 .f32) (mods : FVec Ideal S2x2x6x1x1024 .f32)
  (bg : FVec Ideal S2048 .f32) (g : FVec Ideal S1024 .f32) (wo wl w : FVec Ideal S1024x1024 .f32)

/-- GELU. -/
def geluR (u : FVec Ideal S2x8448x1024 .f32) : FVec Ideal S2x8448x1024 .f32 :=
  mulf u (mulf (broadcastInDim S2x8448x1024 ![] bcast_S_S2x8448x1024 (constant S_ .f32 0x3F000000#32)) (addf (broadcastInDim S2x8448x1024 ![] bcast_S_S2x8448x1024 (constant S_ .f32 0x3F800000#32)) (Host.tanh (mulf (broadcastInDim S2x8448x1024 ![] bcast_S_S2x8448x1024 (constant S_ .f32 0x3F4C422A#32)) (addf u (mulf (broadcastInDim S2x8448x1024 ![] bcast_S_S2x8448x1024 (constant S_ .f32 0x3D372713#32)) (mulf (mulf u u) u)))))))

/-- A gate. -/
def gateR (u : FVec Ideal S2x8448x1024 .f32) : FVec Ideal S2x8448x1024 .f32 :=
  Host.divf (broadcastInDim S2x8448x1024 ![] bcast_S_S2x8448x1024 (constant S_ .f32 0x3F800000#32)) (addf (broadcastInDim S2x8448x1024 ![] bcast_S_S2x8448x1024 (constant S_ .f32 0x3F800000#32)) (Host.exp (Host.negf u)))

/-- The recurrence's branch. -/
def lruR : FVec Ideal S2x8448x1024 .f32 :=
  mulf (addf hf hb) (geluR (extractStridedSlice S2x8448x1024 ![0, 0, 1024] (extf .f32 zb bitsLt_bf16_f32) slices_S2x8448x4096_S2x8448x1024_0_0_1024))

/-- The gated sum of the branches' products. -/
def mixR : FVec Ideal S2x8448x1024 .f32 :=
  addf (mulf (gateR (addf (extractStridedSlice S2x8448x1024 ![0, 0, 2048] (extf .f32 zb bitsLt_bf16_f32) slices_S2x8448x4096_S2x8448x1024_0_0_2048) (broadcastInDim S2x8448x1024 ![0, 1, 2] bcast_S1x1x1024_S2x8448x1024_0_1_2 (broadcastInDim S1x1x1024 ![2] bcast_S1024_S1x1x1024_2 (extractStridedSlice S1024 ![0] bg slices_S2048_S1024_0))))) (Host.dotGeneral dot_S2x8448x1024_S1024x1024_S2x8448x1024_2_0_01_1_n_n none (extf .f32 o bitsLt_bf16_f32) wo)) (mulf (gateR (addf (extractStridedSlice S2x8448x1024 ![0, 0, 3072] (extf .f32 zb bitsLt_bf16_f32) slices_S2x8448x4096_S2x8448x1024_0_0_3072) (broadcastInDim S2x8448x1024 ![0, 1, 2] bcast_S1x1x1024_S2x8448x1024_0_1_2 (broadcastInDim S1x1x1024 ![2] bcast_S1024_S1x1x1024_2 (extractStridedSlice S1024 ![1024] bg slices_S2048_S1024_1024))))) (Host.dotGeneral dot_S2x8448x1024_S1024x1024_S2x8448x1024_2_0_01_1_n_n none (lruR hf hb zb) wl))

/-- The context's rows with a product's rows added. -/
def addC (y : FVec Ideal S2x8448x1024 .f32) : FVec Ideal S2x256x1024 .f32 :=
  addf ctx (mulf (broadcastInDim S2x256x1024 ![0, 1, 2] bcast_S2x1x1024_S2x256x1024_0_1_2 (shapeCast _ (extractStridedSlice S2x1x1x1x1024 ![0, 0, 2, 0, 0] mods slices_S2x2x6x1x1024_S2x1x1x1x1024_0_0_2_0_0) shapeCasts_S2x1x1x1x1024_S2x1x1024)) (extractStridedSlice S2x256x1024 ![0, 0, 0] y slices_S2x8448x1024_S2x256x1024_0_0_0))

/-- The latents' rows with a product's rows added. -/
def addL (y : FVec Ideal S2x8448x1024 .f32) : FVec Ideal S2x8192x1024 .f32 :=
  addf x (mulf (broadcastInDim S2x8192x1024 ![0, 1, 2] bcast_S2x1x1024_S2x8192x1024_0_1_2 (shapeCast _ (extractStridedSlice S2x1x1x1x1024 ![0, 1, 2, 0, 0] mods slices_S2x2x6x1x1024_S2x1x1x1x1024_0_1_2_0_0) shapeCasts_S2x1x1x1x1024_S2x1x1024)) (extractStridedSlice S2x8192x1024 ![0, 256, 0] y slices_S2x8448x1024_S2x8192x1024_0_256_0))

/-- Context rows normalised and modulated. -/
def normC (xc : FVec Ideal S2x256x1024 .f32) : FVec Ideal S2x256x1024 .f32 :=
  addf (mulf (mulf (mulf xc (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf xc xc) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))) (broadcastInDim S2x256x1024 ![0, 1, 2] bcast_S2x1x1024_S2x256x1024_0_1_2 (addf (broadcastInDim S2x1x1024 ![] bcast_S_S2x1x1024 (constant S_ .f32 0x3F800000#32)) (shapeCast _ (extractStridedSlice S2x1x1x1x1024 ![0, 0, 4, 0, 0] mods slices_S2x2x6x1x1024_S2x1x1x1x1024_0_0_4_0_0) shapeCasts_S2x1x1x1x1024_S2x1x1024)))) (broadcastInDim S2x256x1024 ![0, 1, 2] bcast_S2x1x1024_S2x256x1024_0_1_2 (shapeCast _ (extractStridedSlice S2x1x1x1x1024 ![0, 0, 3, 0, 0] mods slices_S2x2x6x1x1024_S2x1x1x1x1024_0_0_3_0_0) shapeCasts_S2x1x1x1x1024_S2x1x1024))

/-- Latent rows normalised and modulated. -/
def normL (xl : FVec Ideal S2x8192x1024 .f32) : FVec Ideal S2x8192x1024 .f32 :=
  addf (mulf (mulf (mulf xl (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf xl xl) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1x1024 ![0, 1, 4, 0, 0] mods slices_S2x2x6x1x1024_S2x1x1x1x1024_0_1_4_0_0) shapeCasts_S2x1x1x1x1024_S2x1x1024)))) (broadcastInDim S2x8192x1024 ![0, 1, 2] bcast_S2x1x1024_S2x8192x1024_0_1_2 (shapeCast _ (extractStridedSlice S2x1x1x1x1024 ![0, 1, 3, 0, 0] mods slices_S2x2x6x1x1024_S2x1x1x1x1024_0_1_3_0_0) shapeCasts_S2x1x1x1x1024_S2x1x1024))

/-- Rows end to end. -/
def ends (xc : FVec Ideal S2x256x1024 .f32) (xl : FVec Ideal S2x8192x1024 .f32) : FVec Ideal S2x8448x1024 .f32 :=
  concatenate S2x8448x1024 1 [⟨S2x256x1024, xc⟩, ⟨S2x8192x1024, xl⟩] concatenates_S2x256x1024_S2x8192x1024_S2x8448x1024_d1

theorem geluR_at (u : FVec Ideal S2x8448x1024 .f32) (i : S2x8448x1024.Idx) : @Eq EReal (geluR u i) (gelu (u i)) := by
  unfold gelu
  pointwise [geluR]

theorem gateR_at (u : FVec Ideal S2x8448x1024 .f32) (i : S2x8448x1024.Idx) :
    @Eq EReal (gateR u i) (Ideal.logistic (u i)) := by
  rw [← logistic_quotient]
  pointwise [gateR]

theorem lruR_at (b : Fin 2) (t : Fin 8448) (k : Fin 1024) :
    @Eq EReal (lruR hf hb zb (ix3 b t k)) (lruRow (fun k => hf (ix3 b t k)) (fun k => hb (ix3 b t k))
      (fun k => zb (ix3 b t ⟨1024 + k.1, by omega⟩)) k) := by
  unfold lruRow
  pointwise [lruR, geluR_at]

theorem mixR_at (b : Fin 2) (t : Fin 8448) (k : Fin 1024) :
    @Eq EReal (mixR o hf hb zb bg wo wl (ix3 b t k)) (mix o hf hb zb bg wo wl b t k) := by
  unfold mix mixRow
  simp only [← lruR_at]
  pointwise [mixR, gateR_at]

theorem ends_at (xc : FVec Ideal S2x256x1024 .f32) (xl : FVec Ideal S2x8192x1024 .f32) (b : Fin 2) (t : Fin 8448) (k : Fin 1024) :
    @Eq EReal (ends xc xl (ix3 b t k))
      (if h : t.1 < 256 then xc (ix3 b ⟨t.1, h⟩ k) else xl (ix3 b ⟨t.1 - 256, by omega⟩ k)) := by
  pointwise [ends]

theorem addC_at (y : FVec Ideal S2x8448x1024 .f32) (b : Fin 2) (t : Fin 256) (k : Fin 1024) :
    @Eq EReal (addC ctx mods y (ix3 b t k)) (ctx (ix3 b t k) + mods (ix5 b 0 2 0 k) * y (ix3 b ⟨t.1, by omega⟩ k)) := by
  pointwise [addC]

theorem addL_at (y : FVec Ideal S2x8448x1024 .f32) (b : Fin 2) (t : Fin 8192) (k : Fin 1024) :
    @Eq EReal (addL x mods y (ix3 b t k)) (x (ix3 b t k) + mods (ix5 b 1 2 0 k) * y (ix3 b ⟨256 + t.1, by omega⟩ k)) := by
  pointwise [addL]

theorem normC_at (xc : FVec Ideal S2x256x1024 .f32) (b : Fin 2) (t : Fin 256) (k : Fin 1024) :
    @Eq EReal (normC mods g xc (ix3 b t k)) (entry (fun k => xc (ix3 b t k)) (fun k => g (ix1 k))
      (fun k => mods (ix5 b 0 3 0 k)) (fun k => mods (ix5 b 0 4 0 k)) k) := by
  unfold entry rms
  pointwise [normC]

theorem normL_at (xl : FVec Ideal S2x8192x1024 .f32) (b : Fin 2) (t : Fin 8192) (k : Fin 1024) :
    @Eq EReal (normL mods g xl (ix3 b t k)) (entry (fun k => xl (ix3 b t k)) (fun k => g (ix1 k))
      (fun k => mods (ix5 b 1 3 0 k)) (fun k => mods (ix5 b 1 4 0 k)) k) := by
  unfold entry rms
  pointwise [normL]

/-- The sum's further product. -/
def prodR : FVec Ideal S2x8448x1024 .f32 :=
  Host.dotGeneral dot_S2x8448x1024_S1024x1024_S2x8448x1024_2_0_01_1_n_n none (mixR o hf hb zb bg wo wl) w

theorem prodR_at (b : Fin 2) (t : Fin 8448) (k : Fin 1024) :
    @Eq EReal (prodR o hf hb zb bg wo wl w (ix3 b t k)) (∑ j : Fin 1024, mix o hf hb zb bg wo wl b t j * w (ix2 j k)) := by
  simp only [← mixR_at]
  pointwise [prodR]

/-- The rows with the branches added, of the context and of the latents. -/
theorem addC_added (b : Fin 2) (t : Fin 8448) (h : t.1 < 256) (k : Fin 1024) :
    @Eq EReal (addC ctx mods (prodR o hf hb zb bg wo wl w) (ix3 b ⟨t.1, h⟩ k)) (added o hf hb zb ctx x mods bg wo wl w b t k) := by
  refine (addC_at ctx mods _ b ⟨t.1, h⟩ k).trans ?_
  have e := prodR_at o hf hb zb bg wo wl w b t k
  unfold added sumRow row seg
  rw [dif_pos h, if_pos h, ← e]

theorem addL_added (b : Fin 2) (t : Fin 8448) (h : ¬ t.1 < 256) (k : Fin 1024) :
    @Eq EReal (addL x mods (prodR o hf hb zb bg wo wl w) (ix3 b ⟨t.1 - 256, by omega⟩ k))
      (added o hf hb zb ctx x mods bg wo wl w b t k) := by
  refine (addL_at x mods _ b ⟨t.1 - 256, by omega⟩ k).trans ?_
  have e := prodR_at o hf hb zb bg wo wl w b t k
  have et : (⟨256 + (t.1 - 256), by omega⟩ : Fin 8448) = t := Fin.ext (by simp only [Fin.val_mk]; omega)
  unfold added sumRow row seg
  rw [dif_neg h, if_neg h, ← e]
  simp only [et]

/-- The two results. -/
def firstR : FVec Ideal S2x8448x1024 .f32 :=
  ends (addC ctx mods (prodR o hf hb zb bg wo wl w)) (addL x mods (prodR o hf hb zb bg wo wl w))

def secondR : FVec Ideal S2x8448x1024 .bf16 :=
  truncf .bf16 (ends (normC mods g (addC ctx mods (prodR o hf hb zb bg wo wl w)))
    (normL mods g (addL x mods (prodR o hf hb zb bg wo wl w)))) bitsLt_bf16_f32

theorem firstR_at (b : Fin 2) (t : Fin 8448) (k : Fin 1024) :
    @Eq EReal (firstR o hf hb zb ctx x mods bg wo wl w (ix3 b t k)) (added o hf hb zb ctx x mods bg wo wl w b t k) := by
  refine (ends_at _ _ b t k).trans ?_
  split
  · next h => exact addC_added o hf hb zb ctx x mods bg wo wl w b t h k
  · next h => exact addL_added o hf hb zb ctx x mods bg wo wl w b t h k

theorem secondR_at (b : Fin 2) (t : Fin 8448) (k : Fin 1024) :
    @Eq EReal (secondR o hf hb zb ctx x mods bg g wo wl w (ix3 b t k)) (normed o hf hb zb ctx x mods bg g wo wl w b t k) := by
  refine (ends_at _ _ b t k).trans ?_
  unfold normed seg
  split
  · next h =>
    refine (normC_at mods g _ b ⟨t.1, h⟩ k).trans ?_
    exact congrArg (fun r => entry r _ _ _ k) (funext fun k => addC_added o hf hb zb ctx x mods bg wo wl w b t h k)
  · next h =>
    refine (normL_at mods g _ b ⟨t.1 - 256, by omega⟩ k).trans ?_
    exact congrArg (fun r => entry r _ _ _ k) (funext fun k => addL_added o hf hb zb ctx x mods bg wo wl w b t h k)

theorem result_X : firstR o hf hb zb ctx x mods bg wo wl w = resultX o hf hb zb ctx x mods bg wo wl w := by
  funext i
  refine Eq.trans (congrArg _ ?_) (firstR_at o hf hb zb ctx x mods bg wo wl w (i 0) (i 1) (i 2))
  funext a; fin_cases a <;> rfl

theorem result_H : secondR o hf hb zb ctx x mods bg g wo wl w = resultH o hf hb zb ctx x mods bg g wo wl w := by
  funext i
  refine Eq.trans (congrArg _ ?_) (secondR_at o hf hb zb ctx x mods bg g wo wl w (i 0) (i 1) (i 2))
  funext a; fin_cases a <;> rfl

variable (m : (ℓ : Loc nD τ sig) → Buf (Elt Ideal) ℓ) (c : Dev nD)

/-- The arrays the program is given. -/
abbrev oA : RowsArr := m ((c.tc : Thread nD τ).loc main_arg0)
abbrev hfA : RowsArr := m ((c.tc : Thread nD τ).loc main_arg1)
abbrev hbA : RowsArr := m ((c.tc : Thread nD τ).loc main_arg2)
abbrev zbA : GatesArr := m ((c.tc : Thread nD τ).loc main_arg3)
abbrev ctxA : CtxArr := m ((c.tc : Thread nD τ).loc main_arg4)
abbrev latA : LatArr := m ((c.tc : Thread nD τ).loc main_arg5)
abbrev modA : ModArr := m ((c.tc : Thread nD τ).loc main_arg6)
abbrev bgA : BiasArr := m ((c.tc : Thread nD τ).loc main_arg7)
abbrev normA : NormArr := m ((c.tc : Thread nD τ).loc main_arg8)
abbrev woA : SquareArr := m ((c.tc : Thread nD τ).loc main_arg9)
abbrev wlA : SquareArr := m ((c.tc : Thread nD τ).loc main_arg10)
abbrev wA : SquareArr := m ((c.tc : Thread nD τ).loc main_arg11)

/-- The arrays the reference leaves. -/
theorem array_X : Value.res_main_v105 (F := Ideal) m c = resultX (oA m c) (hfA m c) (hbA m c) (zbA m c) (ctxA m c) (latA m c)
    (modA m c) (bgA m c) (woA m c) (wlA m c) (wA m c) :=
  Eq.trans (by unfold Value.res_main_v105; rfl) (result_X (oA m c) (hfA m c) (hbA m c) (zbA m c) (ctxA m c) (latA m c)
    (modA m c) (bgA m c) (woA m c) (wlA m c) (wA m c))

theorem array_H : Value.res_main_v107 (F := Ideal) m c = resultH (oA m c) (hfA m c) (hbA m c) (zbA m c) (ctxA m c) (latA m c)
    (modA m c) (bgA m c) (normA m c) (woA m c) (wlA m c) (wA m c) :=
  Eq.trans (by unfold Value.res_main_v107; rfl) (result_H (oA m c) (hfA m c) (hbA m c) (zbA m c) (ctxA m c) (latA m c)
    (modA m c) (bgA m c) (normA m c) (woA m c) (wlA m c) (wA m c))

end Cert.MergeReferenceIdeal.Mrg

end
-- ==== Proof.Heads.lean ====
/-
  The value both programs of the attention's inputs compute. A row's first 256 columns, divided by their root mean square
  and weighted, give each head 128 columns against its folded weights and 64 rotary columns against its own; a latent's
  rotary columns are turned in pairs by the angles of its row and its column in the grid; the rotary columns are laid twice
  and everything is scaled. The keys are the next 128 columns, normalised, and the last 64 columns' two rotary parts side
  by side. The values are the normalised columns again, a one and zeros.
-/
module

public import proofs.«01_k».proof.Proof.Project

@[expose] public section

set_option maxRecDepth 16384

noncomputable section

namespace Cert.Heads

open Idealize.ShloMosaic Cert.Project

abbrev ZArr := (⟨3, ![2, 8448, 448]⟩ : Shape).Idx → EReal
abbrev QNormArr := (⟨1, ![256]⟩ : Shape).Idx → EReal
abbrev KNormArr := (⟨1, ![128]⟩ : Shape).Idx → EReal
abbrev FoldArr := (⟨3, ![8, 256, 128]⟩ : Shape).Idx → EReal
abbrev UpArr := (⟨2, ![256, 1536]⟩ : Shape).Idx → EReal

/-- A row of 256 divided by its root mean square and weighted. -/
def normQ (row g : Fin 256 → EReal) (k : Fin 256) : EReal :=
  row k * Ideal.rsqrt (Ideal.div (∑ k : Fin 256, row k * row k) (Ideal.ofBits .f32 0x43800000#32) + Ideal.ofBits .f32 0x358637BD#32) * g k

/-- A row of 128 divided by its root mean square and weighted. -/
def normK (row g : Fin 128 → EReal) (k : Fin 128) : EReal :=
  row k * Ideal.rsqrt (Ideal.div (∑ k : Fin 128, row k * row k) (Ideal.ofBits .f32 0x43000000#32) + Ideal.ofBits .f32 0x358637BD#32) * g k

/-- The scale of the queries. -/
def scale : EReal := Ideal.ofBits .f32 0x3DD53B95#32

/-- The wave number of one of sixteen frequencies. -/
def freq (f : Fin 16) : EReal :=
  Ideal.pow (Ideal.ofBits .f32 0x461C4000#32) (Ideal.div (-((((f.1 : ℤ) : ℝ) : EReal))) (Ideal.ofBits .f32 0x41800000#32))

/-- The angle of a latent at one of the 64 rotary columns: its grid row for the first 32, its grid column for the rest. -/
def angle (n : Fin 8192) (j : Fin 64) : EReal :=
  ((((if j.1 < 32 then n.1 / 64 else n.1 % 64 : ℕ) : ℤ) : ℝ) : EReal) * freq ⟨j.1 % 16, by omega⟩

/-- The cosine of a position at a rotary column; the context is not turned. -/
def cosT (t : Fin 8448) (j : Fin 64) : EReal :=
  if h : t.1 < 256 then 1 else Ideal.cos (angle ⟨t.1 - 256, by omega⟩ j)

/-- The sine with the sign its half of the pair takes. -/
def sinT (t : Fin 8448) (j : Fin 64) : EReal :=
  if h : t.1 < 256 then 0 else if j.1 % 32 < 16 then -Ideal.sin (angle ⟨t.1 - 256, by omega⟩ j)
    else Ideal.sin (angle ⟨t.1 - 256, by omega⟩ j)

variable (z : ZArr) (gq : QNormArr) (gk : KNormArr) (wn : FoldArr) (wu : UpArr)

/-- The normalised low-rank queries and keys of a position. -/
def lowQ (b : Fin 2) (t : Fin 8448) (k : Fin 256) : EReal :=
  normQ (fun k => z (ix3 b t ⟨k.1, by omega⟩)) (fun k => gq (ix1 k)) k

def lowK (b : Fin 2) (t : Fin 8448) (k : Fin 128) : EReal :=
  normK (fun k => z (ix3 b t ⟨256 + k.1, by omega⟩)) (fun k => gk (ix1 k)) k

/-- A head's columns against the folded weights, and its rotary columns. -/
def nope (b : Fin 2) (t : Fin 8448) (h : Fin 8) (j : Fin 128) : EReal :=
  ∑ k : Fin 256, lowQ z gq b t k * wn (ix3 h k j)

def pe (b : Fin 2) (t : Fin 8448) (h : Fin 8) (j : Fin 64) : EReal :=
  ∑ k : Fin 256, lowQ z gq b t k * wu (ix2 k ⟨192 * h.1 + 128 + j.1, by omega⟩)

/-- The rotary column of one of a head's last 128. -/
def rot (j : ℕ) : Fin 64 := ⟨(j - 128) % 64, by omega⟩

/-- One entry of the queries. -/
def query (b : Fin 2) (t : Fin 8448) (h : Fin 8) (j : Fin 256) : EReal :=
  (if hj : j.1 < 128 then nope z gq wn b t h ⟨j.1, hj⟩
    else pe z gq wu b t h (rot j.1) * cosT t (rot j.1) + pe z gq wu b t h (partner (rot j.1)) * sinT t (rot j.1)) * scale

/-- One entry of the keys. -/
def key (b : Fin 2) (t : Fin 8448) (j : Fin 256) : EReal :=
  if hj : j.1 < 128 then lowK z gk b t ⟨j.1, hj⟩
  else if j.1 < 192 then z (ix3 b t ⟨384 + (rot j.1).1, by omega⟩) * cosT t (rot j.1)
  else z (ix3 b t ⟨384 + (partner (rot j.1)).1, by omega⟩) * sinT t (rot j.1)

/-- One entry of the values. -/
def value (b : Fin 2) (t : Fin 8448) (j : Fin 256) : EReal :=
  if hj : j.1 < 128 then lowK z gk b t ⟨j.1, hj⟩ else if j.1 = 128 then 1 else 0

/-- The three results. -/
def resultQ (i : (⟨3, ![2, 8448, 2048]⟩ : Shape).Idx) : EReal :=
  query z gq wn wu (i 0) (i 1) ⟨(i 2).1 / 256, by have h : (i 2).1 < 2048 := (i 2).isLt; omega⟩ ⟨(i 2).1 % 256, by omega⟩

def resultK (i : (⟨3, ![2, 8448, 256]⟩ : Shape).Idx) : EReal := key z gk (i 0) (i 1) (i 2)

def resultV (i : (⟨3, ![2, 8448, 256]⟩ : Shape).Idx) : EReal := value z gk (i 0) (i 1) (i 2)

/-- The scale is a finite number not below zero, so it goes into a sum. -/
theorem scale_sum (a b : EReal) : (a + b) * scale = a * scale + b * scale := by
  unfold scale
  rw [show Ideal.ofBits .f32 0x3DD53B95#32 = (((13974421 : ℝ) / 134217728 : ℝ) : EReal) by
    simp [Ideal.ofBits, Ideal.ieee, -EReal.coe_mul]; norm_num]
  refine EReal.right_distrib_of_nonneg_of_ne_top ?_ (EReal.coe_ne_top _) a b
  exact EReal.coe_nonneg.mpr (by norm_num)

end Cert.Heads

end
-- ==== Proof.HeadsKernel.lean ====
/-
  What one grid point of the attention's inputs writes: the rows' low-rank queries against the staged weights, each head's
  256 columns times the cosine table plus their partners' times the sine table; the normalised keys and the rotary ones
  times their table; the keys again with a one and zeros.
-/
module

public import proofs.«01_k».proof.Proof.Heads
public import proofs.«01_k».proof.Proof.Gen.HeadsIdeal.Value
public import Idealize.ShloMosaic.Lib.Claim
public import Idealize.ShloMosaic.Lib.Pipeline.ValueKit
public import Idealize.ShloMosaic.Lib.StableHlo.ReadAt

@[expose] public section

set_option maxRecDepth 16384

noncomputable section

namespace Cert.HeadsIdeal.Hd

open Cert.HeadsIdeal Cert.HeadsIdeal.Gen Idealize.ShloMosaic Idealize.ShloMosaic.TcCoe Cert.Project Cert.Heads

/-- One entry of the low-rank queries against the weights. -/
theorem lin_at (X : Vec Ideal S1x256x512 .f32) (G : Vec Ideal S1x256 .f32) (W : Vec Ideal S256x4096 .bf16) (r : Fin 256) (j : Fin 4096) :
    k0_pay5 X G W (ix2 r j) = ∑ k : Fin 256, normQ (fun k => X (ix3 0 r ⟨k.1, by omega⟩)) (fun k => G (ix2 0 k)) k * W (ix2 k j) := by
  unfold normQ
  pointwise [k0_pay5, k0_pay4]

/-- One entry of the normalised keys. -/
theorem keys_at (X : Vec Ideal S1x256x512 .f32) (G : Vec Ideal S1x128 .f32) (y : S1x256x128.Idx) :
    k0_pay18 (k0_pay4 X) G y = normK (fun k => X (ix3 0 (y 1) ⟨256 + k.1, by omega⟩)) (fun k => G (ix2 0 k)) (y 2) := by
  unfold normK
  pointwise [k0_pay18, k0_pay17, k0_pay4]

/-- One entry of the rotary keys. -/
theorem rotary_at (X : Vec Ideal S1x256x512 .f32) (C : Vec Ideal S256x128 .f32) (y : S1x256x128.Idx) :
    k0_pay1 (k0_pay19 (k0_pay4 X) C) y
      = X (ix3 0 (y 1) ⟨384 + (y 2).1, by have h : (y 2).1 < 128 := (y 2).isLt; omega⟩) * C (ix2 (y 1) (y 2)) := by
  pointwise [k0_pay1, k0_pay19, k0_pay4]

/-- One entry of the values' first half. -/
theorem values_at (X : Vec Ideal S1x256x512 .f32) (G : Vec Ideal S1x128 .f32) (y : S1x256x128.Idx) :
    k0_pay2 (k0_pay17 (k0_pay4 X) G) y = normK (fun k => X (ix3 0 (y 1) ⟨256 + k.1, by omega⟩)) (fun k => G (ix2 0 k)) (y 2) := by
  unfold normK
  pointwise [k0_pay2, k0_pay17, k0_pay4]

/-- A one and zeros. -/
theorem ones_at (y : S1x256x128.Idx) : @Eq EReal (k0_pay3 (F := Ideal) y) (if (y 2).1 = 0 then 1 else 0) := by
  have e : ∀ j : Fin 128, IntOp.cmpi CmpIPredicate.eq (BitVec.ofNat 32 j.1) 0#32 = if j.1 = 0 then 1#1 else 0#1 := by decide +kernel
  have e' := e (y 2)
  pointwise [k0_pay3]
  refine (congrArg (fun c => Scalar.select c (1 : EReal) 0) e').trans ?_
  by_cases h : (y 2).1 = 0
  · rw [if_pos h, if_pos h]; rfl
  · rw [if_neg h, if_neg h]; rfl

variable (x0 : Vec Ideal S1x256x512 .f32) (x1 : Vec Ideal S1x256 .f32) (x2 : Vec Ideal S1x128 .f32) (x3 : Vec Ideal S256x4096 .bf16)
  (x4 x5 : Vec Ideal S256x256 .f32) (x6 : Vec Ideal S256x128 .f32)

/-- One entry of the staged rows against the staged weights. -/
def blockLin (r : Fin 256) (j : Fin 4096) : EReal :=
  ∑ k : Fin 256, normQ (fun k => x0 (ix3 0 r ⟨k.1, by omega⟩)) (fun k => x1 (ix2 0 k)) k * x3 (ix2 k j)

def blockKey (r : Fin 256) (j : Fin 128) : EReal :=
  normK (fun k => x0 (ix3 0 r ⟨256 + k.1, by omega⟩)) (fun k => x2 (ix2 0 k)) j

theorem whole0 : View.ld x0 r0_0 = x0 := by
  funext i; exact View.ld_unit_apply_of _ _ _ _ _ _ fun a => by fin_cases a <;> simp
theorem whole1 : View.ld x1 r0_1 = x1 := by
  funext i; exact View.ld_unit_apply_of _ _ _ _ _ _ fun a => by fin_cases a <;> simp
theorem whole2 : View.ld x2 r0_12 = x2 := by
  funext i; exact View.ld_unit_apply_of _ _ _ _ _ _ fun a => by fin_cases a <;> simp
theorem whole3 : View.ld x3 r0_2 = x3 := by
  funext i; exact View.ld_unit_apply_of _ _ _ _ _ _ fun a => by fin_cases a <;> simp
theorem whole4 : View.ld x4 r0_3 = x4 := by
  funext i; exact View.ld_unit_apply_of _ _ _ _ _ _ fun a => by fin_cases a <;> simp
theorem whole6 : View.ld x6 r0_14 = x6 := by
  funext i; exact View.ld_unit_apply_of _ _ _ _ _ _ fun a => by fin_cases a <;> simp

/-- The queries' block. -/
theorem block_Q (y : S1x256x2048.Idx) : out0_7 x0 x1 x2 x3 x4 x5 x6 y
    = blockLin x0 x1 x3 (y 1) ⟨(y 2).1, by have h : (y 2).1 < 2048 := (y 2).isLt; omega⟩ * x4 (ix2 (y 1) ⟨(y 2).1 % 256, by omega⟩)
      + blockLin x0 x1 x3 (y 1) ⟨(y 2).1 + 2048, by have h : (y 2).1 < 2048 := (y 2).isLt; omega⟩ * x5 (ix2 (y 1) ⟨(y 2).1 % 256, by omega⟩) := by
  unfold_out out0_7
  rw [whole0, whole1, whole3, whole4, whole4]
  refine (Value.canon7_eq x0 x1 x3 x4 x5 y).trans ?_
  have l : ∀ j : Fin 4096, k0_pay5 x0 x1 x3 (ix2 (y 1) j) = blockLin x0 x1 x3 (y 1) j := lin_at x0 x1 x3 (y 1)
  rw [← l, ← l]
  exact congrArg₂ (· + ·)
    (congrArg₂ (· * ·) (congrArg _ (by funext a; fin_cases a <;> rfl)) (congrArg x4 (by funext a; fin_cases a <;> rfl)))
    (congrArg₂ (· * ·) (congrArg _ (by funext a; fin_cases a <;> rfl)) (congrArg x5 (by funext a; fin_cases a <;> rfl)))

/-- The keys' block. -/
theorem block_K (y : S1x256x256.Idx) : out0_8 x0 x1 x2 x3 x4 x5 x6 y
    = if h : (y 2).1 < 128 then blockKey x0 x2 (y 1) ⟨(y 2).1, h⟩
      else x0 (ix3 0 (y 1) ⟨384 + ((y 2).1 - 128), by have h : (y 2).1 < 256 := (y 2).isLt; omega⟩)
        * x6 (ix2 (y 1) ⟨(y 2).1 - 128, by have h : (y 2).1 < 256 := (y 2).isLt; omega⟩) := by
  unfold_out out0_8
  rw [whole0, whole2, whole6]
  canon_tiles y h
  · rw [rotary_at]
    rename_i x
    rw [dif_neg (by omega)]
    exact congrArg₂ (· * ·)
      (congrArg x0 (congrArg₂ (ix3 0) (Fin.ext h1.symm) (Fin.ext (by simp only [Fin.val_mk]; omega))))
      (congrArg x6 (congrArg₂ ix2 (Fin.ext h1.symm) (Fin.ext (by simp only [Fin.val_mk]; omega))))
  · rw [keys_at]
    rename_i x
    rw [dif_pos (by omega)]
    exact congrArg₂ (blockKey x0 x2) (Fin.ext h1.symm) (Fin.ext h2.symm)

/-- The values' block. -/
theorem block_V (y : S1x256x256.Idx) : @Eq EReal (out0_9 x0 x1 x2 x3 x4 x5 x6 y)
    (if h : (y 2).1 < 128 then blockKey x0 x2 (y 1) ⟨(y 2).1, h⟩ else if (y 2).1 = 128 then 1 else 0) := by
  unfold_out out0_9
  rw [whole0, whole2]
  canon_tiles y h
  · rw [ones_at]
    rename_i x
    rw [dif_neg (by omega)]
    by_cases e : (y 2).1 = 0
    · rw [if_pos e, if_pos (by omega)]
    · rw [if_neg e, if_neg (by omega)]
  · rw [values_at]
    rename_i x
    rw [dif_pos (by omega)]
    exact congrArg₂ (blockKey x0 x2) (Fin.ext h1.symm) (Fin.ext h2.symm)

end Cert.HeadsIdeal.Hd

end
-- ==== Proof.HeadsTables.lean ====
/-
  The rotary tables the host prepares: a latent's grid row and column by integer division, its angles, and the cosine and
  signed sine at the 64 rotary columns, one and zero for the context.
-/
module

public import proofs.«01_k».proof.Proof.HeadsKernel

@[expose] public section

set_option maxRecDepth 16384

noncomputable section

namespace Cert.HeadsIdeal.Hd

open Cert.HeadsIdeal Cert.HeadsIdeal.Gen Idealize.ShloMosaic Idealize.ShloMosaic.TcCoe Cert.Project Cert.Heads

/-- A quotient by 64 rounded down, as the host takes it. -/
def rowWord (a : BitVec 32) : BitVec 32 :=
  Scalar.select
    (IntOp.andi
      (IntOp.cmpi CmpIPredicate.ne (if a = 0 then (0 : BitVec 32) else if a.msb = true then -1 else 1)
        (if 64#32 = 0 then 0 else if BitVec.msb 64#32 = true then -1 else 1))
      (IntOp.cmpi CmpIPredicate.ne (IntOp.remsi ArithUnit.host a 64#32) 0#32))
    (IntOp.subi (IntOp.divsi ArithUnit.host a 64#32) 1#32)
    (IntOp.divsi ArithUnit.host a 64#32)

/-- The divisor with zero replaced by one. -/
def divisor : BitVec 32 := Scalar.select (IntOp.cmpi CmpIPredicate.eq 64#32 0#32) (1#32) 64#32

/-- A remainder by 64 with the divisor's sign, as the host takes it. -/
def colWord (a : BitVec 32) : BitVec 32 :=
  Scalar.select
    (IntOp.andi
      (IntOp.cmpi CmpIPredicate.ne
        (IntOp.cmpi CmpIPredicate.slt (IntOp.remsi ArithUnit.host a divisor) 0#32)
        (IntOp.cmpi CmpIPredicate.slt divisor 0#32))
      (IntOp.cmpi CmpIPredicate.ne (IntOp.remsi ArithUnit.host a divisor) 0#32))
    (IntOp.addi (IntOp.remsi ArithUnit.host a divisor) divisor)
    (IntOp.remsi ArithUnit.host a divisor)

theorem words_eq : ∀ (a : Fin 128) (b : Fin 64), (rowWord (BitVec.ofNat 32 (64 * a.1 + b.1))).toInt = a.1
    ∧ (colWord (BitVec.ofNat 32 (64 * a.1 + b.1))).toInt = b.1 := by
  decide +kernel

theorem rowWord_eq (n : Fin 8192) : (rowWord (BitVec.ofNat 32 n.1)).toInt = (n.1 / 64 : ℕ) := by
  have e := (words_eq ⟨n.1 / 64, by omega⟩ ⟨n.1 % 64, by omega⟩).1
  rwa [show 64 * (n.1 / 64) + n.1 % 64 = n.1 by omega] at e

theorem colWord_eq (n : Fin 8192) : (colWord (BitVec.ofNat 32 n.1)).toInt = (n.1 % 64 : ℕ) := by
  have e := (words_eq ⟨n.1 / 64, by omega⟩ ⟨n.1 % 64, by omega⟩).2
  rwa [show 64 * (n.1 / 64) + n.1 % 64 = n.1 by omega] at e

theorem freqWord_eq : ∀ f : Fin 16, (BitVec.ofNat 32 f.1).toInt = f.1 := by
  decide +kernel

/-- The host's wave number. -/
def hostFreq (a : BitVec 32) : EReal :=
  Ideal.pow (Ideal.ofBits FTy.f32 1176256512#32)
    (Ideal.div (-(FloatOps.sitofp (F := Ideal) FTy.f32 a : EReal)) (Ideal.ofBits FTy.f32 1098907648#32))

theorem hostFreq_eq (f : Fin 16) : hostFreq (BitVec.ofNat 32 f.1) = freq f := by
  unfold hostFreq freq
  rw [show (FloatOps.sitofp (F := Ideal) FTy.f32 (BitVec.ofNat 32 f.1) : EReal) = ((((BitVec.ofNat 32 f.1).toInt : ℝ)) : EReal) from rfl, freqWord_eq f]

/-- The two angles. -/
theorem row_angle (n : Fin 8192) (j : Fin 64) (a : ℕ) (ha : a = j.1 % 16) (hj : j.1 < 32) :
    @Eq EReal (FloatOps.sitofp (F := Ideal) FTy.f32 (rowWord (BitVec.ofNat 32 n.1)) * hostFreq (BitVec.ofNat 32 a)) (angle n j) := by
  subst ha
  have e := hostFreq_eq ⟨j.1 % 16, by omega⟩
  unfold angle
  rw [if_pos hj, ← e]
  exact congrArg (· * _) (congrArg (fun i : ℤ => (((i : ℝ)) : EReal)) (rowWord_eq n))

theorem col_angle (n : Fin 8192) (j : Fin 64) (a : ℕ) (ha : a = j.1 % 16) (hj : ¬j.1 < 32) :
    @Eq EReal (FloatOps.sitofp (F := Ideal) FTy.f32 (colWord (BitVec.ofNat 32 n.1)) * hostFreq (BitVec.ofNat 32 a)) (angle n j) := by
  subst ha
  have e := hostFreq_eq ⟨j.1 % 16, by omega⟩
  unfold angle
  rw [if_neg hj, ← e]
  exact congrArg (· * _) (congrArg (fun i : ℤ => (((i : ℝ)) : EReal)) (colWord_eq n))

/-- A constant for the context above four tables of sixteen columns, at one entry. -/
theorem table_at (o : FVec Ideal S256x64 .f32) (A B C D : FVec Ideal S8192x16 .f32) (t : Fin 8448) (j : Fin 64) :
    concatenate S8448x64 0 [⟨S256x64, o⟩, ⟨S8192x64, concatenate S8192x64 1 [⟨S8192x16, A⟩, ⟨S8192x16, B⟩, ⟨S8192x16, C⟩, ⟨S8192x16, D⟩] concatenates_S8192x16_S8192x16_S8192x16_S8192x16_S8192x64_d1⟩] concatenates_S256x64_S8192x64_S8448x64_d0 (ix2 t j)
      = if h : t.1 < 256 then o (ix2 ⟨t.1, h⟩ j) else if j.1 < 16 then A (ix2 ⟨t.1 - 256, by omega⟩ ⟨j.1 % 16, by omega⟩)
        else if j.1 < 32 then B (ix2 ⟨t.1 - 256, by omega⟩ ⟨j.1 % 16, by omega⟩)
        else if j.1 < 48 then C (ix2 ⟨t.1 - 256, by omega⟩ ⟨j.1 % 16, by omega⟩) else D (ix2 ⟨t.1 - 256, by omega⟩ ⟨j.1 % 16, by omega⟩) := by
  have e : ∀ (T : FVec Ideal S8192x16 .f32) (n : Fin 8192) (k l : Fin 16), k.1 = l.1 → T (ix2 n k) = T (ix2 n l) :=
    fun T n k l h => congrArg (fun k => T (ix2 n k)) (Fin.ext h)
  pointwise
  by_cases h : t.1 < 256
  · refine (dif_pos h).trans (Eq.trans ?_ (dif_pos h).symm)
    rfl
  refine (dif_neg h).trans (Eq.trans ?_ (dif_neg h).symm)
  by_cases h1 : j.1 < 16
  · exact (dif_pos h1).trans (Eq.trans (e _ _ _ _ (by simp only [Fin.val_mk]; omega)) (if_pos h1).symm)
  refine (dif_neg h1).trans (Eq.trans ?_ (if_neg h1).symm)
  by_cases h2 : j.1 < 32
  · exact (dif_pos (by omega)).trans (Eq.trans (e _ _ _ _ (by simp only [Fin.val_mk]; omega)) (if_pos h2).symm)
  refine (dif_neg (by omega)).trans (Eq.trans ?_ (if_neg h2).symm)
  by_cases h3 : j.1 < 48
  · exact (dif_pos (by omega)).trans (Eq.trans (e _ _ _ _ (by simp only [Fin.val_mk]; omega)) (if_pos h3).symm)
  · exact (dif_neg (by omega)).trans (Eq.trans (e _ _ _ _ (by simp only [Fin.val_mk]; omega)) (if_neg h3).symm)

theorem one_word : Ideal.ofBits .f32 0x3F800000#32 = 1 := by
  simp [Ideal.ofBits, Ideal.ieee]
  rw [← EReal.coe_mul]
  norm_num

theorem zero_word : Ideal.ofBits .f32 0x00000000#32 = 0 := by
  simp [Ideal.ofBits, Ideal.ieee]

/-- The cosine table, of arrays that hold the angles. -/
theorem cos_of (A B : FVec Ideal S8192x16 .f32) (hA : ∀ (n : Fin 8192) (f : Fin 16), @Eq EReal (A (ix2 n f)) (FloatOps.sitofp (F := Ideal) FTy.f32 (rowWord (BitVec.ofNat 32 n.1)) * hostFreq (BitVec.ofNat 32 f.1)))
    (hB : ∀ (n : Fin 8192) (f : Fin 16), @Eq EReal (B (ix2 n f)) (FloatOps.sitofp (F := Ideal) FTy.f32 (colWord (BitVec.ofNat 32 n.1)) * hostFreq (BitVec.ofNat 32 f.1))) (t : Fin 8448) (j : Fin 64) :
    (concatenate S8448x64 0 [⟨S256x64, broadcastInDim S256x64 ![] bcast_S_S256x64 (constant (F := Ideal) S_ .f32 0x3F800000#32)⟩, ⟨S8192x64, concatenate S8192x64 1 [⟨S8192x16, Host.cos A⟩, ⟨S8192x16, Host.cos A⟩, ⟨S8192x16, Host.cos B⟩, ⟨S8192x16, Host.cos B⟩] concatenates_S8192x16_S8192x16_S8192x16_S8192x16_S8192x64_d1⟩] concatenates_S256x64_S8192x64_S8448x64_d0) (ix2 t j) = cosT t j := by
  refine (table_at _ _ _ _ _ t j).trans ?_
  unfold cosT
  by_cases h : t.1 < 256
  · rw [dif_pos h, dif_pos h]
    exact one_word
  rw [dif_neg h, dif_neg h]
  by_cases h2 : j.1 < 32
  · have e := congrArg Ideal.cos ((hA ⟨t.1 - 256, by omega⟩ ⟨j.1 % 16, by omega⟩).trans (row_angle _ j _ rfl h2))
    by_cases h1 : j.1 < 16
    · rw [if_pos h1]; exact e
    · rw [if_neg h1, if_pos h2]; exact e
  · have e := congrArg Ideal.cos ((hB ⟨t.1 - 256, by omega⟩ ⟨j.1 % 16, by omega⟩).trans (col_angle _ j _ rfl h2))
    rw [if_neg (show ¬j.1 < 16 by omega), if_neg h2]
    by_cases h3 : j.1 < 48
    · rw [if_pos h3]; exact e
    · rw [if_neg h3]; exact e

/-- The signed sine table, of arrays that hold the angles. -/
theorem sin_of (A B : FVec Ideal S8192x16 .f32) (hA : ∀ (n : Fin 8192) (f : Fin 16), @Eq EReal (A (ix2 n f)) (FloatOps.sitofp (F := Ideal) FTy.f32 (rowWord (BitVec.ofNat 32 n.1)) * hostFreq (BitVec.ofNat 32 f.1)))
    (hB : ∀ (n : Fin 8192) (f : Fin 16), @Eq EReal (B (ix2 n f)) (FloatOps.sitofp (F := Ideal) FTy.f32 (colWord (BitVec.ofNat 32 n.1)) * hostFreq (BitVec.ofNat 32 f.1))) (t : Fin 8448) (j : Fin 64) :
    (concatenate S8448x64 0 [⟨S256x64, broadcastInDim S256x64 ![] bcast_S_S256x64 (constant (F := Ideal) S_ .f32 0x00000000#32)⟩, ⟨S8192x64, concatenate S8192x64 1 [⟨S8192x16, Host.negf (Host.sin A)⟩, ⟨S8192x16, Host.sin A⟩, ⟨S8192x16, Host.negf (Host.sin B)⟩, ⟨S8192x16, Host.sin B⟩] concatenates_S8192x16_S8192x16_S8192x16_S8192x16_S8192x64_d1⟩] concatenates_S256x64_S8192x64_S8448x64_d0) (ix2 t j) = sinT t j := by
  refine (table_at _ _ _ _ _ t j).trans ?_
  unfold sinT
  by_cases h : t.1 < 256
  · rw [dif_pos h, dif_pos h]
    exact zero_word
  rw [dif_neg h, dif_neg h]
  by_cases h2 : j.1 < 32
  · have e := congrArg Ideal.sin ((hA ⟨t.1 - 256, by omega⟩ ⟨j.1 % 16, by omega⟩).trans (row_angle _ j _ rfl h2))
    by_cases h1 : j.1 < 16
    · rw [if_pos h1, if_pos (show j.1 % 32 < 16 by omega)]; exact congrArg Neg.neg e
    · rw [if_neg h1, if_pos h2, if_neg (show ¬j.1 % 32 < 16 by omega)]; exact e
  · have e := congrArg Ideal.sin ((hB ⟨t.1 - 256, by omega⟩ ⟨j.1 % 16, by omega⟩).trans (col_angle _ j _ rfl h2))
    rw [if_neg (show ¬j.1 < 16 by omega), if_neg h2]
    by_cases h3 : j.1 < 48
    · rw [if_pos h3, if_pos (show j.1 % 32 < 16 by omega)]; exact congrArg Neg.neg e
    · rw [if_neg h3, if_neg (show ¬j.1 % 32 < 16 by omega)]; exact e

variable (m : (ℓ : Loc nD τ sig) → Buf (Elt Ideal) ℓ) (c : Dev nD)

/-- The angles of a latent's grid row, and of its column. -/
theorem rows_at (n : Fin 8192) (f : Fin 16) : @Eq EReal (V m c main_v43 (ix2 n f))
    (FloatOps.sitofp (F := Ideal) FTy.f32 (rowWord (BitVec.ofNat 32 n.1)) * hostFreq (BitVec.ofNat 32 f.1)) := by
  unfold V
  after_reads_at
  rfl

theorem cols_at (n : Fin 8192) (f : Fin 16) : @Eq EReal (V m c main_v48 (ix2 n f))
    (FloatOps.sitofp (F := Ideal) FTy.f32 (colWord (BitVec.ofNat 32 n.1)) * hostFreq (BitVec.ofNat 32 f.1)) := by
  unfold V
  after_reads_at
  rfl

set_option maxHeartbeats 4000000 in
theorem cos_eq : V m c main_v62 = concatenate S8448x64 0 [⟨S256x64, broadcastInDim S256x64 ![] bcast_S_S256x64 (constant (F := Ideal) S_ .f32 0x3F800000#32)⟩, ⟨S8192x64, concatenate S8192x64 1 [⟨S8192x16, Host.cos (V m c main_v43)⟩, ⟨S8192x16, Host.cos (V m c main_v43)⟩, ⟨S8192x16, Host.cos (V m c main_v48)⟩, ⟨S8192x16, Host.cos (V m c main_v48)⟩] concatenates_S8192x16_S8192x16_S8192x16_S8192x16_S8192x64_d1⟩] concatenates_S256x64_S8192x64_S8448x64_d0 := by
  unfold V
  after_reads_simp
  rfl

set_option maxHeartbeats 4000000 in
theorem sin_eq : V m c main_v64 = concatenate S8448x64 0 [⟨S256x64, broadcastInDim S256x64 ![] bcast_S_S256x64 (constant (F := Ideal) S_ .f32 0x00000000#32)⟩, ⟨S8192x64, concatenate S8192x64 1 [⟨S8192x16, Host.negf (Host.sin (V m c main_v43))⟩, ⟨S8192x16, Host.sin (V m c main_v43)⟩, ⟨S8192x16, Host.negf (Host.sin (V m c main_v48))⟩, ⟨S8192x16, Host.sin (V m c main_v48)⟩] concatenates_S8192x16_S8192x16_S8192x16_S8192x16_S8192x64_d1⟩] concatenates_S256x64_S8192x64_S8448x64_d0 := by
  unfold V
  after_reads_simp
  rfl

/-- The cosine table. -/
theorem cos_entry (t : Fin 8448) (j : Fin 64) : @Eq EReal (V m c main_v62 (ix2 t j)) (cosT t j) :=
  (congrFun (cos_eq m c) (ix2 t j)).trans (cos_of _ _ (rows_at m c) (cols_at m c) t j)

/-- The signed sine table. -/
theorem sin_entry (t : Fin 8448) (j : Fin 64) : @Eq EReal (V m c main_v64 (ix2 t j)) (sinT t j) :=
  (congrFun (sin_eq m c) (ix2 t j)).trans (sin_of _ _ (rows_at m c) (cols_at m c) t j)

/-- The queries' tables: ones and the cosines twice, zeros and the sines twice, scaled; the keys': cosines and sines. -/
theorem cq_eq : V m c main_v68 = mulf (broadcastInDim S8448x256 ![] bcast_S_S8448x256 (constant S_ .f32 0x3DD53B95#32))
    (concatenate S8448x256 1 [⟨S8448x128, (broadcastInDim S8448x128 ![] bcast_S_S8448x128 (constant (F := Ideal) S_ .f32 0x3F800000#32))⟩, ⟨S8448x64, V m c main_v62⟩, ⟨S8448x64, V m c main_v62⟩] concatenates_S8448x128_S8448x64_S8448x64_S8448x256_d1) := by
  unfold V
  after_reads_simp
  rfl

theorem sq_eq : V m c main_v72 = mulf (broadcastInDim S8448x256 ![] bcast_S_S8448x256 (constant S_ .f32 0x3DD53B95#32))
    (concatenate S8448x256 1 [⟨S8448x128, (broadcastInDim S8448x128 ![] bcast_S_S8448x128 (constant (F := Ideal) S_ .f32 0x00000000#32))⟩, ⟨S8448x64, V m c main_v64⟩, ⟨S8448x64, V m c main_v64⟩] concatenates_S8448x128_S8448x64_S8448x64_S8448x256_d1) := by
  unfold V
  after_reads_simp
  rfl

theorem ck_eq : V m c main_v73 =
    concatenate S8448x128 1 [⟨S8448x64, V m c main_v62⟩, ⟨S8448x64, V m c main_v64⟩] concatenates_S8448x64_S8448x64_S8448x128_d1 := by
  unfold V
  after_reads_simp
  rfl

/-- A table of 128 columns of one kind and twice 64 of another, at one entry. -/
theorem laid_at (o : FVec Ideal S8448x128 .f32) (C : FVec Ideal S8448x64 .f32) (t : Fin 8448) (j : Fin 256) :
    concatenate S8448x256 1 [⟨S8448x128, o⟩, ⟨S8448x64, C⟩, ⟨S8448x64, C⟩] concatenates_S8448x128_S8448x64_S8448x64_S8448x256_d1 (ix2 t j)
      = if h : j.1 < 128 then o (ix2 t ⟨j.1, h⟩) else C (ix2 t (rot j.1)) := by
  have e : ∀ k : Fin 64, k = rot j.1 → C (ix2 t k) = C (ix2 t (rot j.1)) := fun k hk => congrArg (fun k => C (ix2 t k)) hk
  by_cases h : j.1 < 128
  · rw [dif_pos h]
    pointwise
    exact dif_pos h
  · rw [dif_neg h]
    pointwise
    refine (dif_neg h).trans ?_
    split
    · exact e _ (Fin.ext (by simp only [rot]; omega))
    · exact e _ (Fin.ext (by simp only [rot]; omega))

theorem cq_entry (t : Fin 8448) (j : Fin 256) : @Eq EReal (V m c main_v68 (ix2 t j))
    (scale * (if j.1 < 128 then 1 else cosT t (rot j.1))) := by
  rw [cq_eq]
  refine congrArg (scale * ·) ((laid_at _ _ t j).trans ?_)
  by_cases h : j.1 < 128
  · rw [dif_pos h, if_pos h]
    exact one_word
  · rw [dif_neg h, if_neg h]
    exact cos_entry m c t _

theorem sq_entry (t : Fin 8448) (j : Fin 256) : @Eq EReal (V m c main_v72 (ix2 t j))
    (scale * (if j.1 < 128 then 0 else sinT t (rot j.1))) := by
  rw [sq_eq]
  refine congrArg (scale * ·) ((laid_at _ _ t j).trans ?_)
  by_cases h : j.1 < 128
  · rw [dif_pos h, if_pos h]
    exact zero_word
  · rw [dif_neg h, if_neg h]
    exact sin_entry m c t _

/-- The keys' table: cosines, then sines. -/
theorem ck_left (t : Fin 8448) (j : Fin 64) : @Eq EReal (V m c main_v73 (ix2 t ⟨j.1, by omega⟩)) (cosT t j) := by
  rw [ck_eq]
  pointwise
  exact cos_entry m c t j

theorem ck_right (t : Fin 8448) (j : Fin 64) : @Eq EReal (V m c main_v73 (ix2 t ⟨64 + j.1, by omega⟩)) (sinT t j) := by
  rw [ck_eq]
  pointwise
  have e : ∀ k : Fin 64, k = j → @Eq EReal (V m c main_v64 (ix2 t k)) (sinT t j) := by
    rintro k rfl
    exact sin_entry m c t _
  first
    | exact e _ (Fin.ext (by simp))
    | (split
       · exact absurd ‹_› (by omega)
       · exact e _ (Fin.ext (by simp)))

end Cert.HeadsIdeal.Hd

end
-- ==== Proof.HeadsArray.lean ====
/-
  The arrays the attention's inputs leave: the host sets the last 64 columns beside the rows once more by their rotary
  partners, and lays each head's 256 weight columns side by side, then their partners'; point `t` of the grid stages rows
  `256·(t mod 33) …` of batch entry `t / 33` and those positions' tables; so the blocks it writes are the three results of
  `Proof/Heads.lean`.
-/
module

public import proofs.«01_k».proof.Proof.HeadsTables

@[expose] public section

set_option maxRecDepth 16384

noncomputable section

namespace Cert.HeadsIdeal.Hd

open Cert.HeadsIdeal Cert.HeadsIdeal.Gen Idealize.ShloMosaic Idealize.ShloMosaic.TcCoe Cert.Project Cert.Heads

variable (m : (ℓ : Loc nD τ sig) → Buf (Elt Ideal) ℓ) (c : Dev nD)

abbrev zA : ZArr := m ((c : Thread nD τ).loc main_arg0)
abbrev gqA : QNormArr := m ((c : Thread nD τ).loc main_arg1)
abbrev gkA : KNormArr := m ((c : Thread nD τ).loc main_arg2)
abbrev wnA : FoldArr := m ((c : Thread nD τ).loc main_arg3)
abbrev wuA : UpArr := m ((c : Thread nD τ).loc main_arg4)

/-- The windows' block indices at a grid point. -/
theorem index0 : ∀ t : Fin cfg0.N, win0_0.index t 0 = t.1 / 33 ∧ win0_0.index t 1 = t.1 % 33 ∧ win0_0.index t 2 = 0 :=
  (by decide +kernel : ∀ t : Fin grid0.N, win0_0.index t 0 = t.1 / 33 ∧ win0_0.index t 1 = t.1 % 33 ∧ win0_0.index t 2 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = t.1 % 33 ∧ win0_4.index t 1 = 0 :=
  (by decide +kernel : ∀ t : Fin grid0.N, win0_4.index t 0 = t.1 % 33 ∧ win0_4.index t 1 = 0)

theorem index5 : ∀ t : Fin cfg0.N, win0_5.index t 0 = t.1 % 33 ∧ win0_5.index t 1 = 0 :=
  (by decide +kernel : ∀ t : Fin grid0.N, win0_5.index t 0 = t.1 % 33 ∧ win0_5.index t 1 = 0)

theorem index6 : ∀ t : Fin cfg0.N, win0_6.index t 0 = t.1 % 33 ∧ win0_6.index t 1 = 0 :=
  (by decide +kernel : ∀ t : Fin grid0.N, win0_6.index t 0 = t.1 % 33 ∧ win0_6.index t 1 = 0)

theorem index7 : ∀ t : Fin cfg0.N, win0_7.index t 0 = t.1 / 33 ∧ win0_7.index t 1 = t.1 % 33 ∧ win0_7.index t 2 = 0 :=
  (by decide +kernel : ∀ t : Fin grid0.N, win0_7.index t 0 = t.1 / 33 ∧ win0_7.index t 1 = t.1 % 33 ∧ win0_7.index t 2 = 0)

theorem index8 : ∀ t : Fin cfg0.N, win0_8.index t 0 = t.1 / 33 ∧ win0_8.index t 1 = t.1 % 33 ∧ win0_8.index t 2 = 0 :=
  (by decide +kernel : ∀ t : Fin grid0.N, win0_8.index t 0 = t.1 / 33 ∧ win0_8.index t 1 = t.1 % 33 ∧ win0_8.index t 2 = 0)

theorem index9 : ∀ t : Fin cfg0.N, win0_9.index t 0 = t.1 / 33 ∧ win0_9.index t 1 = t.1 % 33 ∧ win0_9.index t 2 = 0 :=
  (by decide +kernel : ∀ t : Fin grid0.N, win0_9.index t 0 = t.1 / 33 ∧ win0_9.index t 1 = t.1 % 33 ∧ win0_9.index t 2 = 0)

/-- The norms' weights as rows. -/
theorem normQ_entry (k : Fin 256) : @Eq EReal (V m c main_v74 (ix2 0 k)) (gqA m c (ix1 k)) := by
  unfold V
  after_reads_at

theorem normK_entry (k : Fin 128) : @Eq EReal (V m c main_v75 (ix2 0 k)) (gkA m c (ix1 k)) := by
  unfold V
  after_reads_at

/-- The column indices the host gathers by. -/
def gatherIdx : IVec S64x1 32 :=
  broadcastInDim S64x1 ![0] bcast_S64_S64x1_0
    (select (cmpi CmpIPredicate.slt (fun i => lit0 (S64.rowMajor i)) (broadcastInDim S64 ![] bcast_S_S64 (constantI S_ 32 0#32)))
      (addi (fun i => lit0 (S64.rowMajor i)) (broadcastInDim S64 ![] bcast_S_S64 (constantI S_ 32 64#32)))
      (fun i => lit0 (S64.rowMajor i)))

/-- They are the rotary partners. -/
theorem gatherIdx_eq : ∀ j : Fin 64, min (gatherIdx (ix2 j 0)).toInt.toNat 63 = (partner j).1 := by
  decide +kernel

/-- A gather of rows' columns at one entry: the column its index names. -/
theorem gatherZ_at {α : Type} (x : S2x8448x64.Idx → α) (idx : IVec S64x1 32) (b : Fin 2) (t : Fin 8448) (j : Fin 64) :
    Host.gather gather_S2x8448x64_S64x1_S2x8448x64_01_2_n_n_2_1_284481 x idx (ix3 b t j)
      = x (ix3 b t ⟨min (idx (ix2 j 0)).toInt.toNat 63, by omega⟩) := by
  unfold Host.gather
  congr 1
  funext a
  refine Fin.ext ?_
  show GatherDims.start gather_S2x8448x64_S64x1_S2x8448x64_01_2_n_n_2_1_284481 (ix3 b t j) idx a
    + GatherDims.batchCoord gather_S2x8448x64_S64x1_S2x8448x64_01_2_n_n_2_1_284481 (ix3 b t j) a
    + GatherDims.offCoord gather_S2x8448x64_S64x1_S2x8448x64_01_2_n_n_2_1_284481 (ix3 b t j) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have e : GatherDims.start gather_S2x8448x64_S64x1_S2x8448x64_01_2_n_n_2_1_284481 (ix3 b t j) idx 0 = 0 := by
      unfold GatherDims.start
      exact dif_neg (show (0 : Fin 3) ∉ [(2 : Fin 3)] by decide)
    rw [e, Nat.zero_add]
    rfl
  · have e : GatherDims.start gather_S2x8448x64_S64x1_S2x8448x64_01_2_n_n_2_1_284481 (ix3 b t j) idx 1 = 0 := by
      unfold GatherDims.start
      exact dif_neg (show (1 : Fin 3) ∉ [(2 : Fin 3)] by decide)
    rw [e, Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ gather_S2x8448x64_S64x1_S2x8448x64_01_2_n_n_2_1_284481.startIndexMap from List.mem_singleton.mpr rfl)]
    have hsi : GatherDims.siIdx gather_S2x8448x64_S64x1_S2x8448x64_01_2_n_n_2_1_284481 (ix3 b t j)
        ⟨List.idxOf (2 : Fin 3) gather_S2x8448x64_S64x1_S2x8448x64_01_2_n_n_2_1_284481.startIndexMap, List.idxOf_lt_length_iff.2 (List.mem_singleton.mpr rfl)⟩ = ix2 j 0 := by
      funext b
      refine Fin.ext ?_
      match b with
      | ⟨0, _⟩ => rfl
      | ⟨1, _⟩ => rfl
    exact congrArg (fun i => min (idx i).toInt.toNat 63) hsi

/-- A gather of weights' columns at one entry: the column its index names. -/
theorem gatherW_at {α : Type} (x : S8x256x64.Idx → α) (idx : IVec S64x1 32) (b : Fin 8) (t : Fin 256) (j : Fin 64) :
    Host.gather gather_S8x256x64_S64x1_S8x256x64_01_2_n_n_2_1_82561 x idx (ix3 b t j)
      = x (ix3 b t ⟨min (idx (ix2 j 0)).toInt.toNat 63, by omega⟩) := by
  unfold Host.gather
  congr 1
  funext a
  refine Fin.ext ?_
  show GatherDims.start gather_S8x256x64_S64x1_S8x256x64_01_2_n_n_2_1_82561 (ix3 b t j) idx a
    + GatherDims.batchCoord gather_S8x256x64_S64x1_S8x256x64_01_2_n_n_2_1_82561 (ix3 b t j) a
    + GatherDims.offCoord gather_S8x256x64_S64x1_S8x256x64_01_2_n_n_2_1_82561 (ix3 b t j) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have e : GatherDims.start gather_S8x256x64_S64x1_S8x256x64_01_2_n_n_2_1_82561 (ix3 b t j) idx 0 = 0 := by
      unfold GatherDims.start
      exact dif_neg (show (0 : Fin 3) ∉ [(2 : Fin 3)] by decide)
    rw [e, Nat.zero_add]
    rfl
  · have e : GatherDims.start gather_S8x256x64_S64x1_S8x256x64_01_2_n_n_2_1_82561 (ix3 b t j) idx 1 = 0 := by
      unfold GatherDims.start
      exact dif_neg (show (1 : Fin 3) ∉ [(2 : Fin 3)] by decide)
    rw [e, Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ gather_S8x256x64_S64x1_S8x256x64_01_2_n_n_2_1_82561.startIndexMap from List.mem_singleton.mpr rfl)]
    have hsi : GatherDims.siIdx gather_S8x256x64_S64x1_S8x256x64_01_2_n_n_2_1_82561 (ix3 b t j)
        ⟨List.idxOf (2 : Fin 3) gather_S8x256x64_S64x1_S8x256x64_01_2_n_n_2_1_82561.startIndexMap, List.idxOf_lt_length_iff.2 (List.mem_singleton.mpr rfl)⟩ = ix2 j 0 := by
      funext b
      refine Fin.ext ?_
      match b with
      | ⟨0, _⟩ => rfl
      | ⟨1, _⟩ => rfl
    exact congrArg (fun i => min (idx i).toInt.toNat 63) hsi

/-- The rows' first 448 columns, and the partners beside them. -/
theorem rows_entry (b : Fin 2) (t : Fin 8448) (j : Fin 512) (h : j.1 < 448) :
    @Eq EReal (V m c main_v8 (ix3 b t j)) (zA m c (ix3 b t ⟨j.1, h⟩)) := by
  unfold V
  after_reads_at
  rw [dif_pos h]

theorem partner_entry (b : Fin 2) (t : Fin 8448) (j : Fin 64) :
    @Eq EReal (V m c main_v8 (ix3 b t ⟨448 + j.1, by omega⟩)) (zA m c (ix3 b t ⟨384 + (partner j).1, by omega⟩)) := by
  unfold V
  after_reads_at
  refine (gatherZ_at _ gatherIdx b t _).trans ?_
  pointwise
  refine congrArg (zA m c) (congrArg (ix3 b t) (Fin.ext ?_))
  exact congrArg (384 + ·) (gatherIdx_eq _)

/-- The heads' rotary weights, head by head, and their partners. -/
theorem up_entry (h : Fin 8) (k : Fin 256) (j : Fin 64) :
    @Eq EReal (V m c main_v11 (ix3 h k j)) (wuA m c (ix2 k ⟨192 * h.1 + 128 + j.1, by omega⟩)) := by
  unfold V
  after_reads_at
  exact congrArg (wuA m c) (congrArg (ix2 k) (Fin.ext (by simp only [Fin.val_mk]; omega)))

theorem upPartner_entry (h : Fin 8) (k : Fin 256) (j : Fin 64) :
    @Eq EReal (V m c main_v18 (ix3 h k j)) (wuA m c (ix2 k ⟨192 * h.1 + 128 + (partner j).1, by omega⟩)) := by
  unfold V
  after_reads_at
  refine (gatherW_at _ gatherIdx h k j).trans ?_
  pointwise
  refine congrArg (wuA m c) (congrArg (ix2 k) (Fin.ext ?_))
  exact (congrArg (fun a => h.1 * 192 + (128 + a)) (gatherIdx_eq j)).trans
    (show h.1 * 192 + (128 + (partner j).1) = 192 * h.1 + 128 + (partner j).1 by omega)

/-- The weights from the heads' columns. -/
theorem plain_eq : V m c main_v23 = shapeCast S256x2048 (transpose S256x8x256 [1, 0, 2] (concatenate S8x256x256 2 [⟨S8x256x128, wnA m c⟩, ⟨S8x256x64, V m c main_v11⟩, ⟨S8x256x64, V m c main_v11⟩] concatenates_S8x256x128_S8x256x64_S8x256x64_S8x256x256_d2) transposes_S8x256x256_S256x8x256_1_0_2) shapeCasts_S256x8x256_S256x2048 := by
  unfold V
  after_reads_simp
  rfl

theorem partners_eq : V m c main_v25 = shapeCast S256x2048 (transpose S256x8x256 [1, 0, 2] (concatenate S8x256x256 2 [⟨S8x256x128, broadcastInDim S8x256x128 ![] bcast_S_S8x256x128 (constant (F := Ideal) S_ .f32 0x00000000#32)⟩, ⟨S8x256x64, V m c main_v18⟩, ⟨S8x256x64, V m c main_v18⟩] concatenates_S8x256x128_S8x256x64_S8x256x64_S8x256x256_d2) transposes_S8x256x256_S256x8x256_1_0_2) shapeCasts_S256x8x256_S256x2048 := by
  unfold V
  after_reads_simp
  rfl

theorem weights_eq : V m c main_v27 = truncf (F := Ideal) .bf16 (concatenate S256x4096 1
    [⟨S256x2048, V m c main_v23⟩, ⟨S256x2048, V m c main_v25⟩] concatenates_S256x2048_S256x2048_S256x4096_d1) bitsLt_bf16_f32 := by
  unfold V
  after_reads_simp
  rfl

/-- Two tables of 2048 columns side by side, at one entry. -/
theorem beside_left (A B : FVec Ideal S256x2048 .f32) (k : Fin 256) (j : Fin 2048) :
    (truncf .bf16 (concatenate S256x4096 1 [⟨S256x2048, A⟩, ⟨S256x2048, B⟩] concatenates_S256x2048_S256x2048_S256x4096_d1) bitsLt_bf16_f32
      : FVec Ideal S256x4096 .bf16) (ix2 k ⟨j.1, by omega⟩) = A (ix2 k j) := by
  pointwise

theorem beside_right (A B : FVec Ideal S256x2048 .f32) (k : Fin 256) (j : Fin 2048) :
    (truncf .bf16 (concatenate S256x4096 1 [⟨S256x2048, A⟩, ⟨S256x2048, B⟩] concatenates_S256x2048_S256x2048_S256x4096_d1) bitsLt_bf16_f32
      : FVec Ideal S256x4096 .bf16) (ix2 k ⟨j.1 + 2048, by omega⟩) = B (ix2 k j) := by
  pointwise
  refine (dif_neg (by omega)).trans ?_
  exact congrArg (fun j => B (ix2 k j)) (Fin.ext (by simp))

/-- The heads' columns laid side by side, at one entry. -/
theorem heads_at (o : FVec Ideal S8x256x128 .f32) (r : FVec Ideal S8x256x64 .f32) (k : Fin 256) (j : Fin 2048) :
    shapeCast S256x2048 (transpose S256x8x256 [1, 0, 2] (concatenate S8x256x256 2 [⟨S8x256x128, o⟩, ⟨S8x256x64, r⟩, ⟨S8x256x64, r⟩] concatenates_S8x256x128_S8x256x64_S8x256x64_S8x256x256_d2) transposes_S8x256x256_S256x8x256_1_0_2) shapeCasts_S256x8x256_S256x2048 (ix2 k j)
      = if h : j.1 % 256 < 128 then o (ix3 ⟨j.1 / 256, by omega⟩ k ⟨j.1 % 256, h⟩) else r (ix3 ⟨j.1 / 256, by omega⟩ k (rot (j.1 % 256))) := by
  have e : ∀ l : Fin 64, l = rot (j.1 % 256) → r (ix3 ⟨j.1 / 256, by omega⟩ k l) = r (ix3 ⟨j.1 / 256, by omega⟩ k (rot (j.1 % 256))) :=
    fun l hl => congrArg (fun l => r (ix3 ⟨j.1 / 256, by omega⟩ k l)) hl
  by_cases h : j.1 % 256 < 128
  · rw [dif_pos h]
    pointwise
    exact dif_pos h
  · rw [dif_neg h]
    pointwise
    refine (dif_neg h).trans ?_
    split
    · exact e _ (Fin.ext (by simp only [rot]; omega))
    · exact e _ (Fin.ext (by simp only [rot]; omega))

/-- The first 2048 columns of the weights, and the last. -/
theorem left_entry (k : Fin 256) (j : Fin 2048) : @Eq EReal (V m c main_v27 (ix2 k ⟨j.1, by omega⟩))
    (if h : j.1 % 256 < 128 then wnA m c (ix3 ⟨j.1 / 256, by omega⟩ k ⟨j.1 % 256, h⟩)
      else wuA m c (ix2 k ⟨192 * (j.1 / 256) + 128 + (rot (j.1 % 256)).1, by omega⟩)) := by
  refine (congrFun (weights_eq m c) _).trans ((beside_left _ _ k j).trans ((congrFun (plain_eq m c) _).trans ((heads_at _ _ k j).trans ?_)))
  by_cases h : j.1 % 256 < 128
  · rw [dif_pos h, dif_pos h]
  · rw [dif_neg h, dif_neg h]
    exact up_entry m c _ k _

theorem right_entry (k : Fin 256) (j : Fin 2048) : @Eq EReal (V m c main_v27 (ix2 k ⟨j.1 + 2048, by omega⟩))
    (if j.1 % 256 < 128 then 0 else wuA m c (ix2 k ⟨192 * (j.1 / 256) + 128 + (partner (rot (j.1 % 256))).1, by omega⟩)) := by
  refine (congrFun (weights_eq m c) _).trans ((beside_right _ _ k j).trans ((congrFun (partners_eq m c) _).trans ((heads_at _ _ k j).trans ?_)))
  by_cases h : j.1 % 256 < 128
  · rw [dif_pos h, if_pos h]
    exact zero_word
  · rw [dif_neg h, if_neg h]
    exact upPartner_entry m c _ k _

/-- The blocks a point stages. -/
theorem rows_block (t : Fin cfg0.N) (r : Fin 256) (k : Fin 512) (h1 : t.1 / 33 < 2) (h2 : t.1 % 33 * 256 + r.1 < 8448) :
    iblk m c 0 t (ix3 0 r k) = V m c main_v8 (ix3 ⟨t.1 / 33, h1⟩ ⟨t.1 % 33 * 256 + r.1, h2⟩ k) := by
  obtain ⟨e0, e1, e2⟩ := index0 t
  unfold iblk
  generalize hV : V m c = W
  blk_ext [e0, e1, e2]

theorem normQ_block (t : Fin cfg0.N) (k : Fin 256) : iblk m c 1 t (ix2 0 k) = V m c main_v74 (ix2 0 k) := by
  obtain ⟨e0, e1⟩ := index1 t
  unfold iblk
  generalize hV : V m c = W
  blk_ext [e0, e1]

theorem normK_block (t : Fin cfg0.N) (k : Fin 128) : iblk m c 2 t (ix2 0 k) = V m c main_v75 (ix2 0 k) := by
  obtain ⟨e0, e1⟩ := index2 t
  unfold iblk
  generalize hV : V m c = W
  blk_ext [e0, e1]

theorem weights_block (t : Fin cfg0.N) (k : Fin 256) (j : Fin 4096) : iblk m c 3 t (ix2 k j) = V m c main_v27 (ix2 k j) := by
  obtain ⟨e0, e1⟩ := index3 t
  unfold iblk
  generalize hV : V m c = W
  blk_ext [e0, e1]

theorem cq_block (t : Fin cfg0.N) (r : Fin 256) (j : Fin 256) (h2 : t.1 % 33 * 256 + r.1 < 8448) :
    iblk m c 4 t (ix2 r j) = V m c main_v68 (ix2 ⟨t.1 % 33 * 256 + r.1, h2⟩ j) := by
  obtain ⟨e0, e1⟩ := index4 t
  unfold iblk
  generalize hV : V m c = W
  blk_ext [e0, e1]

theorem sq_block (t : Fin cfg0.N) (r : Fin 256) (j : Fin 256) (h2 : t.1 % 33 * 256 + r.1 < 8448) :
    iblk m c 5 t (ix2 r j) = V m c main_v72 (ix2 ⟨t.1 % 33 * 256 + r.1, h2⟩ j) := by
  obtain ⟨e0, e1⟩ := index5 t
  unfold iblk
  generalize hV : V m c = W
  blk_ext [e0, e1]

theorem ck_block (t : Fin cfg0.N) (r : Fin 256) (j : Fin 128) (h2 : t.1 % 33 * 256 + r.1 < 8448) :
    iblk m c 6 t (ix2 r j) = V m c main_v73 (ix2 ⟨t.1 % 33 * 256 + r.1, h2⟩ j) := by
  obtain ⟨e0, e1⟩ := index6 t
  unfold iblk
  generalize hV : V m c = W
  blk_ext [e0, e1]

/-- The low-rank queries of the staged rows. -/
theorem low_block (t : Fin cfg0.N) (r : Fin 256) (k : Fin 256) (h1 : t.1 / 33 < 2) (h2 : t.1 % 33 * 256 + r.1 < 8448) :
    normQ (fun k => iblk m c 0 t (ix3 0 r ⟨k.1, by omega⟩)) (fun k => iblk m c 1 t (ix2 0 k)) k
      = lowQ (zA m c) (gqA m c) ⟨t.1 / 33, h1⟩ ⟨t.1 % 33 * 256 + r.1, h2⟩ k := by
  have e0 : (fun k : Fin 256 => (iblk m c 0 t (ix3 0 r ⟨k.1, by omega⟩) : EReal))
      = fun k => zA m c (ix3 ⟨t.1 / 33, h1⟩ ⟨t.1 % 33 * 256 + r.1, h2⟩ ⟨k.1, by omega⟩) :=
    funext fun k => (rows_block m c t r _ h1 h2).trans (rows_entry m c _ _ ⟨k.1, by omega⟩ (by simp only [Fin.val_mk]; omega))
  have e1 : (fun k : Fin 256 => (iblk m c 1 t (ix2 0 k) : EReal)) = fun k => gqA m c (ix1 k) :=
    funext fun k => (normQ_block m c t k).trans (normQ_entry m c k)
  unfold lowQ
  rw [← e0, ← e1]

/-- The keys of the staged rows. -/
theorem key_block (t : Fin cfg0.N) (r : Fin 256) (k : Fin 128) (h1 : t.1 / 33 < 2) (h2 : t.1 % 33 * 256 + r.1 < 8448) :
    blockKey (iblk m c 0 t) (iblk m c 2 t) r k = lowK (zA m c) (gkA m c) ⟨t.1 / 33, h1⟩ ⟨t.1 % 33 * 256 + r.1, h2⟩ k := by
  have e0 : (fun k : Fin 128 => (iblk m c 0 t (ix3 0 r ⟨256 + k.1, by omega⟩) : EReal))
      = fun k => zA m c (ix3 ⟨t.1 / 33, h1⟩ ⟨t.1 % 33 * 256 + r.1, h2⟩ ⟨256 + k.1, by omega⟩) :=
    funext fun k => (rows_block m c t r _ h1 h2).trans (rows_entry m c _ _ ⟨256 + k.1, by omega⟩ (by simp only [Fin.val_mk]; omega))
  have e1 : (fun k : Fin 128 => (iblk m c 2 t (ix2 0 k) : EReal)) = fun k => gkA m c (ix1 k) :=
    funext fun k => (normK_block m c t k).trans (normK_entry m c k)
  unfold blockKey lowK
  rw [← e0, ← e1]

/-- The staged rows against the first and the last 2048 columns of the weights. -/
theorem lin_left (t : Fin cfg0.N) (r : Fin 256) (j : Fin 2048) (h1 : t.1 / 33 < 2) (h2 : t.1 % 33 * 256 + r.1 < 8448) :
    blockLin (iblk m c 0 t) (iblk m c 1 t) (iblk m c 3 t) r ⟨j.1, by omega⟩
      = if h : j.1 % 256 < 128 then nope (zA m c) (gqA m c) (wnA m c) ⟨t.1 / 33, h1⟩ ⟨t.1 % 33 * 256 + r.1, h2⟩ ⟨j.1 / 256, by omega⟩ ⟨j.1 % 256, h⟩
        else pe (zA m c) (gqA m c) (wuA m c) ⟨t.1 / 33, h1⟩ ⟨t.1 % 33 * 256 + r.1, h2⟩ ⟨j.1 / 256, by omega⟩ (rot (j.1 % 256)) := by
  unfold blockLin
  by_cases h : j.1 % 256 < 128
  · rw [dif_pos h]
    refine Finset.sum_congr rfl fun k _ => congrArg₂ (· * ·) (low_block m c t r k h1 h2) ?_
    exact (weights_block m c t k _).trans ((left_entry m c k j).trans (dif_pos h))
  · rw [dif_neg h]
    refine Finset.sum_congr rfl fun k _ => congrArg₂ (· * ·) (low_block m c t r k h1 h2) ?_
    exact (weights_block m c t k _).trans ((left_entry m c k j).trans (dif_neg h))

/-- A product with a zero. -/
theorem times_zero {x y : EReal} (h : y = 0) : x * y = 0 := by
  rw [h, mul_zero]

theorem lin_right (t : Fin cfg0.N) (r : Fin 256) (j : Fin 2048) (h1 : t.1 / 33 < 2) (h2 : t.1 % 33 * 256 + r.1 < 8448) :
    blockLin (iblk m c 0 t) (iblk m c 1 t) (iblk m c 3 t) r ⟨j.1 + 2048, by omega⟩
      = if j.1 % 256 < 128 then 0
        else pe (zA m c) (gqA m c) (wuA m c) ⟨t.1 / 33, h1⟩ ⟨t.1 % 33 * 256 + r.1, h2⟩ ⟨j.1 / 256, by omega⟩ (partner (rot (j.1 % 256))) := by
  unfold blockLin
  by_cases h : j.1 % 256 < 128
  · rw [if_pos h]
    refine Finset.sum_eq_zero fun k _ => ?_
    have e : @Eq EReal (iblk m c 3 t (ix2 k ⟨j.1 + 2048, by omega⟩)) 0 :=
      (weights_block m c t k _).trans ((right_entry m c k j).trans (if_pos h))
    exact times_zero e
  · rw [if_neg h]
    refine Finset.sum_congr rfl fun k _ => congrArg₂ (· * ·) (low_block m c t r k h1 h2) ?_
    exact (weights_block m c t k _).trans ((right_entry m c k j).trans (if_neg h))

/-- The queries' array. -/
theorem array_Q : (dats m 0 c).arrAt 7 cfg0.N = resultQ (zA m c) (gqA m c) (wnA m c) (wuA m c) := by
  refine (dats m 0 c).arrAt_eq_of_covers 7 _ (by decide +kernel) fun t hf y => ?_
  blk_simp
  rw [after0_7]
  have ht : t.1 < 66 := t.isLt
  have hy1 : (y 1).1 < 256 := (y 1).isLt
  have hy2 : (y 2).1 < 2048 := (y 2).isLt
  obtain ⟨e0, e1, e2⟩ := index7 t
  have e : resultQ (zA m c) (gqA m c) (wnA m c) (wuA m c) ((win0_7.blk t).view.emb y)
      = resultQ (zA m c) (gqA m c) (wnA m c) (wuA m c) (ix3 ⟨t.1 / 33, by omega⟩ ⟨t.1 % 33 * 256 + (y 1).1, by omega⟩ (y 2)) := by
    blk_ext [e0, e1, e2]
  refine (block_Q _ _ _ _ _ _ _ y).trans (Eq.trans ?_ e.symm)
  have h1 : t.1 / 33 < 2 := by omega
  have h2 : t.1 % 33 * 256 + (y 1).1 < 8448 := by omega
  refine (congrArg₂ (· + ·)
    (congrArg₂ (· * ·) (lin_left m c t (y 1) ⟨(y 2).1, hy2⟩ h1 h2) ((cq_block m c t (y 1) _ h2).trans (cq_entry m c _ _)))
    (congrArg₂ (· * ·) (lin_right m c t (y 1) ⟨(y 2).1, hy2⟩ h1 h2) ((sq_block m c t (y 1) _ h2).trans (sq_entry m c _ _)))).trans ?_
  show _ = query (zA m c) (gqA m c) (wnA m c) (wuA m c) ⟨t.1 / 33, h1⟩ ⟨t.1 % 33 * 256 + (y 1).1, h2⟩ ⟨(y 2).1 / 256, by omega⟩ ⟨(y 2).1 % 256, by omega⟩
  unfold query
  dsimp only
  by_cases h : (y 2).1 % 256 < 128
  · rw [dif_pos h, if_pos h, if_pos h, if_pos h, dif_pos h, mul_one, mul_zero, mul_zero, add_zero]
  · rw [dif_neg h, if_neg h, if_neg h, if_neg h, dif_neg h, scale_sum]
    exact congrArg₂ (· + ·) (by rw [mul_comm scale, mul_assoc]) (by rw [mul_comm scale, mul_assoc])

/-- The keys' array. -/
theorem array_K : (dats m 0 c).arrAt 8 cfg0.N = resultK (zA m c) (gkA m c) := by
  refine (dats m 0 c).arrAt_eq_of_covers 8 _ (by decide +kernel) fun t hf y => ?_
  blk_simp
  rw [after0_8]
  have ht : t.1 < 66 := t.isLt
  have hy1 : (y 1).1 < 256 := (y 1).isLt
  have hy2 : (y 2).1 < 256 := (y 2).isLt
  obtain ⟨e0, e1, e2⟩ := index8 t
  have e : resultK (zA m c) (gkA m c) ((win0_8.blk t).view.emb y)
      = resultK (zA m c) (gkA m c) (ix3 ⟨t.1 / 33, by omega⟩ ⟨t.1 % 33 * 256 + (y 1).1, by omega⟩ (y 2)) := by
    blk_ext [e0, e1, e2]
  refine (block_K _ _ _ _ _ _ _ y).trans (Eq.trans ?_ e.symm)
  have h1 : t.1 / 33 < 2 := by omega
  have h2 : t.1 % 33 * 256 + (y 1).1 < 8448 := by omega
  show _ = key (zA m c) (gkA m c) ⟨t.1 / 33, h1⟩ ⟨t.1 % 33 * 256 + (y 1).1, h2⟩ (y 2)
  unfold key
  by_cases h : (y 2).1 < 128
  · rw [dif_pos h, dif_pos h]
    exact key_block m c t (y 1) _ h1 h2
  · rw [dif_neg h, dif_neg h]
    by_cases h' : (y 2).1 < 192
    · rw [if_pos h']
      refine congrArg₂ (· * ·) ?_ ?_
      · refine (rows_block m c t (y 1) _ h1 h2).trans ((rows_entry m c _ _ _ (by simp only [Fin.val_mk]; omega)).trans ?_)
        exact congrArg (fun j => zA m c (ix3 _ _ j)) (Fin.ext (by simp only [rot]; omega))
      · refine (ck_block m c t (y 1) _ h2).trans (Eq.trans ?_ (ck_left m c _ (rot (y 2).1)))
        exact congrArg (fun j => V m c main_v73 (ix2 _ j)) (Fin.ext (by simp only [rot]; omega))
    · rw [if_neg h']
      refine congrArg₂ (· * ·) ?_ ?_
      · refine (rows_block m c t (y 1) _ h1 h2).trans (Eq.trans ?_ (partner_entry m c _ _ (rot (y 2).1)))
        exact congrArg (fun j => V m c main_v8 (ix3 _ _ j)) (Fin.ext (by simp only [rot]; omega))
      · refine (ck_block m c t (y 1) _ h2).trans (Eq.trans ?_ (ck_right m c _ (rot (y 2).1)))
        exact congrArg (fun j => V m c main_v73 (ix2 _ j)) (Fin.ext (by simp only [rot]; omega))

/-- The values' array. -/
theorem array_V : (dats m 0 c).arrAt 9 cfg0.N = resultV (zA m c) (gkA m c) := by
  refine (dats m 0 c).arrAt_eq_of_covers 9 _ (by decide +kernel) fun t hf y => ?_
  blk_simp
  rw [after0_9]
  have ht : t.1 < 66 := t.isLt
  have hy1 : (y 1).1 < 256 := (y 1).isLt
  have hy2 : (y 2).1 < 256 := (y 2).isLt
  obtain ⟨e0, e1, e2⟩ := index9 t
  have e : resultV (zA m c) (gkA m c) ((win0_9.blk t).view.emb y)
      = resultV (zA m c) (gkA m c) (ix3 ⟨t.1 / 33, by omega⟩ ⟨t.1 % 33 * 256 + (y 1).1, by omega⟩ (y 2)) := by
    blk_ext [e0, e1, e2]
  refine (block_V _ _ _ _ _ _ _ y).trans (Eq.trans ?_ e.symm)
  have h1 : t.1 / 33 < 2 := by omega
  have h2 : t.1 % 33 * 256 + (y 1).1 < 8448 := by omega
  show _ = value (zA m c) (gkA m c) ⟨t.1 / 33, h1⟩ ⟨t.1 % 33 * 256 + (y 1).1, h2⟩ (y 2)
  unfold value
  by_cases h : (y 2).1 < 128
  · rw [dif_pos h, dif_pos h]
    exact key_block m c t (y 1) _ h1 h2
  · rw [dif_neg h, dif_neg h]

end Cert.HeadsIdeal.Hd

end
-- ==== Proof.HeadsParts.lean ====
/-
  The parts of the attention's inputs' reference at one entry: the normalised rows, the heads' columns and rotary columns,
  the angles of a latent's grid row and column, and the rotary columns times their cosines and signed sines.
-/
module

public import proofs.«01_k».proof.Proof.Heads
public import proofs.«01_k».proof.Proof.Gen.HeadsReferenceIdeal.Run
public import proofs.«01_k».proof.HeadsReferenceIdeal
public import Idealize.ShloMosaic.Lib.Pointwise

@[expose] public section

set_option maxRecDepth 16384

noncomputable section

namespace Cert.HeadsReferenceIdeal.Hd

open Cert.HeadsReferenceIdeal Cert.HeadsReferenceIdeal.Gen Idealize.ShloMosaic Cert.Project Cert.Heads
open Cert.HeadsReferenceIdeal.Facts

variable (z : FVec Ideal S2x8448x448 .f32) (gq : FVec Ideal S256 .f32) (gk : FVec Ideal S128 .f32)
  (wn : FVec Ideal S8x256x128 .f32) (wu : FVec Ideal S256x1536 .f32)

/-- The normalised low-rank queries, and the normalised keys. -/
def cn : FVec Ideal S2x8448x256 .f32 :=
  mulf (mulf (extractStridedSlice S2x8448x256 ![0, 0, 0] z slices_S2x8448x448_S2x8448x256_0_0_0) (broadcastInDim S2x8448x256 ![0, 1, 2] bcast_S2x8448x1_S2x8448x256_0_1_2 (Host.rsqrt (addf (Host.divf (broadcastInDim S2x8448x1 ![0, 1] bcast_S2x8448_S2x8448x1_0_1 (Host.reduceAdd (mulf (extractStridedSlice S2x8448x256 ![0, 0, 0] z slices_S2x8448x448_S2x8448x256_0_0_0) (extractStridedSlice S2x8448x256 ![0, 0, 0] z slices_S2x8448x448_S2x8448x256_0_0_0)) (constant S_ .f32 0x00000000#32) reducesTo_S2x8448x256_S2x8448_d2 h_S_)) (broadcastInDim S2x8448x1 ![] bcast_S_S2x8448x1 (constant S_ .f32 0x43800000#32))) (broadcastInDim S2x8448x1 ![] bcast_S_S2x8448x1 (constant S_ .f32 0x358637BD#32)))))) (broadcastInDim S2x8448x256 ![0, 1, 2] bcast_S1x1x256_S2x8448x256_0_1_2 (broadcastInDim S1x1x256 ![2] bcast_S256_S1x1x256_2 gq))

def vn : FVec Ideal S2x8448x128 .f32 :=
  mulf (mulf (extractStridedSlice S2x8448x128 ![0, 0, 256] z slices_S2x8448x448_S2x8448x128_0_0_256) (broadcastInDim S2x8448x128 ![0, 1, 2] bcast_S2x8448x1_S2x8448x128_0_1_2 (Host.rsqrt (addf (Host.divf (broadcastInDim S2x8448x1 ![0, 1] bcast_S2x8448_S2x8448x1_0_1 (Host.reduceAdd (mulf (extractStridedSlice S2x8448x128 ![0, 0, 256] z slices_S2x8448x448_S2x8448x128_0_0_256) (extractStridedSlice S2x8448x128 ![0, 0, 256] z slices_S2x8448x448_S2x8448x128_0_0_256)) (constant S_ .f32 0x00000000#32) reducesTo_S2x8448x128_S2x8448_d2 h_S_)) (broadcastInDim S2x8448x1 ![] bcast_S_S2x8448x1 (constant S_ .f32 0x43000000#32))) (broadcastInDim S2x8448x1 ![] bcast_S_S2x8448x1 (constant S_ .f32 0x358637BD#32)))))) (broadcastInDim S2x8448x128 ![0, 1, 2] bcast_S1x1x128_S2x8448x128_0_1_2 (broadcastInDim S1x1x128 ![2] bcast_S128_S1x1x128_2 gk))

/-- The angles of the grid's rows and columns. -/
def ang : FVec Ideal S8192x2x16 .f32 :=
  concatenate S8192x2x16 1 [⟨S8192x1x16, (broadcastInDim S8192x1x16 ![0, 2] bcast_S8192x16_S8192x1x16_0_2 (mulf (broadcastInDim S8192x16 ![0, 1] bcast_S8192x1_S8192x16_0_1 (broadcastInDim S8192x1 ![0] bcast_S8192_S8192x1_0 (shapeCast _ (broadcastInDim S128x64 ![0] bcast_S128_S128x64_0 (sitofp .f32 (iotaInDim S128 32 0))) shapeCasts_S128x64_S8192))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))))⟩, ⟨S8192x1x16, (broadcastInDim S8192x1x16 ![0, 2] bcast_S8192x16_S8192x1x16_0_2 (mulf (broadcastInDim S8192x16 ![0, 1] bcast_S8192x1_S8192x16_0_1 (broadcastInDim S8192x1 ![0] bcast_S8192_S8192x1_0 (shapeCast _ (broadcastInDim S128x64 ![0, 1] bcast_S1x64_S128x64_0_1 (shapeCast _ (sitofp .f32 (iotaInDim S64 32 0)) shapeCasts_S64_S1x64)) shapeCasts_S128x64_S8192))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))))⟩] concatenates_S8192x1x16_S8192x1x16_S8192x2x16_d1

/-- The heads' columns, and their rotary columns. -/
def nopeR : FVec Ideal S2x8448x8x128 .f32 :=
  Host.dotGeneral dot_S2x8448x256_S8x256x128_S2x8448x8x128_2_1_01_02_n_n none (cn z gq) wn

def peR : FVec Ideal S2x8448x8x64 .f32 :=
  Host.dotGeneral dot_S2x8448x256_S256x8x64_S2x8448x8x64_2_0_01_12_n_n none (cn z gq) (extractStridedSlice S256x8x64 ![0, 0, 128] (shapeCast _ wu shapeCasts_S256x1536_S256x8x192) slices_S256x8x192_S256x8x64_0_0_128)

/-- A latent's rotary columns times the cosines, and their partners times the signed sines. -/
def turnC (p : FVec Ideal S2x8448x8x64 .f32) : FVec Ideal S2x8192x8x64 .f32 :=
  shapeCast _ (concatenate S2x8192x8x2x2x16 4 [⟨S2x8192x8x2x1x16, (broadcastInDim S2x8192x8x2x1x16 ![0, 1, 2, 3, 5] bcast_S2x8192x8x2x16_S2x8192x8x2x1x16_0_1_2_3_5 (mulf (shapeCast _ (extractStridedSlice S2x8192x8x2x1x16 ![0, 0, 0, 0, 0, 0] (shapeCast _ (extractStridedSlice S2x8192x8x64 ![0, 256, 0, 0] p slices_S2x8448x8x64_S2x8192x8x64_0_256_0_0) shapeCasts_S2x8192x8x64_S2x8192x8x2x2x16) slices_S2x8192x8x2x2x16_S2x8192x8x2x1x16_0_0_0_0_0_0) shapeCasts_S2x8192x8x2x1x16_S2x8192x8x2x16) (broadcastInDim S2x8192x8x2x16 ![0, 1, 2, 3, 4] bcast_S1x8192x1x2x16_S2x8192x8x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 (Host.cos ang))))))⟩, ⟨S2x8192x8x2x1x16, (broadcastInDim S2x8192x8x2x1x16 ![0, 1, 2, 3, 5] bcast_S2x8192x8x2x16_S2x8192x8x2x1x16_0_1_2_3_5 (mulf (shapeCast _ (extractStridedSlice S2x8192x8x2x1x16 ![0, 0, 0, 0, 1, 0] (shapeCast _ (extractStridedSlice S2x8192x8x64 ![0, 256, 0, 0] p slices_S2x8448x8x64_S2x8192x8x64_0_256_0_0) shapeCasts_S2x8192x8x64_S2x8192x8x2x2x16) slices_S2x8192x8x2x2x16_S2x8192x8x2x1x16_0_0_0_0_1_0) shapeCasts_S2x8192x8x2x1x16_S2x8192x8x2x16) (broadcastInDim S2x8192x8x2x16 ![0, 1, 2, 3, 4] bcast_S1x8192x1x2x16_S2x8192x8x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 (Host.cos ang))))))⟩] concatenates_S2x8192x8x2x1x16_S2x8192x8x2x1x16_S2x8192x8x2x2x16_d4) shapeCasts_S2x8192x8x2x2x16_S2x8192x8x64

def turnS (p : FVec Ideal S2x8448x8x64 .f32) : FVec Ideal S2x8192x8x64 .f32 :=
  shapeCast _ (concatenate S2x8192x8x2x2x16 4 [⟨S2x8192x8x2x1x16, (broadcastInDim S2x8192x8x2x1x16 ![0, 1, 2, 3, 5] bcast_S2x8192x8x2x16_S2x8192x8x2x1x16_0_1_2_3_5 (Host.negf (mulf (shapeCast _ (extractStridedSlice S2x8192x8x2x1x16 ![0, 0, 0, 0, 1, 0] (shapeCast _ (extractStridedSlice S2x8192x8x64 ![0, 256, 0, 0] p slices_S2x8448x8x64_S2x8192x8x64_0_256_0_0) shapeCasts_S2x8192x8x64_S2x8192x8x2x2x16) slices_S2x8192x8x2x2x16_S2x8192x8x2x1x16_0_0_0_0_1_0) shapeCasts_S2x8192x8x2x1x16_S2x8192x8x2x16) (broadcastInDim S2x8192x8x2x16 ![0, 1, 2, 3, 4] bcast_S1x8192x1x2x16_S2x8192x8x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 (Host.sin ang)))))))⟩, ⟨S2x8192x8x2x1x16, (broadcastInDim S2x8192x8x2x1x16 ![0, 1, 2, 3, 5] bcast_S2x8192x8x2x16_S2x8192x8x2x1x16_0_1_2_3_5 (mulf (shapeCast _ (extractStridedSlice S2x8192x8x2x1x16 ![0, 0, 0, 0, 0, 0] (shapeCast _ (extractStridedSlice S2x8192x8x64 ![0, 256, 0, 0] p slices_S2x8448x8x64_S2x8192x8x64_0_256_0_0) shapeCasts_S2x8192x8x64_S2x8192x8x2x2x16) slices_S2x8192x8x2x2x16_S2x8192x8x2x1x16_0_0_0_0_0_0) shapeCasts_S2x8192x8x2x1x16_S2x8192x8x2x16) (broadcastInDim S2x8192x8x2x16 ![0, 1, 2, 3, 4] bcast_S1x8192x1x2x16_S2x8192x8x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 (Host.sin ang))))))⟩] concatenates_S2x8192x8x2x1x16_S2x8192x8x2x1x16_S2x8192x8x2x2x16_d4) shapeCasts_S2x8192x8x2x2x16_S2x8192x8x64

/-- The keys' rotary columns, and the same two products of them. -/
def kpe : FVec Ideal S2x8448x64 .f32 :=
  extractStridedSlice S2x8448x64 ![0, 0, 384] z slices_S2x8448x448_S2x8448x64_0_0_384

def cosK (k : FVec Ideal S2x8448x64 .f32) : FVec Ideal S2x8192x64 .f32 :=
  shapeCast _ (concatenate S2x8192x2x2x16 3 [⟨S2x8192x2x1x16, (broadcastInDim S2x8192x2x1x16 ![0, 1, 2, 4] bcast_S2x8192x2x16_S2x8192x2x1x16_0_1_2_4 (mulf (shapeCast _ (extractStridedSlice S2x8192x2x1x16 ![0, 0, 0, 0, 0] (shapeCast _ (extractStridedSlice S2x8192x64 ![0, 256, 0] k slices_S2x8448x64_S2x8192x64_0_256_0) shapeCasts_S2x8192x64_S2x8192x2x2x16) slices_S2x8192x2x2x16_S2x8192x2x1x16_0_0_0_0_0) shapeCasts_S2x8192x2x1x16_S2x8192x2x16) (broadcastInDim S2x8192x2x16 ![0, 1, 2, 3] bcast_S1x8192x2x16_S2x8192x2x16_0_1_2_3 (broadcastInDim S1x8192x2x16 ![1, 2, 3] bcast_S8192x2x16_S1x8192x2x16_1_2_3 (Host.cos ang)))))⟩, ⟨S2x8192x2x1x16, (broadcastInDim S2x8192x2x1x16 ![0, 1, 2, 4] bcast_S2x8192x2x16_S2x8192x2x1x16_0_1_2_4 (mulf (shapeCast _ (extractStridedSlice S2x8192x2x1x16 ![0, 0, 0, 1, 0] (shapeCast _ (extractStridedSlice S2x8192x64 ![0, 256, 0] k slices_S2x8448x64_S2x8192x64_0_256_0) shapeCasts_S2x8192x64_S2x8192x2x2x16) slices_S2x8192x2x2x16_S2x8192x2x1x16_0_0_0_1_0) shapeCasts_S2x8192x2x1x16_S2x8192x2x16) (broadcastInDim S2x8192x2x16 ![0, 1, 2, 3] bcast_S1x8192x2x16_S2x8192x2x16_0_1_2_3 (broadcastInDim S1x8192x2x16 ![1, 2, 3] bcast_S8192x2x16_S1x8192x2x16_1_2_3 (Host.cos ang)))))⟩] concatenates_S2x8192x2x1x16_S2x8192x2x1x16_S2x8192x2x2x16_d3) shapeCasts_S2x8192x2x2x16_S2x8192x64

def sinK (k : FVec Ideal S2x8448x64 .f32) : FVec Ideal S2x8192x64 .f32 :=
  shapeCast _ (concatenate S2x8192x2x2x16 3 [⟨S2x8192x2x1x16, (broadcastInDim S2x8192x2x1x16 ![0, 1, 2, 4] bcast_S2x8192x2x16_S2x8192x2x1x16_0_1_2_4 (Host.negf (mulf (shapeCast _ (extractStridedSlice S2x8192x2x1x16 ![0, 0, 0, 1, 0] (shapeCast _ (extractStridedSlice S2x8192x64 ![0, 256, 0] k slices_S2x8448x64_S2x8192x64_0_256_0) shapeCasts_S2x8192x64_S2x8192x2x2x16) slices_S2x8192x2x2x16_S2x8192x2x1x16_0_0_0_1_0) shapeCasts_S2x8192x2x1x16_S2x8192x2x16) (broadcastInDim S2x8192x2x16 ![0, 1, 2, 3] bcast_S1x8192x2x16_S2x8192x2x16_0_1_2_3 (broadcastInDim S1x8192x2x16 ![1, 2, 3] bcast_S8192x2x16_S1x8192x2x16_1_2_3 (Host.sin ang))))))⟩, ⟨S2x8192x2x1x16, (broadcastInDim S2x8192x2x1x16 ![0, 1, 2, 4] bcast_S2x8192x2x16_S2x8192x2x1x16_0_1_2_4 (mulf (shapeCast _ (extractStridedSlice S2x8192x2x1x16 ![0, 0, 0, 0, 0] (shapeCast _ (extractStridedSlice S2x8192x64 ![0, 256, 0] k slices_S2x8448x64_S2x8192x64_0_256_0) shapeCasts_S2x8192x64_S2x8192x2x2x16) slices_S2x8192x2x2x16_S2x8192x2x1x16_0_0_0_0_0) shapeCasts_S2x8192x2x1x16_S2x8192x2x16) (broadcastInDim S2x8192x2x16 ![0, 1, 2, 3] bcast_S1x8192x2x16_S2x8192x2x16_0_1_2_3 (broadcastInDim S1x8192x2x16 ![1, 2, 3] bcast_S8192x2x16_S1x8192x2x16_1_2_3 (Host.sin ang)))))⟩] concatenates_S2x8192x2x1x16_S2x8192x2x1x16_S2x8192x2x2x16_d3) shapeCasts_S2x8192x2x2x16_S2x8192x64

theorem cn_at (b : Fin 2) (t : Fin 8448) (k : Fin 256) : cn z gq (ix3 b t k) = lowQ z gq b t k := by
  unfold lowQ normQ
  pointwise [cn]

theorem vn_at (b : Fin 2) (t : Fin 8448) (k : Fin 128) : vn z gk (ix3 b t k) = lowK z gk b t k := by
  unfold lowK normK
  pointwise [vn]

theorem nopeR_at (b : Fin 2) (t : Fin 8448) (h : Fin 8) (j : Fin 128) : nopeR z gq wn (ix4 b t h j) = nope z gq wn b t h j := by
  have e : nopeR z gq wn (ix4 b t h j) = ∑ k : Fin 256, cn z gq (ix3 b t k) * wn (ix3 h k j) := by
    pointwise [nopeR]
  rw [e]
  exact Finset.sum_congr rfl fun k _ => congrArg (· * _) (cn_at z gq b t k)

theorem peR_at (b : Fin 2) (t : Fin 8448) (h : Fin 8) (j : Fin 64) : peR z gq wu (ix4 b t h j) = pe z gq wu b t h j := by
  pointwise [peR]
  refine Finset.sum_congr rfl fun k _ => congrArg₂ (· * ·) (cn_at z gq b t k) ?_
  exact congrArg (fun j => wu (ix2 k j)) (Fin.ext (by simp only [Fin.val_mk]; omega))

theorem word_eq : ∀ a : Fin 128, (BitVec.ofNat 32 a.1).toInt = a.1 := by
  decide +kernel

/-- A small count as a float. -/
theorem count_at (a : Fin 128) :
    (FloatOps.sitofp (F := Ideal) FTy.f32 (BitVec.ofNat 32 a.1) : EReal) = (((a.1 : ℤ) : ℝ) : EReal) :=
  congrArg (fun i : ℤ => ((i : ℝ) : EReal)) (word_eq a)

theorem ang_at (n : Fin 8192) (j : Fin 64) : ang (ix3 n ⟨j.1 / 32, by omega⟩ ⟨j.1 % 16, by omega⟩) = angle n j := by
  unfold angle freq
  pointwise [ang]
  have f := congrArg (fun e : EReal => Ideal.pow (Ideal.ofBits FTy.f32 1176256512#32) (Ideal.div (-e) (Ideal.ofBits FTy.f32 1098907648#32)))
    (count_at ⟨j.1 % 16, by omega⟩)
  by_cases h : j.1 < 32
  · refine (dif_pos (by omega)).trans ?_
    rw [if_pos h]
    exact congrArg₂ (· * ·) (count_at ⟨n.1 / 64, by omega⟩) f
  · refine (dif_neg (by omega)).trans ?_
    rw [if_neg h]
    exact congrArg₂ (· * ·) (count_at ⟨n.1 % 64, by omega⟩) f

theorem turnC_at (p : FVec Ideal S2x8448x8x64 .f32) (b : Fin 2) (n : Fin 8192) (h : Fin 8) (j : Fin 64) :
    turnC p (ix4 b n h j) = p (ix4 b ⟨256 + n.1, by omega⟩ h j) * Ideal.cos (angle n j) := by
  have a := congrArg Ideal.cos (ang_at n j)
  have e : ∀ k : Fin 64, k.1 = j.1 → p (ix4 b ⟨256 + n.1, by omega⟩ h k) = p (ix4 b ⟨256 + n.1, by omega⟩ h j) :=
    fun k hk => congrArg (fun k => p (ix4 b _ h k)) (Fin.ext hk)
  pointwise [turnC]
  by_cases h' : j.1 / 16 % 2 < 1
  · exact (dif_pos h').trans (congrArg₂ (· * ·) (e _ (by simp only [Fin.val_mk]; omega)) a)
  · exact (dif_neg h').trans (congrArg₂ (· * ·) (e _ (by simp only [Fin.val_mk]; omega)) a)

/-- A product with a signed factor. -/
theorem times_neg {j : ℕ} (h : j < 16) (x s : EReal) : x * (if j < 16 then -s else s) = -(x * s) := by
  rw [if_pos h, mul_neg]

theorem times_pos {j : ℕ} (h : ¬j < 16) (x s : EReal) : x * (if j < 16 then -s else s) = x * s := by
  rw [if_neg h]

theorem turnS_at (p : FVec Ideal S2x8448x8x64 .f32) (b : Fin 2) (n : Fin 8192) (h : Fin 8) (j : Fin 64) :
    turnS p (ix4 b n h j) = p (ix4 b ⟨256 + n.1, by omega⟩ h (partner j)) * (if j.1 % 32 < 16 then -Ideal.sin (angle n j) else Ideal.sin (angle n j)) := by
  have a := congrArg Ideal.sin (ang_at n j)
  have e : ∀ k : Fin 64, k.1 = (partner j).1 → p (ix4 b ⟨256 + n.1, by omega⟩ h k) = p (ix4 b ⟨256 + n.1, by omega⟩ h (partner j)) :=
    fun k hk => congrArg (fun k => p (ix4 b _ h k)) (Fin.ext hk)
  pointwise [turnS]
  by_cases h' : j.1 / 16 % 2 < 1
  · refine (dif_pos h').trans (Eq.trans ?_ (times_neg (show j.1 % 32 < 16 by omega) _ _).symm)
    exact congrArg Neg.neg (congrArg₂ (· * ·) (e _ (by simp only [partner]; omega)) a)
  · refine (dif_neg h').trans (Eq.trans ?_ (times_pos (show ¬j.1 % 32 < 16 by omega) _ _).symm)
    exact congrArg₂ (· * ·) (e _ (by simp only [partner]; omega)) a

theorem cosK_at (k : FVec Ideal S2x8448x64 .f32) (b : Fin 2) (n : Fin 8192) (j : Fin 64) :
    cosK k (ix3 b n j) = k (ix3 b ⟨256 + n.1, by omega⟩ j) * Ideal.cos (angle n j) := by
  have a := congrArg Ideal.cos (ang_at n j)
  have e : ∀ l : Fin 64, l.1 = j.1 → k (ix3 b ⟨256 + n.1, by omega⟩ l) = k (ix3 b ⟨256 + n.1, by omega⟩ j) :=
    fun l hl => congrArg (fun l => k (ix3 b _ l)) (Fin.ext hl)
  pointwise [cosK]
  by_cases h' : j.1 / 16 % 2 < 1
  · exact (dif_pos h').trans (congrArg₂ (· * ·) (e _ (by simp only [Fin.val_mk]; omega)) a)
  · exact (dif_neg h').trans (congrArg₂ (· * ·) (e _ (by simp only [Fin.val_mk]; omega)) a)

theorem sinK_at (k : FVec Ideal S2x8448x64 .f32) (b : Fin 2) (n : Fin 8192) (j : Fin 64) :
    sinK k (ix3 b n j) = k (ix3 b ⟨256 + n.1, by omega⟩ (partner j)) * (if j.1 % 32 < 16 then -Ideal.sin (angle n j) else Ideal.sin (angle n j)) := by
  have a := congrArg Ideal.sin (ang_at n j)
  have e : ∀ l : Fin 64, l.1 = (partner j).1 → k (ix3 b ⟨256 + n.1, by omega⟩ l) = k (ix3 b ⟨256 + n.1, by omega⟩ (partner j)) :=
    fun l hl => congrArg (fun l => k (ix3 b _ l)) (Fin.ext hl)
  pointwise [sinK]
  by_cases h' : j.1 / 16 % 2 < 1
  · refine (dif_pos h').trans (Eq.trans ?_ (times_neg (show j.1 % 32 < 16 by omega) _ _).symm)
    exact congrArg Neg.neg (congrArg₂ (· * ·) (e _ (by simp only [partner]; omega)) a)
  · refine (dif_neg h').trans (Eq.trans ?_ (times_pos (show ¬j.1 % 32 < 16 by omega) _ _).symm)
    exact congrArg₂ (· * ·) (e _ (by simp only [partner]; omega)) a

end Cert.HeadsReferenceIdeal.Hd

end
-- ==== Proof.HeadsReference.lean ====
/-
  The reference of the attention's inputs at one entry: the normalised low-rank queries against each head's weights, a
  latent's rotary columns turned by the angles of its grid row and column, the keys and the values beside them.
-/
module

public import proofs.«01_k».proof.Proof.HeadsParts
public import proofs.«01_k».proof.Proof.Gen.HeadsReferenceIdeal.Run
public import proofs.«01_k».proof.HeadsReferenceIdeal
public import Idealize.ShloMosaic.Lib.Pointwise

@[expose] public section

set_option maxRecDepth 16384

noncomputable section

namespace Cert.HeadsReferenceIdeal.Hd

open Cert.HeadsReferenceIdeal Cert.HeadsReferenceIdeal.Gen Idealize.ShloMosaic Cert.Project Cert.Heads
open Cert.HeadsReferenceIdeal.Facts

variable (z : FVec Ideal S2x8448x448 .f32) (gq : FVec Ideal S256 .f32) (gk : FVec Ideal S128 .f32)
  (wn : FVec Ideal S8x256x128 .f32) (wu : FVec Ideal S256x1536 .f32)

/-- The rotary queries: the context as it is, the latents turned. -/
def rotQ (p : FVec Ideal S2x8448x8x64 .f32) : FVec Ideal S2x8448x8x64 .f32 :=
  concatenate S2x8448x8x64 1 [⟨S2x256x8x64, (extractStridedSlice S2x256x8x64 ![0, 0, 0, 0] p slices_S2x8448x8x64_S2x256x8x64_0_0_0_0)⟩, ⟨S2x8192x8x64, (addf (turnC p) (turnS p))⟩] concatenates_S2x256x8x64_S2x8192x8x64_S2x8448x8x64_d1

/-- The three results. -/
def outQ : FVec Ideal S2x8448x2048 .bf16 :=
  truncf .bf16 (shapeCast _ (mulf ((concatenate S2x8448x8x256 3 [⟨S2x8448x8x128, ((nopeR z gq wn) : (⟨S2x8448x8x128, .f32⟩ : BufTy).Contents (Elt Ideal))⟩, ⟨S2x8448x8x64, ((rotQ (peR z gq wu)) : (⟨S2x8448x8x64, .f32⟩ : BufTy).Contents (Elt Ideal))⟩, ⟨S2x8448x8x64, ((rotQ (peR z gq wu)) : (⟨S2x8448x8x64, .f32⟩ : BufTy).Contents (Elt Ideal))⟩] concatenates_S2x8448x8x128_S2x8448x8x64_S2x8448x8x64_S2x8448x8x256_d3 : (⟨S2x8448x8x256, .f32⟩ : BufTy).Contents (Elt Ideal))) (broadcastInDim S2x8448x8x256 ![] bcast_S_S2x8448x8x256 (constant (F := Ideal) S_ .f32 0x3DD53B95#32))) shapeCasts_S2x8448x8x256_S2x8448x2048) bitsLt_bf16_f32

def outK : FVec Ideal S2x8448x256 .bf16 :=
  truncf .bf16 ((concatenate S2x8448x256 2 [⟨S2x8448x128, ((vn z gk) : (⟨S2x8448x128, .f32⟩ : BufTy).Contents (Elt Ideal))⟩, ⟨S2x8448x64, ((concatenate S2x8448x64 1 [⟨S2x256x64, (extractStridedSlice S2x256x64 ![0, 0, 0] (kpe z) slices_S2x8448x64_S2x256x64_0_0_0)⟩, ⟨S2x8192x64, (cosK (kpe z))⟩] concatenates_S2x256x64_S2x8192x64_S2x8448x64_d1) : (⟨S2x8448x64, .f32⟩ : BufTy).Contents (Elt Ideal))⟩, ⟨S2x8448x64, ((concatenate S2x8448x64 1 [⟨S2x256x64, (broadcastInDim S2x256x64 ![] bcast_S_S2x256x64 (constant (F := Ideal) S_ .f32 0x00000000#32))⟩, ⟨S2x8192x64, (sinK (kpe z))⟩] concatenates_S2x256x64_S2x8192x64_S2x8448x64_d1) : (⟨S2x8448x64, .f32⟩ : BufTy).Contents (Elt Ideal))⟩] concatenates_S2x8448x128_S2x8448x64_S2x8448x64_S2x8448x256_d2 : (⟨S2x8448x256, .f32⟩ : BufTy).Contents (Elt Ideal))) bitsLt_bf16_f32

def outV : FVec Ideal S2x8448x256 .bf16 :=
  truncf .bf16 ((concatenate S2x8448x256 2 [⟨S2x8448x128, ((vn z gk) : (⟨S2x8448x128, .f32⟩ : BufTy).Contents (Elt Ideal))⟩, ⟨S2x8448x1, ((broadcastInDim S2x8448x1 ![] bcast_S_S2x8448x1 (constant (F := Ideal) S_ .f32 0x3F800000#32)) : (⟨S2x8448x1, .f32⟩ : BufTy).Contents (Elt Ideal))⟩, ⟨S2x8448x127, ((broadcastInDim S2x8448x127 ![] bcast_S_S2x8448x127 (constant (F := Ideal) S_ .f32 0x00000000#32)) : (⟨S2x8448x127, .f32⟩ : BufTy).Contents (Elt Ideal))⟩] concatenates_S2x8448x128_S2x8448x1_S2x8448x127_S2x8448x256_d2 : (⟨S2x8448x256, .f32⟩ : BufTy).Contents (Elt Ideal))) bitsLt_bf16_f32

/-- Context above latents at one entry. -/
theorem seg4_at (u : FVec Ideal S2x256x8x64 .f32) (w : FVec Ideal S2x8192x8x64 .f32) (b : Fin 2) (t : Fin 8448) (h : Fin 8) (j : Fin 64) :
    concatenate S2x8448x8x64 1 [⟨S2x256x8x64, u⟩, ⟨S2x8192x8x64, w⟩] concatenates_S2x256x8x64_S2x8192x8x64_S2x8448x8x64_d1 (ix4 b t h j)
      = if hh : t.1 < 256 then u (ix4 b ⟨t.1, hh⟩ h j) else w (ix4 b ⟨t.1 - 256, by omega⟩ h j) := by
  pointwise

theorem seg3_at (u : FVec Ideal S2x256x64 .f32) (w : FVec Ideal S2x8192x64 .f32) (b : Fin 2) (t : Fin 8448) (j : Fin 64) :
    concatenate S2x8448x64 1 [⟨S2x256x64, u⟩, ⟨S2x8192x64, w⟩] concatenates_S2x256x64_S2x8192x64_S2x8448x64_d1 (ix3 b t j)
      = if hh : t.1 < 256 then u (ix3 b ⟨t.1, hh⟩ j) else w (ix3 b ⟨t.1 - 256, by omega⟩ j) := by
  pointwise

/-- The columns of the keys and of the values side by side. -/
theorem keys_at (v : FVec Ideal S2x8448x128 .f32) (A B : FVec Ideal S2x8448x64 .f32) (b : Fin 2) (t : Fin 8448) (j : Fin 256) :
    concatenate S2x8448x256 2 [⟨S2x8448x128, v⟩, ⟨S2x8448x64, A⟩, ⟨S2x8448x64, B⟩] concatenates_S2x8448x128_S2x8448x64_S2x8448x64_S2x8448x256_d2 (ix3 b t j)
      = if hh : j.1 < 128 then v (ix3 b t ⟨j.1, hh⟩) else if j.1 < 192 then A (ix3 b t (rot j.1)) else B (ix3 b t (rot j.1)) := by
  pointwise
  by_cases h : j.1 < 128
  · refine (dif_pos h).trans (Eq.trans ?_ (dif_pos h).symm)
    rfl
  refine (dif_neg h).trans (Eq.trans ?_ (dif_neg h).symm)
  by_cases h' : j.1 < 192
  · rw [if_pos h']
    exact (dif_pos (by omega)).trans (congrArg (fun l => A (ix3 b t l)) (Fin.ext (by simp only [rot]; omega)))
  · rw [if_neg h']
    exact (dif_neg (by omega)).trans (congrArg (fun l => B (ix3 b t l)) (Fin.ext (by simp only [rot]; omega)))

theorem values_at (v : FVec Ideal S2x8448x128 .f32) (A : FVec Ideal S2x8448x1 .f32) (B : FVec Ideal S2x8448x127 .f32) (b : Fin 2) (t : Fin 8448) (j : Fin 256) :
    concatenate S2x8448x256 2 [⟨S2x8448x128, v⟩, ⟨S2x8448x1, A⟩, ⟨S2x8448x127, B⟩] concatenates_S2x8448x128_S2x8448x1_S2x8448x127_S2x8448x256_d2 (ix3 b t j)
      = if hh : j.1 < 128 then v (ix3 b t ⟨j.1, hh⟩) else if h : j.1 = 128 then A (ix3 b t 0) else B (ix3 b t ⟨j.1 - 129, by omega⟩) := by
  pointwise
  by_cases h : j.1 < 128
  · refine (dif_pos h).trans (Eq.trans ?_ (dif_pos h).symm)
    rfl
  refine (dif_neg h).trans (Eq.trans ?_ (dif_neg h).symm)
  by_cases h' : j.1 = 128
  · refine Eq.trans ?_ (dif_pos h').symm
    exact (dif_pos (by omega)).trans (congrArg (fun l => A (ix3 b t l)) (Fin.ext (by simp only [Fin.val_mk]; omega)))
  · refine Eq.trans ?_ (dif_neg h').symm
    exact (dif_neg (by omega)).trans (congrArg (fun l => B (ix3 b t l)) (Fin.ext (by simp only [Fin.val_mk]; omega)))

/-- Scaled columns of each head laid side by side, at one entry. -/
theorem queries_at (A : FVec Ideal S2x8448x8x128 .f32) (B : FVec Ideal S2x8448x8x64 .f32) (b : Fin 2) (t : Fin 8448) (h : Fin 8) (j : Fin 256) :
    concatenate S2x8448x8x256 3 [⟨S2x8448x8x128, A⟩, ⟨S2x8448x8x64, B⟩, ⟨S2x8448x8x64, B⟩] concatenates_S2x8448x8x128_S2x8448x8x64_S2x8448x8x64_S2x8448x8x256_d3 (ix4 b t h j)
      = if hj : j.1 < 128 then A (ix4 b t h ⟨j.1, hj⟩) else B (ix4 b t h (rot j.1)) := by
  pointwise
  by_cases hj : j.1 < 128
  · refine (dif_pos hj).trans (Eq.trans ?_ (dif_pos hj).symm)
    rfl
  refine (dif_neg hj).trans (Eq.trans ?_ (dif_neg hj).symm)
  split
  · exact congrArg (fun l => B (ix4 b t h l)) (Fin.ext (by simp only [rot]; omega))
  · exact congrArg (fun l => B (ix4 b t h l)) (Fin.ext (by simp only [rot]; omega))

theorem flat_at (T : FVec Ideal S2x8448x8x256 .f32) (b : Fin 2) (t : Fin 8448) (j : Fin 2048) :
    truncf .bf16 (shapeCast S2x8448x2048 T shapeCasts_S2x8448x8x256_S2x8448x2048) bitsLt_bf16_f32 (ix3 b t j)
      = T (ix4 b t ⟨j.1 / 256, by omega⟩ ⟨j.1 % 256, by omega⟩) := by
  pointwise

theorem lead_at (p : FVec Ideal S2x8448x8x64 .f32) (b : Fin 2) (t : Fin 256) (h : Fin 8) (j : Fin 64) :
    extractStridedSlice S2x256x8x64 ![0, 0, 0, 0] p slices_S2x8448x8x64_S2x256x8x64_0_0_0_0 (ix4 b t h j) = p (ix4 b ⟨t.1, by omega⟩ h j) := by
  pointwise

theorem leadK_at (k : FVec Ideal S2x8448x64 .f32) (b : Fin 2) (t : Fin 256) (j : Fin 64) :
    extractStridedSlice S2x256x64 ![0, 0, 0] k slices_S2x8448x64_S2x256x64_0_0_0 (ix3 b t j) = k (ix3 b ⟨t.1, by omega⟩ j) := by
  pointwise

theorem kpe_at (b : Fin 2) (t : Fin 8448) (j : Fin 64) : kpe z (ix3 b t j) = z (ix3 b t ⟨384 + j.1, by omega⟩) := by
  pointwise [kpe]

theorem one_word : Ideal.ofBits .f32 0x3F800000#32 = 1 := by
  simp [Ideal.ofBits, Ideal.ieee]
  rw [← EReal.coe_mul]
  norm_num

theorem zero_word : Ideal.ofBits .f32 0x00000000#32 = 0 := by
  simp [Ideal.ofBits, Ideal.ieee]

/-- A sum at one entry. -/
theorem add_at {s : Shape} (x y : FVec Ideal s .f32) (i : s.Idx) (a b : EReal) (hx : x i = a) (hy : y i = b) :
    addf x y i = a + b := by
  subst hx hy
  rfl

/-- One entry of the rotary queries. -/
theorem rotQ_at (b : Fin 2) (t : Fin 8448) (h : Fin 8) (j : Fin 64) : rotQ (peR z gq wu) (ix4 b t h j)
    = pe z gq wu b t h j * cosT t j + pe z gq wu b t h (partner j) * sinT t j := by
  unfold rotQ cosT sinT
  refine (seg4_at _ _ b t h j).trans ?_
  by_cases hh : t.1 < 256
  · rw [dif_pos hh, dif_pos hh, dif_pos hh, mul_one, mul_zero, add_zero]
    exact (lead_at _ b _ h j).trans (peR_at z gq wu b t h j)
  · rw [dif_neg hh, dif_neg hh, dif_neg hh]
    have ht : (⟨256 + (t.1 - 256), by omega⟩ : Fin 8448) = t := Fin.ext (by simp only [Fin.val_mk]; omega)
    have a : ∀ j : Fin 64, peR z gq wu (ix4 b ⟨256 + (t.1 - 256), by omega⟩ h j) = pe z gq wu b t h j :=
      fun j => (congrArg (fun t => peR z gq wu (ix4 b t h j)) ht).trans (peR_at z gq wu b t h j)
    refine add_at _ _ _ _ _ ((turnC_at _ b _ h j).trans ?_) ((turnS_at _ b _ h j).trans ?_)
    · exact congrArg (· * _) (a j)
    · exact congrArg (· * _) (a (partner j))

/-- The reference's three results. -/
theorem result_Q : outQ z gq wn wu = resultQ z gq wn wu := by
  funext i
  have hi : i = ix3 (i 0) (i 1) (i 2) := by funext a; fin_cases a <;> rfl
  have hc : (i 2).1 < 2048 := (i 2).isLt
  rw [hi]
  unfold outQ
  refine (flat_at _ (i 0) (i 1) (i 2)).trans ?_
  show _ = query z gq wn wu (i 0) (i 1) ⟨(i 2).1 / 256, by omega⟩ ⟨(i 2).1 % 256, by omega⟩
  unfold query
  refine congrArg (· * scale) ((queries_at _ _ (i 0) (i 1) _ _).trans ?_)
  dsimp only
  by_cases h : (i 2).1 % 256 < 128
  · refine (dif_pos h).trans (Eq.trans ?_ (dif_pos h).symm)
    exact nopeR_at z gq wn _ _ _ _
  · refine (dif_neg h).trans (Eq.trans ?_ (dif_neg h).symm)
    exact rotQ_at z gq wu _ _ _ _

theorem result_K : outK z gk = resultK z gk := by
  funext i
  have hi : i = ix3 (i 0) (i 1) (i 2) := by funext a; fin_cases a <;> rfl
  rw [hi]
  unfold outK
  refine (keys_at _ _ _ (i 0) (i 1) (i 2)).trans ?_
  show _ = key z gk (i 0) (i 1) (i 2)
  unfold key
  by_cases h : (i 2).1 < 128
  · refine (dif_pos h).trans (Eq.trans ?_ (dif_pos h).symm)
    exact vn_at z gk _ _ _
  refine (dif_neg h).trans (Eq.trans ?_ (dif_neg h).symm)
  have ht : ∀ _ : ¬(i 1).1 < 256, (⟨256 + ((i 1).1 - 256), by have : (i 1).1 < 8448 := (i 1).isLt; omega⟩ : Fin 8448) = i 1 :=
    fun hh => Fin.ext (by simp only [Fin.val_mk]; omega)
  by_cases h' : (i 2).1 < 192
  · refine (if_pos h').trans (Eq.trans ?_ (if_pos h').symm)
    refine (seg3_at _ _ _ _ _).trans ?_
    unfold cosT
    by_cases hh : (i 1).1 < 256
    · refine (dif_pos hh).trans ?_
      rw [dif_pos hh, mul_one]
      exact (leadK_at _ _ _ _).trans (kpe_at z _ _ _)
    · refine (dif_neg hh).trans ?_
      rw [dif_neg hh]
      refine (cosK_at _ _ _ _).trans (congrArg (· * _) ?_)
      exact (congrArg (fun t => kpe z (ix3 (i 0) t (rot (i 2).1))) (ht hh)).trans (kpe_at z _ _ _)
  · refine (if_neg h').trans (Eq.trans ?_ (if_neg h').symm)
    refine (seg3_at _ _ _ _ _).trans ?_
    unfold sinT
    by_cases hh : (i 1).1 < 256
    · refine (dif_pos hh).trans ?_
      rw [dif_pos hh, mul_zero]
      exact zero_word
    · refine (dif_neg hh).trans ?_
      rw [dif_neg hh]
      refine (sinK_at _ _ _ _).trans (congrArg (· * _) ?_)
      exact (congrArg (fun t => kpe z (ix3 (i 0) t (partner (rot (i 2).1)))) (ht hh)).trans (kpe_at z _ _ _)

theorem result_V : outV z gk = resultV z gk := by
  funext i
  have hi : i = ix3 (i 0) (i 1) (i 2) := by funext a; fin_cases a <;> rfl
  rw [hi]
  unfold outV
  refine (values_at _ _ _ (i 0) (i 1) (i 2)).trans ?_
  show _ = value z gk (i 0) (i 1) (i 2)
  unfold value
  by_cases h : (i 2).1 < 128
  · refine (dif_pos h).trans (Eq.trans ?_ (dif_pos h).symm)
    exact vn_at z gk _ _ _
  refine (dif_neg h).trans (Eq.trans ?_ (dif_neg h).symm)
  by_cases h' : (i 2).1 = 128
  · refine (dif_pos h').trans (Eq.trans ?_ (if_pos h').symm)
    exact one_word
  · refine (dif_neg h').trans (Eq.trans ?_ (if_neg h').symm)
    exact zero_word

variable (m : (ℓ : Loc nD τ sig) → Buf (Elt Ideal) ℓ) (c : Dev nD)

/-- The arrays the program is given. -/
abbrev zA : ZArr := m ((c.tc : Thread nD τ).loc main_arg0)
abbrev gqA : QNormArr := m ((c.tc : Thread nD τ).loc main_arg1)
abbrev gkA : KNormArr := m ((c.tc : Thread nD τ).loc main_arg2)
abbrev wnA : FoldArr := m ((c.tc : Thread nD τ).loc main_arg3)
abbrev wuA : UpArr := m ((c.tc : Thread nD τ).loc main_arg4)

/-- The arrays the reference leaves. -/
theorem array_Q : Value.res_main_v132 (F := Ideal) m c = resultQ (zA m c) (gqA m c) (wnA m c) (wuA m c) :=
  Eq.trans (by unfold Value.res_main_v132; rfl) (result_Q (zA m c) (gqA m c) (wnA m c) (wuA m c))

theorem array_K : Value.res_main_v133 (F := Ideal) m c = resultK (zA m c) (gkA m c) :=
  Eq.trans (by unfold Value.res_main_v133; rfl) (result_K (zA m c) (gkA m c))

end Cert.HeadsReferenceIdeal.Hd

end
-- ==== Proof.lean ====
/-
  The claims, assembled: the programs run to the end and leave their arguments as they were, the ideal reading of a
  kernel is the kernel's own text, over finite queries and keys the attention's kernel and its reference leave the same
  array, the attention of `Proof/Attention.lean`, the projection's kernel and its reference the same two, those of
  `Proof/Project.lean`, the merge's kernel and its reference the same two, those of `Proof/Merged.lean`, and the kernel
  of the attention's inputs and its reference the same three, those of `Proof/Heads.lean`.
-/
module

public import proofs.«01_k».proof.Defs
public import proofs.«01_k».proof.Proof.Gen.Kernel.Frame
public import proofs.«01_k».proof.Proof.Array
public import proofs.«01_k».proof.Proof.Reference
public import proofs.«01_k».proof.Proof.Finite
public import proofs.«01_k».proof.Proof.Gen.InProj.Frame
public import proofs.«01_k».proof.Proof.ProjectArray
public import proofs.«01_k».proof.Proof.ProjectReference
public import proofs.«01_k».proof.Proof.Gen.Merge.Frame
public import proofs.«01_k».proof.Proof.MergedArray
public import proofs.«01_k».proof.Proof.MergedReference
public import proofs.«01_k».proof.Proof.Gen.Heads.Frame
public import proofs.«01_k».proof.Proof.Gen.HeadsIdeal.Value
public import proofs.«01_k».proof.Proof.Gen.HeadsIdeal.Frame
public import proofs.«01_k».proof.Proof.Gen.HeadsReferenceIdeal.Run
public import proofs.«01_k».proof.Proof.HeadsArray
public import proofs.«01_k».proof.Proof.HeadsReference
public import Idealize.ShloMosaic.Adequacy
public import Idealize.ShloMosaic.Init

@[expose] public section

noncomputable section

namespace Cert.Proof

open Idealize.ShloMosaic Idealize.SL.Sem

/-- The reference's run of `Value.run` : its arguments are kept, and it has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The same of the projection's reference. -/
theorem project_reference_frame (m : (ℓ : Loc Cert.InProjReferenceIdeal.nD Cert.InProjReferenceIdeal.τ Cert.InProjReferenceIdeal.sig) → Buf (Elt Ideal) ℓ)
    (g : Dev Cert.InProjReferenceIdeal.nD → PrngReg) :
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0) :=
  (θ_run _ _ _).mono (fun r h => ⟨fun c => (h c).2.2, sem_eq_zero_of_no_sems (by decide) r.2⟩) (Cert.InProjReferenceIdeal.Value.run m g)

/-- The same of the merge's reference. -/
theorem merge_reference_frame (m : (ℓ : Loc Cert.MergeReferenceIdeal.nD Cert.MergeReferenceIdeal.τ Cert.MergeReferenceIdeal.sig) → Buf (Elt Ideal) ℓ)
    (g : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0) :=
  (θ_run _ _ _).mono (fun r h => ⟨fun c => (h c).2.2, sem_eq_zero_of_no_sems (by decide) r.2⟩) (Cert.MergeReferenceIdeal.Value.run m g)

theorem heads_reference_frame (m : (ℓ : Loc Cert.HeadsReferenceIdeal.nD Cert.HeadsReferenceIdeal.τ Cert.HeadsReferenceIdeal.sig) → Buf (Elt Ideal) ℓ)
    (g : Dev Cert.HeadsReferenceIdeal.nD → PrngReg) :
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4))
      ∧ r.2.sem = fun _ => 0) :=
  (θ_run _ _ _).mono (fun r h => ⟨fun c => (h c).2.2.2, sem_eq_zero_of_no_sems (by decide) r.2⟩) (Cert.HeadsReferenceIdeal.Value.run m g)

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.Merge.Gen.facts, Cert.MergeIdeal.Gen.facts, Cert.MergeReferenceIdeal.Gen.facts,
  Cert.Heads.Gen.facts, Cert.HeadsIdeal.Gen.facts, Cert.HeadsReferenceIdeal.Gen.facts, Cert.Pre_finite.facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.InProj.Gen.frame m g, fun m g _ => Cert.InProjIdeal.Gen.frame m g, fun m g _ => project_reference_frame m g,
  fun m g _ => Cert.Merge.Gen.frame m g, fun m g _ => Cert.MergeIdeal.Gen.frame m g, fun m g _ => merge_reference_frame m g,
  fun m g _ => Cert.Heads.Gen.frame m g, fun m g _ => Cert.HeadsIdeal.Gen.frame m g, fun m g _ => heads_reference_frame m g, trivial,
  fun m g m' g' hpre hargs => ⟨fun c => Cert.Attention.result (Cert.KernelIdeal.Att.qA m c) (Cert.KernelIdeal.Att.kA m c),
    (θ_run _ _ _).mono (fun r h c => ⟨(h c).1.trans
        (Cert.KernelIdeal.Att.array m c (Cert.Pre_finite.reals _ _ (hpre c)).1 (Cert.Pre_finite.reals _ _ (hpre c)).2), (h c).2⟩)
      (Cert.KernelIdeal.Value.run_blocks m g),
    (θ_run _ _ _).mono (fun r h c => ⟨(h c).1.trans (by
        have e0 : Cert.ReferenceIdeal.Att.qA m' c = Cert.KernelIdeal.Att.qA m c := (hargs c).1
        have e1 : Cert.ReferenceIdeal.Att.kA m' c = Cert.KernelIdeal.Att.kA m c := (hargs c).2
        obtain ⟨hq, hk⟩ := Cert.Pre_finite.reals _ _ (hpre c)
        show _ = Cert.Attention.result (Cert.KernelIdeal.Att.qA m c) (Cert.KernelIdeal.Att.kA m c)
        rw [← e0, ← e1]
        exact Cert.ReferenceIdeal.Att.array m' c (e0 ▸ hq) (e1 ▸ hk)), (h c).2⟩)
      (Cert.ReferenceIdeal.Value.run m' g')⟩, trivial,
  fun m g m' g' _ hargs => ⟨fun c => Cert.Project.resultA (Cert.InProjIdeal.Prj.ctxA m c) (Cert.InProjIdeal.Prj.latA m c)
      (Cert.InProjIdeal.Prj.modA m c) (Cert.InProjIdeal.Prj.normA m c) (Cert.InProjIdeal.Prj.wA m c),
    fun c => Cert.Project.resultB (Cert.InProjIdeal.Prj.ctxA m c) (Cert.InProjIdeal.Prj.latA m c)
      (Cert.InProjIdeal.Prj.modA m c) (Cert.InProjIdeal.Prj.normA m c) (Cert.InProjIdeal.Prj.wA m c),
    (θ_run _ _ _).mono (fun r h c => ⟨(h c).1.trans (Cert.InProjIdeal.Prj.array_A m c),
        (h c).2.1.trans (Cert.InProjIdeal.Prj.array_B m c), (h c).2.2⟩)
      (Cert.InProjIdeal.Value.run_blocks m g),
    (θ_run _ _ _).mono (fun r h c => by
        have e0 : Cert.InProjReferenceIdeal.Prj.ctxA m' c = Cert.InProjIdeal.Prj.ctxA m c := (hargs c).1
        have e1 : Cert.InProjReferenceIdeal.Prj.latA m' c = Cert.InProjIdeal.Prj.latA m c := (hargs c).2.1
        have e2 : Cert.InProjReferenceIdeal.Prj.modA m' c = Cert.InProjIdeal.Prj.modA m c := (hargs c).2.2.1
        have e3 : Cert.InProjReferenceIdeal.Prj.normA m' c = Cert.InProjIdeal.Prj.normA m c := (hargs c).2.2.2.1
        have e4 : Cert.InProjReferenceIdeal.Prj.wA m' c = Cert.InProjIdeal.Prj.wA m c := (hargs c).2.2.2.2
        refine ⟨(h c).1.trans ?_, (h c).2.1.trans ?_, (h c).2.2⟩
        · show _ = Cert.Project.resultA (Cert.InProjIdeal.Prj.ctxA m c) (Cert.InProjIdeal.Prj.latA m c)
            (Cert.InProjIdeal.Prj.modA m c) (Cert.InProjIdeal.Prj.normA m c) (Cert.InProjIdeal.Prj.wA m c)
          rw [← e0, ← e1, ← e2, ← e3, ← e4]
          exact Cert.InProjReferenceIdeal.Prj.array_A m' c
        · show _ = Cert.Project.resultB (Cert.InProjIdeal.Prj.ctxA m c) (Cert.InProjIdeal.Prj.latA m c)
            (Cert.InProjIdeal.Prj.modA m c) (Cert.InProjIdeal.Prj.normA m c) (Cert.InProjIdeal.Prj.wA m c)
          rw [← e0, ← e1, ← e2, ← e3, ← e4]
          exact Cert.InProjReferenceIdeal.Prj.result_B _ _ _ _ _)
      (Cert.InProjReferenceIdeal.Value.run m' g')⟩, trivial,
  fun m g m' g' _ hargs => ⟨fun c => Cert.Merged.resultX (Cert.MergeIdeal.Mrg.oA m c) (Cert.MergeIdeal.Mrg.hfA m c) (Cert.MergeIdeal.Mrg.hbA m c) (Cert.MergeIdeal.Mrg.zbA m c)
      (Cert.MergeIdeal.Mrg.ctxA m c) (Cert.MergeIdeal.Mrg.latA m c) (Cert.MergeIdeal.Mrg.modA m c) (Cert.MergeIdeal.Mrg.bgA m c)
      (Cert.MergeIdeal.Mrg.woA m c) (Cert.MergeIdeal.Mrg.wlA m c) (Cert.MergeIdeal.Mrg.wA m c),
    fun c => Cert.Merged.resultH (Cert.MergeIdeal.Mrg.oA m c) (Cert.MergeIdeal.Mrg.hfA m c) (Cert.MergeIdeal.Mrg.hbA m c) (Cert.MergeIdeal.Mrg.zbA m c)
      (Cert.MergeIdeal.Mrg.ctxA m c) (Cert.MergeIdeal.Mrg.latA m c) (Cert.MergeIdeal.Mrg.modA m c) (Cert.MergeIdeal.Mrg.bgA m c)
      (Cert.MergeIdeal.Mrg.normA m c) (Cert.MergeIdeal.Mrg.woA m c) (Cert.MergeIdeal.Mrg.wlA m c) (Cert.MergeIdeal.Mrg.wA m c),
    (θ_run _ _ _).mono (fun r h c => ⟨(h c).1.trans (Cert.MergeIdeal.Mrg.array_X m c),
        (h c).2.1.trans (Cert.MergeIdeal.Mrg.array_H m c), (h c).2.2.2.2.2.2⟩)
      (Cert.MergeIdeal.Value.run_blocks m g),
    (θ_run _ _ _).mono (fun r h c => by
        have e0 : Cert.MergeReferenceIdeal.Mrg.oA m' c = Cert.MergeIdeal.Mrg.oA m c := (hargs c).1
        have e1 : Cert.MergeReferenceIdeal.Mrg.hfA m' c = Cert.MergeIdeal.Mrg.hfA m c := (hargs c).2.1
        have e2 : Cert.MergeReferenceIdeal.Mrg.hbA m' c = Cert.MergeIdeal.Mrg.hbA m c := (hargs c).2.2.1
        have e3 : Cert.MergeReferenceIdeal.Mrg.zbA m' c = Cert.MergeIdeal.Mrg.zbA m c := (hargs c).2.2.2.1
        have e4 : Cert.MergeReferenceIdeal.Mrg.ctxA m' c = Cert.MergeIdeal.Mrg.ctxA m c := (hargs c).2.2.2.2.1
        have e5 : Cert.MergeReferenceIdeal.Mrg.latA m' c = Cert.MergeIdeal.Mrg.latA m c := (hargs c).2.2.2.2.2.1
        have e6 : Cert.MergeReferenceIdeal.Mrg.modA m' c = Cert.MergeIdeal.Mrg.modA m c := (hargs c).2.2.2.2.2.2.1
        have e7 : Cert.MergeReferenceIdeal.Mrg.bgA m' c = Cert.MergeIdeal.Mrg.bgA m c := (hargs c).2.2.2.2.2.2.2.1
        have e8 : Cert.MergeReferenceIdeal.Mrg.normA m' c = Cert.MergeIdeal.Mrg.normA m c := (hargs c).2.2.2.2.2.2.2.2.1
        have e9 : Cert.MergeReferenceIdeal.Mrg.woA m' c = Cert.MergeIdeal.Mrg.woA m c := (hargs c).2.2.2.2.2.2.2.2.2.1
        have e10 : Cert.MergeReferenceIdeal.Mrg.wlA m' c = Cert.MergeIdeal.Mrg.wlA m c := (hargs c).2.2.2.2.2.2.2.2.2.2.1
        have e11 : Cert.MergeReferenceIdeal.Mrg.wA m' c = Cert.MergeIdeal.Mrg.wA m c := (hargs c).2.2.2.2.2.2.2.2.2.2.2.1
        refine ⟨(h c).1.trans ?_, (h c).2.1.trans ?_, (h c).2.2⟩
        · show _ = Cert.Merged.resultX (Cert.MergeIdeal.Mrg.oA m c) (Cert.MergeIdeal.Mrg.hfA m c) (Cert.MergeIdeal.Mrg.hbA m c) (Cert.MergeIdeal.Mrg.zbA m c)
            (Cert.MergeIdeal.Mrg.ctxA m c) (Cert.MergeIdeal.Mrg.latA m c) (Cert.MergeIdeal.Mrg.modA m c) (Cert.MergeIdeal.Mrg.bgA m c)
            (Cert.MergeIdeal.Mrg.woA m c) (Cert.MergeIdeal.Mrg.wlA m c) (Cert.MergeIdeal.Mrg.wA m c)
          rw [← e0, ← e1, ← e2, ← e3, ← e4, ← e5, ← e6, ← e7, ← e9, ← e10, ← e11]
          exact Cert.MergeReferenceIdeal.Mrg.array_X m' c
        · show _ = Cert.Merged.resultH (Cert.MergeIdeal.Mrg.oA m c) (Cert.MergeIdeal.Mrg.hfA m c) (Cert.MergeIdeal.Mrg.hbA m c) (Cert.MergeIdeal.Mrg.zbA m c)
            (Cert.MergeIdeal.Mrg.ctxA m c) (Cert.MergeIdeal.Mrg.latA m c) (Cert.MergeIdeal.Mrg.modA m c) (Cert.MergeIdeal.Mrg.bgA m c)
            (Cert.MergeIdeal.Mrg.normA m c) (Cert.MergeIdeal.Mrg.woA m c) (Cert.MergeIdeal.Mrg.wlA m c) (Cert.MergeIdeal.Mrg.wA m c)
          rw [← e0, ← e1, ← e2, ← e3, ← e4, ← e5, ← e6, ← e7, ← e8, ← e9, ← e10, ← e11]
          exact Cert.MergeReferenceIdeal.Mrg.array_H m' c)
      (Cert.MergeReferenceIdeal.Value.run m' g')⟩, trivial,
  fun m g m' g' _ hargs => ⟨fun c => Cert.Heads.resultQ (Cert.HeadsIdeal.Hd.zA m c) (Cert.HeadsIdeal.Hd.gqA m c) (Cert.HeadsIdeal.Hd.wnA m c) (Cert.HeadsIdeal.Hd.wuA m c),
    fun c => Cert.Heads.resultK (Cert.HeadsIdeal.Hd.zA m c) (Cert.HeadsIdeal.Hd.gkA m c), fun c => Cert.Heads.resultV (Cert.HeadsIdeal.Hd.zA m c) (Cert.HeadsIdeal.Hd.gkA m c),
    (θ_run _ _ _).mono (fun r h c => ⟨(h c).1.trans (Cert.HeadsIdeal.Hd.array_Q m c), (h c).2.1.trans (Cert.HeadsIdeal.Hd.array_K m c),
        (h c).2.2.1.trans (Cert.HeadsIdeal.Hd.array_V m c), (h c).2.2.2⟩)
      (Cert.HeadsIdeal.Value.run_blocks m g),
    (θ_run _ _ _).mono (fun r h c => by
        have e0 : Cert.HeadsReferenceIdeal.Hd.zA m' c = Cert.HeadsIdeal.Hd.zA m c := (hargs c).1
        have e1 : Cert.HeadsReferenceIdeal.Hd.gqA m' c = Cert.HeadsIdeal.Hd.gqA m c := (hargs c).2.1
        have e2 : Cert.HeadsReferenceIdeal.Hd.gkA m' c = Cert.HeadsIdeal.Hd.gkA m c := (hargs c).2.2.1
        have e3 : Cert.HeadsReferenceIdeal.Hd.wnA m' c = Cert.HeadsIdeal.Hd.wnA m c := (hargs c).2.2.2.1
        have e4 : Cert.HeadsReferenceIdeal.Hd.wuA m' c = Cert.HeadsIdeal.Hd.wuA m c := (hargs c).2.2.2.2
        refine ⟨(h c).1.trans ?_, (h c).2.1.trans ?_, (h c).2.2.1.trans ?_, (h c).2.2.2⟩
        · show _ = Cert.Heads.resultQ (Cert.HeadsIdeal.Hd.zA m c) (Cert.HeadsIdeal.Hd.gqA m c) (Cert.HeadsIdeal.Hd.wnA m c) (Cert.HeadsIdeal.Hd.wuA m c)
          rw [← e0, ← e1, ← e3, ← e4]
          exact Cert.HeadsReferenceIdeal.Hd.array_Q m' c
        · show _ = Cert.Heads.resultK (Cert.HeadsIdeal.Hd.zA m c) (Cert.HeadsIdeal.Hd.gkA m c)
          rw [← e0, ← e2]
          exact Cert.HeadsReferenceIdeal.Hd.array_K m' c
        · show _ = Cert.Heads.resultV (Cert.HeadsIdeal.Hd.zA m c) (Cert.HeadsIdeal.Hd.gkA m c)
          rw [← e0, ← e2]
          exact Cert.HeadsReferenceIdeal.Hd.result_V (Cert.HeadsReferenceIdeal.Hd.zA m' c) (Cert.HeadsReferenceIdeal.Hd.gkA m' c))
      (Cert.HeadsReferenceIdeal.Value.run m' g')⟩⟩

end Cert.Proof

end
